-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelMemory (m : (ℓ : Loc Cert.KernelMemory.nD Cert.KernelMemory.τ Cert.KernelMemory.sig) → Buf (Elt Bits) ℓ) : Prop :=
  True

def Pre_KernelMemoryIdeal (m : (ℓ : Loc Cert.KernelMemoryIdeal.nD Cert.KernelMemoryIdeal.τ Cert.KernelMemoryIdeal.sig) → Buf (Elt Ideal) ℓ) : Prop :=
  True

def Pre_ReferenceMemoryIdeal (m : (ℓ : Loc Cert.ReferenceMemoryIdeal.nD Cert.ReferenceMemoryIdeal.τ Cert.ReferenceMemoryIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelMemory [hKernelMemory : Cert.KernelMemory.Facts] : Prop :=
  ∀ (m : (ℓ : Loc Cert.KernelMemory.nD Cert.KernelMemory.τ Cert.KernelMemory.sig) → Buf (Elt Bits) ℓ) (g : Dev Cert.KernelMemory.nD → PrngReg), Pre_KernelMemory m →
    θ_run (Cert.KernelMemory.defs (F := Bits)) (onTc (τ := Cert.KernelMemory.τ) (Cert.KernelMemory.main (F := Bits))) ⟨m, fun _ => 0, g⟩ (fun r => (∀ c : Dev Cert.KernelMemory.nD,
      r.2.mem ((c.tc : Thread Cert.KernelMemory.nD Cert.KernelMemory.τ).loc Cert.KernelMemory.main_arg0) = m ((c.tc : Thread Cert.KernelMemory.nD Cert.KernelMemory.τ).loc Cert.KernelMemory.main_arg0)
      ∧ r.2.mem ((c.tc : Thread Cert.KernelMemory.nD Cert.KernelMemory.τ).loc Cert.KernelMemory.main_arg1) = m ((c.tc : Thread Cert.KernelMemory.nD Cert.KernelMemory.τ).loc Cert.KernelMemory.main_arg1)
      ∧ r.2.mem ((c.tc : Thread Cert.KernelMemory.nD Cert.KernelMemory.τ).loc Cert.KernelMemory.main_arg2) = m ((c.tc : Thread Cert.KernelMemory.nD Cert.KernelMemory.τ).loc Cert.KernelMemory.main_arg2))
      ∧ r.2.sem = fun _ => 0)

def quiescent_KernelMemoryIdeal [hKernelMemoryIdeal : Cert.KernelMemoryIdeal.Facts] : Prop :=
  ∀ (m : (ℓ : Loc Cert.KernelMemoryIdeal.nD Cert.KernelMemoryIdeal.τ Cert.KernelMemoryIdeal.sig) → Buf (Elt Ideal) ℓ) (g : Dev Cert.KernelMemoryIdeal.nD → PrngReg), Pre_KernelMemoryIdeal m →
    θ_run (Cert.KernelMemoryIdeal.defs (F := Ideal)) (onTc (τ := Cert.KernelMemoryIdeal.τ) (Cert.KernelMemoryIdeal.main (F := Ideal))) ⟨m, fun _ => 0, g⟩ (fun r => (∀ c : Dev Cert.KernelMemoryIdeal.nD,
      r.2.mem ((c.tc : Thread Cert.KernelMemoryIdeal.nD Cert.KernelMemoryIdeal.τ).loc Cert.KernelMemoryIdeal.main_arg0) = m ((c.tc : Thread Cert.KernelMemoryIdeal.nD Cert.KernelMemoryIdeal.τ).loc Cert.KernelMemoryIdeal.main_arg0)
      ∧ r.2.mem ((c.tc : Thread Cert.KernelMemoryIdeal.nD Cert.KernelMemoryIdeal.τ).loc Cert.KernelMemoryIdeal.main_arg1) = m ((c.tc : Thread Cert.KernelMemoryIdeal.nD Cert.KernelMemoryIdeal.τ).loc Cert.KernelMemoryIdeal.main_arg1)
      ∧ r.2.mem ((c.tc : Thread Cert.KernelMemoryIdeal.nD Cert.KernelMemoryIdeal.τ).loc Cert.KernelMemoryIdeal.main_arg2) = m ((c.tc : Thread Cert.KernelMemoryIdeal.nD Cert.KernelMemoryIdeal.τ).loc Cert.KernelMemoryIdeal.main_arg2))
      ∧ r.2.sem = fun _ => 0)

def quiescent_ReferenceMemoryIdeal [hReferenceMemoryIdeal : Cert.ReferenceMemoryIdeal.Facts] : Prop :=
  ∀ (m : (ℓ : Loc Cert.ReferenceMemoryIdeal.nD Cert.ReferenceMemoryIdeal.τ Cert.ReferenceMemoryIdeal.sig) → Buf (Elt Ideal) ℓ) (g : Dev Cert.ReferenceMemoryIdeal.nD → PrngReg), Pre_ReferenceMemoryIdeal m →
    θ_run (Cert.ReferenceMemoryIdeal.defs (F := Ideal)) (onTc (τ := Cert.ReferenceMemoryIdeal.τ) (Cert.ReferenceMemoryIdeal.main (F := Ideal))) ⟨m, fun _ => 0, g⟩ (fun r => (∀ c : Dev Cert.ReferenceMemoryIdeal.nD,
      r.2.mem ((c.tc : Thread Cert.ReferenceMemoryIdeal.nD Cert.ReferenceMemoryIdeal.τ).loc Cert.ReferenceMemoryIdeal.main_arg0) = m ((c.tc : Thread Cert.ReferenceMemoryIdeal.nD Cert.ReferenceMemoryIdeal.τ).loc Cert.ReferenceMemoryIdeal.main_arg0)
      ∧ r.2.mem ((c.tc : Thread Cert.ReferenceMemoryIdeal.nD Cert.ReferenceMemoryIdeal.τ).loc Cert.ReferenceMemoryIdeal.main_arg1) = m ((c.tc : Thread Cert.ReferenceMemoryIdeal.nD Cert.ReferenceMemoryIdeal.τ).loc Cert.ReferenceMemoryIdeal.main_arg1)
      ∧ r.2.mem ((c.tc : Thread Cert.ReferenceMemoryIdeal.nD Cert.ReferenceMemoryIdeal.τ).loc Cert.ReferenceMemoryIdeal.main_arg2) = m ((c.tc : Thread Cert.ReferenceMemoryIdeal.nD Cert.ReferenceMemoryIdeal.τ).loc Cert.ReferenceMemoryIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9))
      ∧ r.2.sem = fun _ => 0)

def preserves_Kernel_KernelIdeal : Prop :=
  IdealRules.named_const.Statement Cert.KernelIdeal.κ "no_limit" .f32 0x42FC0000#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelMemory_KernelMemoryIdeal : Prop :=
  True

def algebraic_KernelMemoryIdeal_ReferenceMemoryIdeal [hKernelMemoryIdeal : Cert.KernelMemoryIdeal.Facts] [hReferenceMemoryIdeal : Cert.ReferenceMemoryIdeal.Facts] : Prop :=
  ∀ (m : (ℓ : Loc Cert.KernelMemoryIdeal.nD Cert.KernelMemoryIdeal.τ Cert.KernelMemoryIdeal.sig) → Buf (Elt Ideal) ℓ) (g : Dev Cert.KernelMemoryIdeal.nD → PrngReg)
    (m' : (ℓ : Loc Cert.ReferenceMemoryIdeal.nD Cert.ReferenceMemoryIdeal.τ Cert.ReferenceMemoryIdeal.sig) → Buf (Elt Ideal) ℓ) (g' : Dev Cert.ReferenceMemoryIdeal.nD → PrngReg), Pre_KernelMemoryIdeal m →
    (∀ c : Dev Cert.KernelMemoryIdeal.nD,
      m' ((c.tc : Thread Cert.ReferenceMemoryIdeal.nD Cert.ReferenceMemoryIdeal.τ).loc Cert.ReferenceMemoryIdeal.main_arg0) = m ((c.tc : Thread Cert.KernelMemoryIdeal.nD Cert.KernelMemoryIdeal.τ).loc Cert.KernelMemoryIdeal.main_arg0)
      ∧ m' ((c.tc : Thread Cert.ReferenceMemoryIdeal.nD Cert.ReferenceMemoryIdeal.τ).loc Cert.ReferenceMemoryIdeal.main_arg1) = m ((c.tc : Thread Cert.KernelMemoryIdeal.nD Cert.KernelMemoryIdeal.τ).loc Cert.KernelMemoryIdeal.main_arg1)
      ∧ m' ((c.tc : Thread Cert.ReferenceMemoryIdeal.nD Cert.ReferenceMemoryIdeal.τ).loc Cert.ReferenceMemoryIdeal.main_arg2) = m ((c.tc : Thread Cert.KernelMemoryIdeal.nD Cert.KernelMemoryIdeal.τ).loc Cert.KernelMemoryIdeal.main_arg2)) →
    ∃ (v0 : (c : Dev Cert.KernelMemoryIdeal.nD) → Buf (Elt Ideal) ((c.tc : Thread Cert.KernelMemoryIdeal.nD Cert.KernelMemoryIdeal.τ).loc Cert.KernelMemoryIdeal.main_v5)) (v1 : (c : Dev Cert.KernelMemoryIdeal.nD) → Buf (Elt Ideal) ((c.tc : Thread Cert.KernelMemoryIdeal.nD Cert.KernelMemoryIdeal.τ).loc Cert.KernelMemoryIdeal.main_v7)),
      θ_run (Cert.KernelMemoryIdeal.defs (F := Ideal)) (onTc (τ := Cert.KernelMemoryIdeal.τ) (Cert.KernelMemoryIdeal.main (F := Ideal))) ⟨m, fun _ => 0, g⟩ (fun r => ∀ c : Dev Cert.KernelMemoryIdeal.nD,
          r.2.mem ((c.tc : Thread Cert.KernelMemoryIdeal.nD Cert.KernelMemoryIdeal.τ).loc Cert.KernelMemoryIdeal.main_v5) = v0 c
          ∧ r.2.mem ((c.tc : Thread Cert.KernelMemoryIdeal.nD Cert.KernelMemoryIdeal.τ).loc Cert.KernelMemoryIdeal.main_v7) = v1 c
          ∧ r.2.mem ((c.tc : Thread Cert.KernelMemoryIdeal.nD Cert.KernelMemoryIdeal.τ).loc Cert.KernelMemoryIdeal.main_arg0) = m ((c.tc : Thread Cert.KernelMemoryIdeal.nD Cert.KernelMemoryIdeal.τ).loc Cert.KernelMemoryIdeal.main_arg0)
          ∧ r.2.mem ((c.tc : Thread Cert.KernelMemoryIdeal.nD Cert.KernelMemoryIdeal.τ).loc Cert.KernelMemoryIdeal.main_arg1) = m ((c.tc : Thread Cert.KernelMemoryIdeal.nD Cert.KernelMemoryIdeal.τ).loc Cert.KernelMemoryIdeal.main_arg1)
          ∧ r.2.mem ((c.tc : Thread Cert.KernelMemoryIdeal.nD Cert.KernelMemoryIdeal.τ).loc Cert.KernelMemoryIdeal.main_arg2) = m ((c.tc : Thread Cert.KernelMemoryIdeal.nD Cert.KernelMemoryIdeal.τ).loc Cert.KernelMemoryIdeal.main_arg2))
      ∧ θ_run (Cert.ReferenceMemoryIdeal.defs (F := Ideal)) (onTc (τ := Cert.ReferenceMemoryIdeal.τ) (Cert.ReferenceMemoryIdeal.main (F := Ideal))) ⟨m', fun _ => 0, g'⟩ (fun r => ∀ c : Dev Cert.ReferenceMemoryIdeal.nD,
          r.2.mem ((c.tc : Thread Cert.ReferenceMemoryIdeal.nD Cert.ReferenceMemoryIdeal.τ).loc Cert.ReferenceMemoryIdeal.main_v46) = v0 c
          ∧ r.2.mem ((c.tc : Thread Cert.ReferenceMemoryIdeal.nD Cert.ReferenceMemoryIdeal.τ).loc Cert.ReferenceMemoryIdeal.main_v49) = v1 c
          ∧ r.2.mem ((c.tc : Thread Cert.ReferenceMemoryIdeal.nD Cert.ReferenceMemoryIdeal.τ).loc Cert.ReferenceMemoryIdeal.main_arg0) = m' ((c.tc : Thread Cert.ReferenceMemoryIdeal.nD Cert.ReferenceMemoryIdeal.τ).loc Cert.ReferenceMemoryIdeal.main_arg0)
          ∧ r.2.mem ((c.tc : Thread Cert.ReferenceMemoryIdeal.nD Cert.ReferenceMemoryIdeal.τ).loc Cert.ReferenceMemoryIdeal.main_arg1) = m' ((c.tc : Thread Cert.ReferenceMemoryIdeal.nD Cert.ReferenceMemoryIdeal.τ).loc Cert.ReferenceMemoryIdeal.main_arg1)
          ∧ r.2.mem ((c.tc : Thread Cert.ReferenceMemoryIdeal.nD Cert.ReferenceMemoryIdeal.τ).loc Cert.ReferenceMemoryIdeal.main_arg2) = m' ((c.tc : Thread Cert.ReferenceMemoryIdeal.nD Cert.ReferenceMemoryIdeal.τ).loc Cert.ReferenceMemoryIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)) →
    ∃ (v0 : (c : Dev Cert.KernelMixIdeal.nD) → Buf (Elt Ideal) ((c.tc : Thread Cert.KernelMixIdeal.nD Cert.KernelMixIdeal.τ).loc Cert.KernelMixIdeal.main_v12)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v12) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v20) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9))

def Claim : Prop :=
  ∃ (hKernel : Cert.Kernel.Facts) (hKernelIdeal : Cert.KernelIdeal.Facts) (hReferenceIdeal : Cert.ReferenceIdeal.Facts) (hKernelMemory : Cert.KernelMemory.Facts) (hKernelMemoryIdeal : Cert.KernelMemoryIdeal.Facts) (hReferenceMemoryIdeal : Cert.ReferenceMemoryIdeal.Facts) (hKernelMix : Cert.KernelMix.Facts) (hKernelMixIdeal : Cert.KernelMixIdeal.Facts) (hReferenceMixIdeal : Cert.ReferenceMixIdeal.Facts),
    quiescent_Kernel (hKernel := hKernel)
    ∧ quiescent_KernelIdeal (hKernelIdeal := hKernelIdeal)
    ∧ quiescent_ReferenceIdeal (hReferenceIdeal := hReferenceIdeal)
    ∧ quiescent_KernelMemory (hKernelMemory := hKernelMemory)
    ∧ quiescent_KernelMemoryIdeal (hKernelMemoryIdeal := hKernelMemoryIdeal)
    ∧ quiescent_ReferenceMemoryIdeal (hReferenceMemoryIdeal := hReferenceMemoryIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_Kernel_KernelIdeal
    ∧ algebraic_KernelIdeal_ReferenceIdeal (hKernelIdeal := hKernelIdeal) (hReferenceIdeal := hReferenceIdeal)
    ∧ preserves_KernelMemory_KernelMemoryIdeal
    ∧ algebraic_KernelMemoryIdeal_ReferenceMemoryIdeal (hKernelMemoryIdeal := hKernelMemoryIdeal) (hReferenceMemoryIdeal := hReferenceMemoryIdeal)
    ∧ preserves_KernelMix_KernelMixIdeal
    ∧ algebraic_KernelMixIdeal_ReferenceMixIdeal (hKernelMixIdeal := hKernelMixIdeal) (hReferenceMixIdeal := hReferenceMixIdeal)
-- ==== Kernel.lean ====
abbrev S16384x512 : Shape := ⟨2, ![16384, 512]⟩
abbrev S8 : Shape := ⟨1, ![8]⟩
abbrev S_ : Shape := ⟨0, ![]⟩
abbrev S16384x8x1 : Shape := ⟨3, ![16384, 8, 1]⟩
abbrev S16384x8x62 : Shape := ⟨3, ![16384, 8, 62]⟩
abbrev S16384x8x64 : Shape := ⟨3, ![16384, 8, 64]⟩
abbrev S16384x8x128 : Shape := ⟨3, ![16384, 8, 128]⟩
abbrev S1x8x1 : Shape := ⟨3, ![1, 8, 1]⟩
abbrev S64x256x1024 : Shape := ⟨3, ![64, 256, 1024]⟩
abbrev S64x1024x256 : Shape := ⟨3, ![64, 1024, 256]⟩
abbrev S64x256x512 : Shape := ⟨3, ![64, 256, 512]⟩
abbrev S64x512x256 : Shape := ⟨3, ![64, 512, 256]⟩
abbrev S16384x1024 : Shape := ⟨2, ![16384, 1024]⟩
abbrev S4x512x256 : Shape := ⟨3, ![4, 512, 256]⟩
abbrev S64x256x256 : Shape := ⟨3, ![64, 256, 256]⟩
abbrev S1024x256 : Shape := ⟨2, ![1024, 256]⟩
abbrev S256x1024 : Shape := ⟨2, ![256, 1024]⟩
abbrev S7x256x256 : Shape := ⟨3, ![7, 256, 256]⟩
abbrev S256x256 : Shape := ⟨2, ![256, 256]⟩
abbrev S1x256 : Shape := ⟨2, ![1, 256]⟩
abbrev S256x128 : Shape := ⟨2, ![256, 128]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩
abbrev S1x256x256 : Shape := ⟨3, ![1, 256, 256]⟩

abbrev nBuf : Space → Nat
  | .hbm => 40
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .bf16⟩
  | .hbm, ⟨11, _⟩ => ⟨S8, .f32⟩
  | .hbm, ⟨12, _⟩ => ⟨S8, .f32⟩
  | .hbm, ⟨13, _⟩ => ⟨S8, .bf16⟩
  | .hbm, ⟨14, _⟩ => ⟨S8, .f32⟩
  | .hbm, ⟨15, _⟩ => ⟨S_, .f32⟩
  | .hbm, ⟨16, _⟩ => ⟨S16384x8x1, .f32⟩
  | .hbm, ⟨17, _⟩ => ⟨S_, .f32⟩
  | .hbm, ⟨18, _⟩ => ⟨S16384x8x62, .f32⟩
  | .hbm, ⟨19, _⟩ => ⟨S16384x8x64, .f32⟩
  | .hbm, ⟨20, _⟩ => ⟨S_, .f32⟩
  | .hbm, ⟨21, _⟩ => ⟨S_, .f32⟩
  | .hbm, ⟨22, _⟩ => ⟨S16384x8x64, .f32⟩
  | .hbm, ⟨23, _⟩ => ⟨S16384x8x64, .f32⟩
  | .hbm, ⟨24, _⟩ => ⟨S16384x8x128, .f32⟩
  | .hbm, ⟨25, _⟩ => ⟨S16384x8x64, .f32⟩
  | .hbm, ⟨26, _⟩ => ⟨S1x8x1, .f32⟩
  | .hbm, ⟨27, _⟩ => ⟨S16384x8x1, .f32⟩
  | .hbm, ⟨28, _⟩ => ⟨S1x8x1, .f32⟩
  | .hbm, ⟨29, _⟩ => ⟨S16384x8x1, .f32⟩
  | .hbm, ⟨30, _⟩ => ⟨S16384x8x128, .f32⟩
  | .hbm, ⟨31, _⟩ => ⟨S64x256x1024, .f32⟩
  | .hbm, ⟨32, _⟩ => ⟨S64x1024x256, .f32⟩
  | .hbm, ⟨33, _⟩ => ⟨S64x1024x256, .bf16⟩
  | .hbm, ⟨34, _⟩ => ⟨S64x256x512, .f32⟩
  | .hbm, ⟨35, _⟩ => ⟨S64x512x256, .f32⟩
  | .hbm, ⟨36, _⟩ => ⟨S64x512x256, .bf16⟩
  | .hbm, ⟨37, _⟩ => ⟨S16384x1024, .f32⟩
  | .hbm, ⟨38, _⟩ => ⟨S16384x1024, .bf16⟩
  | .hbm, ⟨39, _⟩ => ⟨S16384x512, .f32⟩
  | .local _ .vmem, ⟨0, _⟩ => ⟨S4x512x256, .bf16⟩
  | .local _ .vmem, ⟨1, _⟩ => ⟨S4x512x256, .bf16⟩
  | .local _ .vmem, ⟨2, _⟩ => ⟨S16384x512, .bf16⟩
  | .local _ .vmem, ⟨3, _⟩ => ⟨S64x256x256, .bf16⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S7x256x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c4_i32 : BitVec 32 := 4#32
  let arg1 : BitVec 32 := BitVec.ofNat 32 (i 1).val
  let v9 : BitVec 32 := Scalar.muli c4_i32 arg1
  let c0_i32 : BitVec 32 := 0#32
  let v10 : BitVec 32 := Scalar.addi v9 c0_i32
  let c256_i32 : BitVec 32 := 256#32
  let v11 : BitVec 32 := Scalar.muli v10 c256_i32
  v11
def k0_off1 (i : grid0.Coords) (c0_i32 : BitVec 32) : Fin 2 → Nat :=
  let c4_i32 : BitVec 32 := 4#32
  let arg1 : BitVec 32 := BitVec.ofNat 32 (i 1).val
  let v9 : BitVec 32 := Scalar.muli c4_i32 arg1
  let v10 : BitVec 32 := Scalar.addi v9 c0_i32
  let c256_i32 : BitVec 32 := 256#32
  let v11 : BitVec 32 := Scalar.muli v10 c256_i32
  let v12 : BitVec 32 := v11
  let v13 : Index := Scalar.indexCast v12
  let c0 : Index := 0#32
  ![v13.toNat, 0]
def k0_off2 (i : grid0.Coords) (c0_i32 : BitVec 32) : Fin 3 → Nat :=
  let c4_i32 : BitVec 32 := 4#32
  let arg1 : BitVec 32 := BitVec.ofNat 32 (i 1).val
  let v9 : BitVec 32 := Scalar.muli c4_i32 arg1
  let v10 : BitVec 32 := Scalar.addi v9 c0_i32
  let v18 : Index := Scalar.indexCast v10
  let c0_5 : Index := 0#32
  let c0_6 : Index := 0#32
  ![v18.toNat, 0, 0]
def k0_mult2 (i : grid0.Coords) : BitVec 32 :=
  let c4_i32 : BitVec 32 := 4#32
  let arg1 : BitVec 32 := BitVec.ofNat 32 (i 1).val
  let v9 : BitVec 32 := Scalar.muli c4_i32 arg1
  let c1_i32 : BitVec 32 := 1#32
  let v21 : BitVec 32 := Scalar.addi v9 c1_i32
  let c256_i32_7 : BitVec 32 := 256#32
  let v22 : BitVec 32 := Scalar.muli v21 c256_i32_7
  v22
def k0_mult3 (i : grid0.Coords) : BitVec 32 :=
  let c4_i32 : BitVec 32 := 4#32
  let arg1 : BitVec 32 := BitVec.ofNat 32 (i 1).val
  let v9 : BitVec 32 := Scalar.muli c4_i32 arg1
  let c1_i32_13 : BitVec 32 := 1#32
  let v32 : BitVec 32 := Scalar.addi v9 c1_i32_13
  let c1_i32_14 : BitVec 32 := 1#32
  let v33 : BitVec 32 := Scalar.subi v32 c1_i32_14
  let c0_i32_15 : BitVec 32 := 0#32
  let v34 : BitVec 32 := Scalar.subi v33 c0_i32_15
  let c256_i32_16 : BitVec 32 := 256#32
  let v35 : BitVec 32 := Scalar.muli v34 c256_i32_16
  v35
def k0_off3 (i : grid0.Coords) (c1_i32_13 : BitVec 32) (c0_i32_15 : BitVec 32) : Fin 2 → Nat :=
  let c4_i32 : BitVec 32 := 4#32
  let arg1 : BitVec 32 := BitVec.ofNat 32 (i 1).val
  let v9 : BitVec 32 := Scalar.muli c4_i32 arg1
  let v32 : BitVec 32 := Scalar.addi v9 c1_i32_13
  let c1_i32_14 : BitVec 32 := 1#32
  let v33 : BitVec 32 := Scalar.subi v32 c1_i32_14
  let v34 : BitVec 32 := Scalar.subi v33 c0_i32_15
  let c256_i32_16 : BitVec 32 := 256#32
  let v35 : BitVec 32 := Scalar.muli v34 c256_i32_16
  let v36 : BitVec 32 := v35
  let v37 : Index := Scalar.indexCast v36
  let c0_17 : Index := 0#32
  ![v37.toNat, 0]
def k0_off3_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_off4 (i : grid0.Coords) (c1_i32_13 : BitVec 32) (c0_i32_15 : BitVec 32) : Fin 3 → Nat :=
  let c4_i32 : BitVec 32 := 4#32
  let arg1 : BitVec 32 := BitVec.ofNat 32 (i 1).val
  let v9 : BitVec 32 := Scalar.muli c4_i32 arg1
  let v32 : BitVec 32 := Scalar.addi v9 c1_i32_13
  let c1_i32_14 : BitVec 32 := 1#32
  let v33 : BitVec 32 := Scalar.subi v32 c1_i32_14
  let v34 : BitVec 32 := Scalar.subi v33 c0_i32_15
  let v42 : Index := Scalar.indexCast v34
  let c0_21 : Index := 0#32
  let c0_22 : Index := 0#32
  ![v42.toNat, 0, 0]
def k0_off4_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_mult4 (i : grid0.Coords) : BitVec 32 :=
  let c4_i32 : BitVec 32 := 4#32
  let arg1 : BitVec 32 := BitVec.ofNat 32 (i 1).val
  let v9 : BitVec 32 := Scalar.muli c4_i32 arg1
  let c2_i32 : BitVec 32 := 2#32
  let v45 : BitVec 32 := Scalar.addi v9 c2_i32
  let c256_i32_23 : BitVec 32 := 256#32
  let v46 : BitVec 32 := Scalar.muli v45 c256_i32_23
  v46
def k0_mult5 (i : grid0.Coords) : BitVec 32 :=
  let c4_i32 : BitVec 32 := 4#32
  let arg1 : BitVec 32 := BitVec.ofNat 32 (i 1).val
  let v9 : BitVec 32 := Scalar.muli c4_i32 arg1
  let c2_i32_29 : BitVec 32 := 2#32
  let v56 : BitVec 32 := Scalar.addi v9 c2_i32_29
  let c1_i32_30 : BitVec 32 := 1#32
  let v57 : BitVec 32 := Scalar.subi v56 c1_i32_30
  let c0_i32_31 : BitVec 32 := 0#32
  let v58 : BitVec 32 := Scalar.subi v57 c0_i32_31
  let c256_i32_32 : BitVec 32 := 256#32
  let v59 : BitVec 32 := Scalar.muli v58 c256_i32_32
  v59
def k0_mult6 (i : grid0.Coords) : BitVec 32 :=
  let c4_i32 : BitVec 32 := 4#32
  let arg1 : BitVec 32 := BitVec.ofNat 32 (i 1).val
  let v9 : BitVec 32 := Scalar.muli c4_i32 arg1
  let c2_i32_39 : BitVec 32 := 2#32
  let v69 : BitVec 32 := Scalar.addi v9 c2_i32_39
  let c1_i32_40 : BitVec 32 := 1#32
  let v70 : BitVec 32 := Scalar.subi v69 c1_i32_40
  let c1_i32_41 : BitVec 32 := 1#32
  let v71 : BitVec 32 := Scalar.subi v70 c1_i32_41
  let c256_i32_42 : BitVec 32 := 256#32
  let v72 : BitVec 32 := Scalar.muli v71 c256_i32_42
  v72
def k0_mult7 (i : grid0.Coords) : BitVec 32 :=
  let c4_i32 : BitVec 32 := 4#32
  let arg1 : BitVec 32 := BitVec.ofNat 32 (i 1).val
  let v9 : BitVec 32 := Scalar.muli c4_i32 arg1
  let c3_i32 : BitVec 32 := 3#32
  let v82 : BitVec 32 := Scalar.addi v9 c3_i32
  let c256_i32_49 : BitVec 32 := 256#32
  let v83 : BitVec 32 := Scalar.muli v82 c256_i32_49
  v83
def k0_mult8 (i : grid0.Coords) : BitVec 32 :=
  let c4_i32 : BitVec 32 := 4#32
  let arg1 : BitVec 32 := BitVec.ofNat 32 (i 1).val
  let v9 : BitVec 32 := Scalar.muli c4_i32 arg1
  let c3_i32_55 : BitVec 32 := 3#32
  let v93 : BitVec 32 := Scalar.addi v9 c3_i32_55
  let c1_i32_56 : BitVec 32 := 1#32
  let v94 : BitVec 32 := Scalar.subi v93 c1_i32_56
  let c0_i32_57 : BitVec 32 := 0#32
  let v95 : BitVec 32 := Scalar.subi v94 c0_i32_57
  let c256_i32_58 : BitVec 32 := 256#32
  let v96 : BitVec 32 := Scalar.muli v95 c256_i32_58
  v96
def k0_mult9 (i : grid0.Coords) : BitVec 32 :=
  let c4_i32 : BitVec 32 := 4#32
  let arg1 : BitVec 32 := BitVec.ofNat 32 (i 1).val
  let v9 : BitVec 32 := Scalar.muli c4_i32 arg1
  let c3_i32_65 : BitVec 32 := 3#32
  let v106 : BitVec 32 := Scalar.addi v9 c3_i32_65
  let c1_i32_66 : BitVec 32 := 1#32
  let v107 : BitVec 32 := Scalar.subi v106 c1_i32_66
  let c1_i32_67 : BitVec 32 := 1#32
  let v108 : BitVec 32 := Scalar.subi v107 c1_i32_67
  let c256_i32_68 : BitVec 32 := 256#32
  let v109 : BitVec 32 := Scalar.muli v108 c256_i32_68
  v109
def k0_mult10 (i : grid0.Coords) : BitVec 32 :=
  let c4_i32 : BitVec 32 := 4#32
  let arg1 : BitVec 32 := BitVec.ofNat 32 (i 1).val
  let v9 : BitVec 32 := Scalar.muli c4_i32 arg1
  let c3_i32_75 : BitVec 32 := 3#32
  let v119 : BitVec 32 := Scalar.addi v9 c3_i32_75
  let c1_i32_76 : BitVec 32 := 1#32
  let v120 : BitVec 32 := Scalar.subi v119 c1_i32_76
  let c2_i32_77 : BitVec 32 := 2#32
  let v121 : BitVec 32 := Scalar.subi v120 c2_i32_77
  let c256_i32_78 : BitVec 32 := 256#32
  let v122 : BitVec 32 := Scalar.muli v121 c256_i32_78
  v122
def k0_mult11 (i : grid0.Coords) : BitVec 32 :=
  let c4_i32 : BitVec 32 := 4#32
  let arg1 : BitVec 32 := BitVec.ofNat 32 (i 1).val
  let v9 : BitVec 32 := Scalar.muli c4_i32 arg1
  let c0_i32_85 : BitVec 32 := 0#32
  let v132 : BitVec 32 := Scalar.addi v9 c0_i32_85
  let c256_i32_86 : BitVec 32 := 256#32
  let v133 : BitVec 32 := Scalar.muli v132 c256_i32_86
  v133
def k0_off5 (i : grid0.Coords) (c0_i32_85 : BitVec 32) : Fin 2 → Nat :=
  let c4_i32 : BitVec 32 := 4#32
  let arg1 : BitVec 32 := BitVec.ofNat 32 (i 1).val
  let v9 : BitVec 32 := Scalar.muli c4_i32 arg1
  let v132 : BitVec 32 := Scalar.addi v9 c0_i32_85
  let c256_i32_86 : BitVec 32 := 256#32
  let v133 : BitVec 32 := Scalar.muli v132 c256_i32_86
  let v134 : BitVec 32 := v133
  let v135 : Index := Scalar.indexCast v134
  let c128 : Index := 128#32
  ![v135.toNat, 128]
def k0_off6 (i : grid0.Coords) (c0_i32_85 : BitVec 32) : Fin 3 → Nat :=
  let c4_i32 : BitVec 32 := 4#32
  let arg1 : BitVec 32 := BitVec.ofNat 32 (i 1).val
  let v9 : BitVec 32 := Scalar.muli c4_i32 arg1
  let v132 : BitVec 32 := Scalar.addi v9 c0_i32_85
  let v140 : Index := Scalar.indexCast v132
  let c64 : Index := 64#32
  let c0_90 : Index := 0#32
  ![v140.toNat, 64, 0]
def k0_mult12 (i : grid0.Coords) : BitVec 32 :=
  let c4_i32 : BitVec 32 := 4#32
  let arg1 : BitVec 32 := BitVec.ofNat 32 (i 1).val
  let v9 : BitVec 32 := Scalar.muli c4_i32 arg1
  let c1_i32_91 : BitVec 32 := 1#32
  let v143 : BitVec 32 := Scalar.addi v9 c1_i32_91
  let c256_i32_92 : BitVec 32 := 256#32
  let v144 : BitVec 32 := Scalar.muli v143 c256_i32_92
  v144
def k0_mult13 (i : grid0.Coords) : BitVec 32 :=
  let c4_i32 : BitVec 32 := 4#32
  let arg1 : BitVec 32 := BitVec.ofNat 32 (i 1).val
  let v9 : BitVec 32 := Scalar.muli c4_i32 arg1
  let c1_i32_99 : BitVec 32 := 1#32
  let v154 : BitVec 32 := Scalar.addi v9 c1_i32_99
  let c1_i32_100 : BitVec 32 := 1#32
  let v155 : BitVec 32 := Scalar.subi v154 c1_i32_100
  let c0_i32_101 : BitVec 32 := 0#32
  let v156 : BitVec 32 := Scalar.subi v155 c0_i32_101
  let c256_i32_102 : BitVec 32 := 256#32
  let v157 : BitVec 32 := Scalar.muli v156 c256_i32_102
  v157
def k0_off7 (i : grid0.Coords) (c1_i32_99 : BitVec 32) (c0_i32_101 : BitVec 32) : Fin 2 → Nat :=
  let c4_i32 : BitVec 32 := 4#32
  let arg1 : BitVec 32 := BitVec.ofNat 32 (i 1).val
  let v9 : BitVec 32 := Scalar.muli c4_i32 arg1
  let v154 : BitVec 32 := Scalar.addi v9 c1_i32_99
  let c1_i32_100 : BitVec 32 := 1#32
  let v155 : BitVec 32 := Scalar.subi v154 c1_i32_100
  let v156 : BitVec 32 := Scalar.subi v155 c0_i32_101
  let c256_i32_102 : BitVec 32 := 256#32
  let v157 : BitVec 32 := Scalar.muli v156 c256_i32_102
  let v158 : BitVec 32 := v157
  let v159 : Index := Scalar.indexCast v158
  let c128_103 : Index := 128#32
  ![v159.toNat, 128]
def k0_off7_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_off8 (i : grid0.Coords) (c1_i32_99 : BitVec 32) (c0_i32_101 : BitVec 32) : Fin 3 → Nat :=
  let c4_i32 : BitVec 32 := 4#32
  let arg1 : BitVec 32 := BitVec.ofNat 32 (i 1).val
  let v9 : BitVec 32 := Scalar.muli c4_i32 arg1
  let v154 : BitVec 32 := Scalar.addi v9 c1_i32_99
  let c1_i32_100 : BitVec 32 := 1#32
  let v155 : BitVec 32 := Scalar.subi v154 c1_i32_100
  let v156 : BitVec 32 := Scalar.subi v155 c0_i32_101
  let v164 : Index := Scalar.indexCast v156
  let c64_107 : Index := 64#32
  let c0_108 : Index := 0#32
  ![v164.toNat, 64, 0]
def k0_off8_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_mult14 (i : grid0.Coords) : BitVec 32 :=
  let c4_i32 : BitVec 32 := 4#32
  let arg1 : BitVec 32 := BitVec.ofNat 32 (i 1).val
  let v9 : BitVec 32 := Scalar.muli c4_i32 arg1
  let c2_i32_109 : BitVec 32 := 2#32
  let v167 : BitVec 32 := Scalar.addi v9 c2_i32_109
  let c256_i32_110 : BitVec 32 := 256#32
  let v168 : BitVec 32 := Scalar.muli v167 c256_i32_110
  v168
def k0_mult15 (i : grid0.Coords) : BitVec 32 :=
  let c4_i32 : BitVec 32 := 4#32
  let arg1 : BitVec 32 := BitVec.ofNat 32 (i 1).val
  let v9 : BitVec 32 := Scalar.muli c4_i32 arg1
  let c2_i32_117 : BitVec 32 := 2#32
  let v178 : BitVec 32 := Scalar.addi v9 c2_i32_117
  let c1_i32_118 : BitVec 32 := 1#32
  let v179 : BitVec 32 := Scalar.subi v178 c1_i32_118
  let c0_i32_119 : BitVec 32 := 0#32
  let v180 : BitVec 32 := Scalar.subi v179 c0_i32_119
  let c256_i32_120 : BitVec 32 := 256#32
  let v181 : BitVec 32 := Scalar.muli v180 c256_i32_120
  v181
def k0_mult16 (i : grid0.Coords) : BitVec 32 :=
  let c4_i32 : BitVec 32 := 4#32
  let arg1 : BitVec 32 := BitVec.ofNat 32 (i 1).val
  let v9 : BitVec 32 := Scalar.muli c4_i32 arg1
  let c2_i32_127 : BitVec 32 := 2#32
  let v191 : BitVec 32 := Scalar.addi v9 c2_i32_127
  let c1_i32_128 : BitVec 32 := 1#32
  let v192 : BitVec 32 := Scalar.subi v191 c1_i32_128
  let c1_i32_129 : BitVec 32 := 1#32
  let v193 : BitVec 32 := Scalar.subi v192 c1_i32_129
  let c256_i32_130 : BitVec 32 := 256#32
  let v194 : BitVec 32 := Scalar.muli v193 c256_i32_130
  v194
def k0_mult17 (i : grid0.Coords) : BitVec 32 :=
  let c4_i32 : BitVec 32 := 4#32
  let arg1 : BitVec 32 := BitVec.ofNat 32 (i 1).val
  let v9 : BitVec 32 := Scalar.muli c4_i32 arg1
  let c3_i32_137 : BitVec 32 := 3#32
  let v204 : BitVec 32 := Scalar.addi v9 c3_i32_137
  let c256_i32_138 : BitVec 32 := 256#32
  let v205 : BitVec 32 := Scalar.muli v204 c256_i32_138
  v205
def k0_mult18 (i : grid0.Coords) : BitVec 32 :=
  let c4_i32 : BitVec 32 := 4#32
  let arg1 : BitVec 32 := BitVec.ofNat 32 (i 1).val
  let v9 : BitVec 32 := Scalar.muli c4_i32 arg1
  let c3_i32_145 : BitVec 32 := 3#32
  let v215 : BitVec 32 := Scalar.addi v9 c3_i32_145
  let c1_i32_146 : BitVec 32 := 1#32
  let v216 : BitVec 32 := Scalar.subi v215 c1_i32_146
  let c0_i32_147 : BitVec 32 := 0#32
  let v217 : BitVec 32 := Scalar.subi v216 c0_i32_147
  let c256_i32_148 : BitVec 32 := 256#32
  let v218 : BitVec 32 := Scalar.muli v217 c256_i32_148
  v218
def k0_mult19 (i : grid0.Coords) : BitVec 32 :=
  let c4_i32 : BitVec 32 := 4#32
  let arg1 : BitVec 32 := BitVec.ofNat 32 (i 1).val
  let v9 : BitVec 32 := Scalar.muli c4_i32 arg1
  let c3_i32_155 : BitVec 32 := 3#32
  let v228 : BitVec 32 := Scalar.addi v9 c3_i32_155
  let c1_i32_156 : BitVec 32 := 1#32
  let v229 : BitVec 32 := Scalar.subi v228 c1_i32_156
  let c1_i32_157 : BitVec 32 := 1#32
  let v230 : BitVec 32 := Scalar.subi v229 c1_i32_157
  let c256_i32_158 : BitVec 32 := 256#32
  let v231 : BitVec 32 := Scalar.muli v230 c256_i32_158
  v231
def k0_mult20 (i : grid0.Coords) : BitVec 32 :=
  let c4_i32 : BitVec 32 := 4#32
  let arg1 : BitVec 32 := BitVec.ofNat 32 (i 1).val
  let v9 : BitVec 32 := Scalar.muli c4_i32 arg1
  let c3_i32_165 : BitVec 32 := 3#32
  let v241 : BitVec 32 := Scalar.addi v9 c3_i32_165
  let c1_i32_166 : BitVec 32 := 1#32
  let v242 : BitVec 32 := Scalar.subi v241 c1_i32_166
  let c2_i32_167 : BitVec 32 := 2#32
  let v243 : BitVec 32 := Scalar.subi v242 c2_i32_167
  let c256_i32_168 : BitVec 32 := 256#32
  let v244 : BitVec 32 := Scalar.muli v243 c256_i32_168
  v244
def k0_mult21 (i : grid0.Coords) : BitVec 32 :=
  let c4_i32 : BitVec 32 := 4#32
  let arg1 : BitVec 32 := BitVec.ofNat 32 (i 1).val
  let v9 : BitVec 32 := Scalar.muli c4_i32 arg1
  let c0_i32_175 : BitVec 32 := 0#32
  let v254 : BitVec 32 := Scalar.addi v9 c0_i32_175
  let c256_i32_176 : BitVec 32 := 256#32
  let v255 : BitVec 32 := Scalar.muli v254 c256_i32_176
  v255
def k0_off9 (i : grid0.Coords) (c0_i32_175 : BitVec 32) : Fin 2 → Nat :=
  let c4_i32 : BitVec 32 := 4#32
  let arg1 : BitVec 32 := BitVec.ofNat 32 (i 1).val
  let v9 : BitVec 32 := Scalar.muli c4_i32 arg1
  let v254 : BitVec 32 := Scalar.addi v9 c0_i32_175
  let c256_i32_176 : BitVec 32 := 256#32
  let v255 : BitVec 32 := Scalar.muli v254 c256_i32_176
  let v256 : BitVec 32 := v255
  let v257 : Index := Scalar.indexCast v256
  let c256 : Index := 256#32
  ![v257.toNat, 256]
def k0_off10 (i : grid0.Coords) (c0_i32_175 : BitVec 32) : Fin 3 → Nat :=
  let c4_i32 : BitVec 32 := 4#32
  let arg1 : BitVec 32 := BitVec.ofNat 32 (i 1).val
  let v9 : BitVec 32 := Scalar.muli c4_i32 arg1
  let v254 : BitVec 32 := Scalar.addi v9 c0_i32_175
  let v262 : Index := Scalar.indexCast v254
  let c128_180 : Index := 128#32
  let c0_181 : Index := 0#32
  ![v262.toNat, 128, 0]
def k0_mult22 (i : grid0.Coords) : BitVec 32 :=
  let c4_i32 : BitVec 32 := 4#32
  let arg1 : BitVec 32 := BitVec.ofNat 32 (i 1).val
  let v9 : BitVec 32 := Scalar.muli c4_i32 arg1
  let c1_i32_182 : BitVec 32 := 1#32
  let v265 : BitVec 32 := Scalar.addi v9 c1_i32_182
  let c256_i32_183 : BitVec 32 := 256#32
  let v266 : BitVec 32 := Scalar.muli v265 c256_i32_183
  v266
def k0_mult23 (i : grid0.Coords) : BitVec 32 :=
  let c4_i32 : BitVec 32 := 4#32
  let arg1 : BitVec 32 := BitVec.ofNat 32 (i 1).val
  let v9 : BitVec 32 := Scalar.muli c4_i32 arg1
  let c1_i32_190 : BitVec 32 := 1#32
  let v276 : BitVec 32 := Scalar.addi v9 c1_i32_190
  let c1_i32_191 : BitVec 32 := 1#32
  let v277 : BitVec 32 := Scalar.subi v276 c1_i32_191
  let c0_i32_192 : BitVec 32 := 0#32
  let v278 : BitVec 32 := Scalar.subi v277 c0_i32_192
  let c256_i32_193 : BitVec 32 := 256#32
  let v279 : BitVec 32 := Scalar.muli v278 c256_i32_193
  v279
def k0_off11 (i : grid0.Coords) (c1_i32_190 : BitVec 32) (c0_i32_192 : BitVec 32) : Fin 2 → Nat :=
  let c4_i32 : BitVec 32 := 4#32
  let arg1 : BitVec 32 := BitVec.ofNat 32 (i 1).val
  let v9 : BitVec 32 := Scalar.muli c4_i32 arg1
  let v276 : BitVec 32 := Scalar.addi v9 c1_i32_190
  let c1_i32_191 : BitVec 32 := 1#32
  let v277 : BitVec 32 := Scalar.subi v276 c1_i32_191
  let v278 : BitVec 32 := Scalar.subi v277 c0_i32_192
  let c256_i32_193 : BitVec 32 := 256#32
  let v279 : BitVec 32 := Scalar.muli v278 c256_i32_193
  let v280 : BitVec 32 := v279
  let v281 : Index := Scalar.indexCast v280
  let c256_194 : Index := 256#32
  ![v281.toNat, 256]
def k0_off11_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_off12 (i : grid0.Coords) (c1_i32_190 : BitVec 32) (c0_i32_192 : BitVec 32) : Fin 3 → Nat :=
  let c4_i32 : BitVec 32 := 4#32
  let arg1 : BitVec 32 := BitVec.ofNat 32 (i 1).val
  let v9 : BitVec 32 := Scalar.muli c4_i32 arg1
  let v276 : BitVec 32 := Scalar.addi v9 c1_i32_190
  let c1_i32_191 : BitVec 32 := 1#32
  let v277 : BitVec 32 := Scalar.subi v276 c1_i32_191
  let v278 : BitVec 32 := Scalar.subi v277 c0_i32_192
  let v286 : Index := Scalar.indexCast v278
  let c128_198 : Index := 128#32
  let c0_199 : Index := 0#32
  ![v286.toNat, 128, 0]
def k0_off12_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_mult24 (i : grid0.Coords) : BitVec 32 :=
  let c4_i32 : BitVec 32 := 4#32
  let arg1 : BitVec 32 := BitVec.ofNat 32 (i 1).val
  let v9 : BitVec 32 := Scalar.muli c4_i32 arg1
  let c2_i32_200 : BitVec 32 := 2#32
  let v289 : BitVec 32 := Scalar.addi v9 c2_i32_200
  let c256_i32_201 : BitVec 32 := 256#32
  let v290 : BitVec 32 := Scalar.muli v289 c256_i32_201
  v290
def k0_mult25 (i : grid0.Coords) : BitVec 32 :=
  let c4_i32 : BitVec 32 := 4#32
  let arg1 : BitVec 32 := BitVec.ofNat 32 (i 1).val
  let v9 : BitVec 32 := Scalar.muli c4_i32 arg1
  let c2_i32_208 : BitVec 32 := 2#32
  let v300 : BitVec 32 := Scalar.addi v9 c2_i32_208
  let c1_i32_209 : BitVec 32 := 1#32
  let v301 : BitVec 32 := Scalar.subi v300 c1_i32_209
  let c0_i32_210 : BitVec 32 := 0#32
  let v302 : BitVec 32 := Scalar.subi v301 c0_i32_210
  let c256_i32_211 : BitVec 32 := 256#32
  let v303 : BitVec 32 := Scalar.muli v302 c256_i32_211
  v303
def k0_mult26 (i : grid0.Coords) : BitVec 32 :=
  let c4_i32 : BitVec 32 := 4#32
  let arg1 : BitVec 32 := BitVec.ofNat 32 (i 1).val
  let v9 : BitVec 32 := Scalar.muli c4_i32 arg1
  let c2_i32_218 : BitVec 32 := 2#32
  let v313 : BitVec 32 := Scalar.addi v9 c2_i32_218
  let c1_i32_219 : BitVec 32 := 1#32
  let v314 : BitVec 32 := Scalar.subi v313 c1_i32_219
  let c1_i32_220 : BitVec 32 := 1#32
  let v315 : BitVec 32 := Scalar.subi v314 c1_i32_220
  let c256_i32_221 : BitVec 32 := 256#32
  let v316 : BitVec 32 := Scalar.muli v315 c256_i32_221
  v316
def k0_mult27 (i : grid0.Coords) : BitVec 32 :=
  let c4_i32 : BitVec 32 := 4#32
  let arg1 : BitVec 32 := BitVec.ofNat 32 (i 1).val
  let v9 : BitVec 32 := Scalar.muli c4_i32 arg1
  let c3_i32_228 : BitVec 32 := 3#32
  let v326 : BitVec 32 := Scalar.addi v9 c3_i32_228
  let c256_i32_229 : BitVec 32 := 256#32
  let v327 : BitVec 32 := Scalar.muli v326 c256_i32_229
  v327
def k0_mult28 (i : grid0.Coords) : BitVec 32 :=
  let c4_i32 : BitVec 32 := 4#32
  let arg1 : BitVec 32 := BitVec.ofNat 32 (i 1).val
  let v9 : BitVec 32 := Scalar.muli c4_i32 arg1
  let c3_i32_236 : BitVec 32 := 3#32
  let v337 : BitVec 32 := Scalar.addi v9 c3_i32_236
  let c1_i32_237 : BitVec 32 := 1#32
  let v338 : BitVec 32 := Scalar.subi v337 c1_i32_237
  let c0_i32_238 : BitVec 32 := 0#32
  let v339 : BitVec 32 := Scalar.subi v338 c0_i32_238
  let c256_i32_239 : BitVec 32 := 256#32
  let v340 : BitVec 32 := Scalar.muli v339 c256_i32_239
  v340
def k0_mult29 (i : grid0.Coords) : BitVec 32 :=
  let c4_i32 : BitVec 32 := 4#32
  let arg1 : BitVec 32 := BitVec.ofNat 32 (i 1).val
  let v9 : BitVec 32 := Scalar.muli c4_i32 arg1
  let c3_i32_246 : BitVec 32 := 3#32
  let v350 : BitVec 32 := Scalar.addi v9 c3_i32_246
  let c1_i32_247 : BitVec 32 := 1#32
  let v351 : BitVec 32 := Scalar.subi v350 c1_i32_247
  let c1_i32_248 : BitVec 32 := 1#32
  let v352 : BitVec 32 := Scalar.subi v351 c1_i32_248
  let c256_i32_249 : BitVec 32 := 256#32
  let v353 : BitVec 32 := Scalar.muli v352 c256_i32_249
  v353
def k0_mult30 (i : grid0.Coords) : BitVec 32 :=
  let c4_i32 : BitVec 32 := 4#32
  let arg1 : BitVec 32 := BitVec.ofNat 32 (i 1).val
  let v9 : BitVec 32 := Scalar.muli c4_i32 arg1
  let c3_i32_256 : BitVec 32 := 3#32
  let v363 : BitVec 32 := Scalar.addi v9 c3_i32_256
  let c1_i32_257 : BitVec 32 := 1#32
  let v364 : BitVec 32 := Scalar.subi v363 c1_i32_257
  let c2_i32_258 : BitVec 32 := 2#32
  let v365 : BitVec 32 := Scalar.subi v364 c2_i32_258
  let c256_i32_259 : BitVec 32 := 256#32
  let v366 : BitVec 32 := Scalar.muli v365 c256_i32_259
  v366
def k0_mult31 (i : grid0.Coords) : BitVec 32 :=
  let c4_i32 : BitVec 32 := 4#32
  let arg1 : BitVec 32 := BitVec.ofNat 32 (i 1).val
  let v9 : BitVec 32 := Scalar.muli c4_i32 arg1
  let c0_i32_266 : BitVec 32 := 0#32
  let v376 : BitVec 32 := Scalar.addi v9 c0_i32_266
  let c256_i32_267 : BitVec 32 := 256#32
  let v377 : BitVec 32 := Scalar.muli v376 c256_i32_267
  v377
def k0_off13 (i : grid0.Coords) (c0_i32_266 : BitVec 32) : Fin 2 → Nat :=
  let c4_i32 : BitVec 32 := 4#32
  let arg1 : BitVec 32 := BitVec.ofNat 32 (i 1).val
  let v9 : BitVec 32 := Scalar.muli c4_i32 arg1
  let v376 : BitVec 32 := Scalar.addi v9 c0_i32_266
  let c256_i32_267 : BitVec 32 := 256#32
  let v377 : BitVec 32 := Scalar.muli v376 c256_i32_267
  let v378 : BitVec 32 := v377
  let v379 : Index := Scalar.indexCast v378
  let c384 : Index := 384#32
  ![v379.toNat, 384]
def k0_off14 (i : grid0.Coords) (c0_i32_266 : BitVec 32) : Fin 3 → Nat :=
  let c4_i32 : BitVec 32 := 4#32
  let arg1 : BitVec 32 := BitVec.ofNat 32 (i 1).val
  let v9 : BitVec 32 := Scalar.muli c4_i32 arg1
  let v376 : BitVec 32 := Scalar.addi v9 c0_i32_266
  let v384 : Index := Scalar.indexCast v376
  let c192 : Index := 192#32
  let c0_271 : Index := 0#32
  ![v384.toNat, 192, 0]
def k0_mult32 (i : grid0.Coords) : BitVec 32 :=
  let c4_i32 : BitVec 32 := 4#32
  let arg1 : BitVec 32 := BitVec.ofNat 32 (i 1).val
  let v9 : BitVec 32 := Scalar.muli c4_i32 arg1
  let c1_i32_272 : BitVec 32 := 1#32
  let v387 : BitVec 32 := Scalar.addi v9 c1_i32_272
  let c256_i32_273 : BitVec 32 := 256#32
  let v388 : BitVec 32 := Scalar.muli v387 c256_i32_273
  v388
def k0_mult33 (i : grid0.Coords) : BitVec 32 :=
  let c4_i32 : BitVec 32 := 4#32
  let arg1 : BitVec 32 := BitVec.ofNat 32 (i 1).val
  let v9 : BitVec 32 := Scalar.muli c4_i32 arg1
  let c1_i32_280 : BitVec 32 := 1#32
  let v398 : BitVec 32 := Scalar.addi v9 c1_i32_280
  let c1_i32_281 : BitVec 32 := 1#32
  let v399 : BitVec 32 := Scalar.subi v398 c1_i32_281
  let c0_i32_282 : BitVec 32 := 0#32
  let v400 : BitVec 32 := Scalar.subi v399 c0_i32_282
  let c256_i32_283 : BitVec 32 := 256#32
  let v401 : BitVec 32 := Scalar.muli v400 c256_i32_283
  v401
def k0_off15 (i : grid0.Coords) (c1_i32_280 : BitVec 32) (c0_i32_282 : BitVec 32) : Fin 2 → Nat :=
  let c4_i32 : BitVec 32 := 4#32
  let arg1 : BitVec 32 := BitVec.ofNat 32 (i 1).val
  let v9 : BitVec 32 := Scalar.muli c4_i32 arg1
  let v398 : BitVec 32 := Scalar.addi v9 c1_i32_280
  let c1_i32_281 : BitVec 32 := 1#32
  let v399 : BitVec 32 := Scalar.subi v398 c1_i32_281
  let v400 : BitVec 32 := Scalar.subi v399 c0_i32_282
  let c256_i32_283 : BitVec 32 := 256#32
  let v401 : BitVec 32 := Scalar.muli v400 c256_i32_283
  let v402 : BitVec 32 := v401
  let v403 : Index := Scalar.indexCast v402
  let c384_284 : Index := 384#32
  ![v403.toNat, 384]
def k0_off15_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_off16 (i : grid0.Coords) (c1_i32_280 : BitVec 32) (c0_i32_282 : BitVec 32) : Fin 3 → Nat :=
  let c4_i32 : BitVec 32 := 4#32
  let arg1 : BitVec 32 := BitVec.ofNat 32 (i 1).val
  let v9 : BitVec 32 := Scalar.muli c4_i32 arg1
  let v398 : BitVec 32 := Scalar.addi v9 c1_i32_280
  let c1_i32_281 : BitVec 32 := 1#32
  let v399 : BitVec 32 := Scalar.subi v398 c1_i32_281
  let v400 : BitVec 32 := Scalar.subi v399 c0_i32_282
  let v408 : Index := Scalar.indexCast v400
  let c192_288 : Index := 192#32
  let c0_289 : Index := 0#32
  ![v408.toNat, 192, 0]
def k0_off16_at (r : Fin 6) : BitVec 32 × BitVec 32 :=
  if r.val < 3 then
    if r.val < 1 then
      (1#32, 0#32)
    else
      if r.val < 2 then
        (2#32, 0#32)
      else
        (2#32, 1#32)
  else
    if r.val < 4 then
      (3#32, 0#32)
    else
      if r.val < 5 then
        (3#32, 1#32)
      else
        (3#32, 2#32)
def k0_mult34 (i : grid0.Coords) : BitVec 32 :=
  let c4_i32 : BitVec 32 := 4#32
  let arg1 : BitVec 32 := BitVec.ofNat 32 (i 1).val
  let v9 : BitVec 32 := Scalar.muli c4_i32 arg1
  let c2_i32_290 : BitVec 32 := 2#32
  let v411 : BitVec 32 := Scalar.addi v9 c2_i32_290
  let c256_i32_291 : BitVec 32 := 256#32
  let v412 : BitVec 32 := Scalar.muli v411 c256_i32_291
  v412
def k0_mult35 (i : grid0.Coords) : BitVec 32 :=
  let c4_i32 : BitVec 32 := 4#32
  let arg1 : BitVec 32 := BitVec.ofNat 32 (i 1).val
  let v9 : BitVec 32 := Scalar.muli c4_i32 arg1
  let c2_i32_298 : BitVec 32 := 2#32
  let v422 : BitVec 32 := Scalar.addi v9 c2_i32_298
  let c1_i32_299 : BitVec 32 := 1#32
  let v423 : BitVec 32 := Scalar.subi v422 c1_i32_299
  let c0_i32_300 : BitVec 32 := 0#32
  let v424 : BitVec 32 := Scalar.subi v423 c0_i32_300
  let c256_i32_301 : BitVec 32 := 256#32
  let v425 : BitVec 32 := Scalar.muli v424 c256_i32_301
  v425
def k0_mult36 (i : grid0.Coords) : BitVec 32 :=
  let c4_i32 : BitVec 32 := 4#32
  let arg1 : BitVec 32 := BitVec.ofNat 32 (i 1).val
  let v9 : BitVec 32 := Scalar.muli c4_i32 arg1
  let c2_i32_308 : BitVec 32 := 2#32
  let v435 : BitVec 32 := Scalar.addi v9 c2_i32_308
  let c1_i32_309 : BitVec 32 := 1#32
  let v436 : BitVec 32 := Scalar.subi v435 c1_i32_309
  let c1_i32_310 : BitVec 32 := 1#32
  let v437 : BitVec 32 := Scalar.subi v436 c1_i32_310
  let c256_i32_311 : BitVec 32 := 256#32
  let v438 : BitVec 32 := Scalar.muli v437 c256_i32_311
  v438
def k0_mult37 (i : grid0.Coords) : BitVec 32 :=
  let c4_i32 : BitVec 32 := 4#32
  let arg1 : BitVec 32 := BitVec.ofNat 32 (i 1).val
  let v9 : BitVec 32 := Scalar.muli c4_i32 arg1
  let c3_i32_318 : BitVec 32 := 3#32
  let v448 : BitVec 32 := Scalar.addi v9 c3_i32_318
  let c256_i32_319 : BitVec 32 := 256#32
  let v449 : BitVec 32 := Scalar.muli v448 c256_i32_319
  v449
def k0_mult38 (i : grid0.Coords) : BitVec 32 :=
  let c4_i32 : BitVec 32 := 4#32
  let arg1 : BitVec 32 := BitVec.ofNat 32 (i 1).val
  let v9 : BitVec 32 := Scalar.muli c4_i32 arg1
  let c3_i32_326 : BitVec 32 := 3#32
  let v459 : BitVec 32 := Scalar.addi v9 c3_i32_326
  let c1_i32_327 : BitVec 32 := 1#32
  let v460 : BitVec 32 := Scalar.subi v459 c1_i32_327
  let c0_i32_328 : BitVec 32 := 0#32
  let v461 : BitVec 32 := Scalar.subi v460 c0_i32_328
  let c256_i32_329 : BitVec 32 := 256#32
  let v462 : BitVec 32 := Scalar.muli v461 c256_i32_329
  v462
def k0_mult39 (i : grid0.Coords) : BitVec 32 :=
  let c4_i32 : BitVec 32 := 4#32
  let arg1 : BitVec 32 := BitVec.ofNat 32 (i 1).val
  let v9 : BitVec 32 := Scalar.muli c4_i32 arg1
  let c3_i32_336 : BitVec 32 := 3#32
  let v472 : BitVec 32 := Scalar.addi v9 c3_i32_336
  let c1_i32_337 : BitVec 32 := 1#32
  let v473 : BitVec 32 := Scalar.subi v472 c1_i32_337
  let c1_i32_338 : BitVec 32 := 1#32
  let v474 : BitVec 32 := Scalar.subi v473 c1_i32_338
  let c256_i32_339 : BitVec 32 := 256#32
  let v475 : BitVec 32 := Scalar.muli v474 c256_i32_339
  v475
def k0_mult40 (i : grid0.Coords) : BitVec 32 :=
  let c4_i32 : BitVec 32 := 4#32
  let arg1 : BitVec 32 := BitVec.ofNat 32 (i 1).val
  let v9 : BitVec 32 := Scalar.muli c4_i32 arg1
  let c3_i32_346 : BitVec 32 := 3#32
  let v485 : BitVec 32 := Scalar.addi v9 c3_i32_346
  let c1_i32_347 : BitVec 32 := 1#32
  let v486 : BitVec 32 := Scalar.subi v485 c1_i32_347
  let c2_i32_348 : BitVec 32 := 2#32
  let v487 : BitVec 32 := Scalar.subi v486 c2_i32_348
  let c256_i32_349 : BitVec 32 := 256#32
  let v488 : BitVec 32 := Scalar.muli v487 c256_i32_349
  v488
@[reducible] def k0_t1_loop (i : grid0.Coords) : Scf.Loop 32 :=
  let c0_i32_1022 : BitVec 32 := 0#32
  let c4_i32 : BitVec 32 := 4#32
  let arg1 : BitVec 32 := BitVec.ofNat 32 (i 1).val
  let v9 : BitVec 32 := Scalar.muli c4_i32 arg1
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1024 : BitVec 32 := 1#32
  ⟨c0_i32_1022, v1695, c1_i32_1024⟩
def k0_mult41 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1032 : BitVec 32 := 0#32
  let v1704 : BitVec 32 := Scalar.subi v1703 c0_i32_1032
  let c256_i32_1033 : BitVec 32 := 256#32
  let v1705 : BitVec 32 := Scalar.muli v1704 c256_i32_1033
  v1705
def k0_off17 (i : grid0.Coords) (k0_t1 : Fin (k0_t1_loop i).trips) (c0_i32_1032 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v1704 : BitVec 32 := Scalar.subi v1703 c0_i32_1032
  let c256_i32_1033 : BitVec 32 := 256#32
  let v1705 : BitVec 32 := Scalar.muli v1704 c256_i32_1033
  let v1706 : BitVec 32 := v1705
  let v1707 : Index := Scalar.indexCast v1706
  let c0_1034 : Index := 0#32
  ![v1707.toNat, 0]
def k0_off18 (i : grid0.Coords) (k0_t1 : Fin (k0_t1_loop i).trips) (c0_i32_1032 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v1704 : BitVec 32 := Scalar.subi v1703 c0_i32_1032
  let v1712 : Index := Scalar.indexCast v1704
  let c0_1038 : Index := 0#32
  let c0_1039 : Index := 0#32
  ![v1712.toNat, 0, 0]
def k0_mult42 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1040 : BitVec 32 := 1#32
  let v1715 : BitVec 32 := Scalar.subi v1703 c1_i32_1040
  let c256_i32_1041 : BitVec 32 := 256#32
  let v1716 : BitVec 32 := Scalar.muli v1715 c256_i32_1041
  v1716
def k0_mult43 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1048 : BitVec 32 := 2#32
  let v1726 : BitVec 32 := Scalar.subi v1703 c2_i32_1048
  let c256_i32_1049 : BitVec 32 := 256#32
  let v1727 : BitVec 32 := Scalar.muli v1726 c256_i32_1049
  v1727
def k0_mult44 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1056 : BitVec 32 := 3#32
  let v1737 : BitVec 32 := Scalar.subi v1703 c3_i32_1056
  let c256_i32_1057 : BitVec 32 := 256#32
  let v1738 : BitVec 32 := Scalar.muli v1737 c256_i32_1057
  v1738
def k0_mult45 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1064 : BitVec 32 := 0#32
  let v1748 : BitVec 32 := Scalar.subi v1703 c0_i32_1064
  let c256_i32_1065 : BitVec 32 := 256#32
  let v1749 : BitVec 32 := Scalar.muli v1748 c256_i32_1065
  v1749
def k0_mult46 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1072 : BitVec 32 := 1#32
  let v1759 : BitVec 32 := Scalar.subi v1703 c1_i32_1072
  let c256_i32_1073 : BitVec 32 := 256#32
  let v1760 : BitVec 32 := Scalar.muli v1759 c256_i32_1073
  v1760
def k0_mult47 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1080 : BitVec 32 := 2#32
  let v1770 : BitVec 32 := Scalar.subi v1703 c2_i32_1080
  let c256_i32_1081 : BitVec 32 := 256#32
  let v1771 : BitVec 32 := Scalar.muli v1770 c256_i32_1081
  v1771
def k0_mult48 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1088 : BitVec 32 := 3#32
  let v1781 : BitVec 32 := Scalar.subi v1703 c3_i32_1088
  let c256_i32_1089 : BitVec 32 := 256#32
  let v1782 : BitVec 32 := Scalar.muli v1781 c256_i32_1089
  v1782
def k0_mult49 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1096 : BitVec 32 := 0#32
  let v1792 : BitVec 32 := Scalar.subi v1703 c0_i32_1096
  let c256_i32_1097 : BitVec 32 := 256#32
  let v1793 : BitVec 32 := Scalar.muli v1792 c256_i32_1097
  v1793
def k0_mult50 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1104 : BitVec 32 := 1#32
  let v1803 : BitVec 32 := Scalar.subi v1703 c1_i32_1104
  let c256_i32_1105 : BitVec 32 := 256#32
  let v1804 : BitVec 32 := Scalar.muli v1803 c256_i32_1105
  v1804
def k0_mult51 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1112 : BitVec 32 := 2#32
  let v1814 : BitVec 32 := Scalar.subi v1703 c2_i32_1112
  let c256_i32_1113 : BitVec 32 := 256#32
  let v1815 : BitVec 32 := Scalar.muli v1814 c256_i32_1113
  v1815
def k0_mult52 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1120 : BitVec 32 := 3#32
  let v1825 : BitVec 32 := Scalar.subi v1703 c3_i32_1120
  let c256_i32_1121 : BitVec 32 := 256#32
  let v1826 : BitVec 32 := Scalar.muli v1825 c256_i32_1121
  v1826
def k0_mult53 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1128 : BitVec 32 := 0#32
  let v1836 : BitVec 32 := Scalar.subi v1703 c0_i32_1128
  let c256_i32_1129 : BitVec 32 := 256#32
  let v1837 : BitVec 32 := Scalar.muli v1836 c256_i32_1129
  v1837
def k0_mult54 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1136 : BitVec 32 := 1#32
  let v1847 : BitVec 32 := Scalar.subi v1703 c1_i32_1136
  let c256_i32_1137 : BitVec 32 := 256#32
  let v1848 : BitVec 32 := Scalar.muli v1847 c256_i32_1137
  v1848
def k0_mult55 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1144 : BitVec 32 := 2#32
  let v1858 : BitVec 32 := Scalar.subi v1703 c2_i32_1144
  let c256_i32_1145 : BitVec 32 := 256#32
  let v1859 : BitVec 32 := Scalar.muli v1858 c256_i32_1145
  v1859
def k0_mult56 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1152 : BitVec 32 := 3#32
  let v1869 : BitVec 32 := Scalar.subi v1703 c3_i32_1152
  let c256_i32_1153 : BitVec 32 := 256#32
  let v1870 : BitVec 32 := Scalar.muli v1869 c256_i32_1153
  v1870
def k0_mult57 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1160 : BitVec 32 := 0#32
  let v1880 : BitVec 32 := Scalar.subi v1703 c0_i32_1160
  let c256_i32_1161 : BitVec 32 := 256#32
  let v1881 : BitVec 32 := Scalar.muli v1880 c256_i32_1161
  v1881
def k0_off19 (i : grid0.Coords) (k0_t1 : Fin (k0_t1_loop i).trips) (c0_i32_1160 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v1880 : BitVec 32 := Scalar.subi v1703 c0_i32_1160
  let c256_i32_1161 : BitVec 32 := 256#32
  let v1881 : BitVec 32 := Scalar.muli v1880 c256_i32_1161
  let v1882 : BitVec 32 := v1881
  let v1883 : Index := Scalar.indexCast v1882
  let c128_1162 : Index := 128#32
  ![v1883.toNat, 128]
def k0_off20 (i : grid0.Coords) (k0_t1 : Fin (k0_t1_loop i).trips) (c0_i32_1160 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v1880 : BitVec 32 := Scalar.subi v1703 c0_i32_1160
  let v1888 : Index := Scalar.indexCast v1880
  let c64_1166 : Index := 64#32
  let c0_1167 : Index := 0#32
  ![v1888.toNat, 64, 0]
def k0_mult58 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1168 : BitVec 32 := 1#32
  let v1891 : BitVec 32 := Scalar.subi v1703 c1_i32_1168
  let c256_i32_1169 : BitVec 32 := 256#32
  let v1892 : BitVec 32 := Scalar.muli v1891 c256_i32_1169
  v1892
def k0_mult59 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1176 : BitVec 32 := 2#32
  let v1902 : BitVec 32 := Scalar.subi v1703 c2_i32_1176
  let c256_i32_1177 : BitVec 32 := 256#32
  let v1903 : BitVec 32 := Scalar.muli v1902 c256_i32_1177
  v1903
def k0_mult60 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1184 : BitVec 32 := 3#32
  let v1913 : BitVec 32 := Scalar.subi v1703 c3_i32_1184
  let c256_i32_1185 : BitVec 32 := 256#32
  let v1914 : BitVec 32 := Scalar.muli v1913 c256_i32_1185
  v1914
def k0_mult61 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1192 : BitVec 32 := 0#32
  let v1924 : BitVec 32 := Scalar.subi v1703 c0_i32_1192
  let c256_i32_1193 : BitVec 32 := 256#32
  let v1925 : BitVec 32 := Scalar.muli v1924 c256_i32_1193
  v1925
def k0_mult62 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1200 : BitVec 32 := 1#32
  let v1935 : BitVec 32 := Scalar.subi v1703 c1_i32_1200
  let c256_i32_1201 : BitVec 32 := 256#32
  let v1936 : BitVec 32 := Scalar.muli v1935 c256_i32_1201
  v1936
def k0_mult63 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1208 : BitVec 32 := 2#32
  let v1946 : BitVec 32 := Scalar.subi v1703 c2_i32_1208
  let c256_i32_1209 : BitVec 32 := 256#32
  let v1947 : BitVec 32 := Scalar.muli v1946 c256_i32_1209
  v1947
def k0_mult64 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1216 : BitVec 32 := 3#32
  let v1957 : BitVec 32 := Scalar.subi v1703 c3_i32_1216
  let c256_i32_1217 : BitVec 32 := 256#32
  let v1958 : BitVec 32 := Scalar.muli v1957 c256_i32_1217
  v1958
def k0_mult65 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1224 : BitVec 32 := 0#32
  let v1968 : BitVec 32 := Scalar.subi v1703 c0_i32_1224
  let c256_i32_1225 : BitVec 32 := 256#32
  let v1969 : BitVec 32 := Scalar.muli v1968 c256_i32_1225
  v1969
def k0_mult66 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1232 : BitVec 32 := 1#32
  let v1979 : BitVec 32 := Scalar.subi v1703 c1_i32_1232
  let c256_i32_1233 : BitVec 32 := 256#32
  let v1980 : BitVec 32 := Scalar.muli v1979 c256_i32_1233
  v1980
def k0_mult67 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1240 : BitVec 32 := 2#32
  let v1990 : BitVec 32 := Scalar.subi v1703 c2_i32_1240
  let c256_i32_1241 : BitVec 32 := 256#32
  let v1991 : BitVec 32 := Scalar.muli v1990 c256_i32_1241
  v1991
def k0_mult68 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1248 : BitVec 32 := 3#32
  let v2001 : BitVec 32 := Scalar.subi v1703 c3_i32_1248
  let c256_i32_1249 : BitVec 32 := 256#32
  let v2002 : BitVec 32 := Scalar.muli v2001 c256_i32_1249
  v2002
def k0_mult69 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1256 : BitVec 32 := 0#32
  let v2012 : BitVec 32 := Scalar.subi v1703 c0_i32_1256
  let c256_i32_1257 : BitVec 32 := 256#32
  let v2013 : BitVec 32 := Scalar.muli v2012 c256_i32_1257
  v2013
def k0_mult70 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1264 : BitVec 32 := 1#32
  let v2023 : BitVec 32 := Scalar.subi v1703 c1_i32_1264
  let c256_i32_1265 : BitVec 32 := 256#32
  let v2024 : BitVec 32 := Scalar.muli v2023 c256_i32_1265
  v2024
def k0_mult71 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1272 : BitVec 32 := 2#32
  let v2034 : BitVec 32 := Scalar.subi v1703 c2_i32_1272
  let c256_i32_1273 : BitVec 32 := 256#32
  let v2035 : BitVec 32 := Scalar.muli v2034 c256_i32_1273
  v2035
def k0_mult72 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1280 : BitVec 32 := 3#32
  let v2045 : BitVec 32 := Scalar.subi v1703 c3_i32_1280
  let c256_i32_1281 : BitVec 32 := 256#32
  let v2046 : BitVec 32 := Scalar.muli v2045 c256_i32_1281
  v2046
def k0_mult73 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1288 : BitVec 32 := 0#32
  let v2056 : BitVec 32 := Scalar.subi v1703 c0_i32_1288
  let c256_i32_1289 : BitVec 32 := 256#32
  let v2057 : BitVec 32 := Scalar.muli v2056 c256_i32_1289
  v2057
def k0_off21 (i : grid0.Coords) (k0_t1 : Fin (k0_t1_loop i).trips) (c0_i32_1288 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v2056 : BitVec 32 := Scalar.subi v1703 c0_i32_1288
  let c256_i32_1289 : BitVec 32 := 256#32
  let v2057 : BitVec 32 := Scalar.muli v2056 c256_i32_1289
  let v2058 : BitVec 32 := v2057
  let v2059 : Index := Scalar.indexCast v2058
  let c256_1290 : Index := 256#32
  ![v2059.toNat, 256]
def k0_off22 (i : grid0.Coords) (k0_t1 : Fin (k0_t1_loop i).trips) (c0_i32_1288 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v2056 : BitVec 32 := Scalar.subi v1703 c0_i32_1288
  let v2064 : Index := Scalar.indexCast v2056
  let c128_1294 : Index := 128#32
  let c0_1295 : Index := 0#32
  ![v2064.toNat, 128, 0]
def k0_mult74 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1296 : BitVec 32 := 1#32
  let v2067 : BitVec 32 := Scalar.subi v1703 c1_i32_1296
  let c256_i32_1297 : BitVec 32 := 256#32
  let v2068 : BitVec 32 := Scalar.muli v2067 c256_i32_1297
  v2068
def k0_mult75 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1304 : BitVec 32 := 2#32
  let v2078 : BitVec 32 := Scalar.subi v1703 c2_i32_1304
  let c256_i32_1305 : BitVec 32 := 256#32
  let v2079 : BitVec 32 := Scalar.muli v2078 c256_i32_1305
  v2079
def k0_mult76 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1312 : BitVec 32 := 3#32
  let v2089 : BitVec 32 := Scalar.subi v1703 c3_i32_1312
  let c256_i32_1313 : BitVec 32 := 256#32
  let v2090 : BitVec 32 := Scalar.muli v2089 c256_i32_1313
  v2090
def k0_mult77 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1320 : BitVec 32 := 0#32
  let v2100 : BitVec 32 := Scalar.subi v1703 c0_i32_1320
  let c256_i32_1321 : BitVec 32 := 256#32
  let v2101 : BitVec 32 := Scalar.muli v2100 c256_i32_1321
  v2101
def k0_mult78 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1328 : BitVec 32 := 1#32
  let v2111 : BitVec 32 := Scalar.subi v1703 c1_i32_1328
  let c256_i32_1329 : BitVec 32 := 256#32
  let v2112 : BitVec 32 := Scalar.muli v2111 c256_i32_1329
  v2112
def k0_mult79 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1336 : BitVec 32 := 2#32
  let v2122 : BitVec 32 := Scalar.subi v1703 c2_i32_1336
  let c256_i32_1337 : BitVec 32 := 256#32
  let v2123 : BitVec 32 := Scalar.muli v2122 c256_i32_1337
  v2123
def k0_mult80 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1344 : BitVec 32 := 3#32
  let v2133 : BitVec 32 := Scalar.subi v1703 c3_i32_1344
  let c256_i32_1345 : BitVec 32 := 256#32
  let v2134 : BitVec 32 := Scalar.muli v2133 c256_i32_1345
  v2134
def k0_mult81 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1352 : BitVec 32 := 0#32
  let v2144 : BitVec 32 := Scalar.subi v1703 c0_i32_1352
  let c256_i32_1353 : BitVec 32 := 256#32
  let v2145 : BitVec 32 := Scalar.muli v2144 c256_i32_1353
  v2145
def k0_mult82 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1360 : BitVec 32 := 1#32
  let v2155 : BitVec 32 := Scalar.subi v1703 c1_i32_1360
  let c256_i32_1361 : BitVec 32 := 256#32
  let v2156 : BitVec 32 := Scalar.muli v2155 c256_i32_1361
  v2156
def k0_mult83 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1368 : BitVec 32 := 2#32
  let v2166 : BitVec 32 := Scalar.subi v1703 c2_i32_1368
  let c256_i32_1369 : BitVec 32 := 256#32
  let v2167 : BitVec 32 := Scalar.muli v2166 c256_i32_1369
  v2167
def k0_mult84 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1376 : BitVec 32 := 3#32
  let v2177 : BitVec 32 := Scalar.subi v1703 c3_i32_1376
  let c256_i32_1377 : BitVec 32 := 256#32
  let v2178 : BitVec 32 := Scalar.muli v2177 c256_i32_1377
  v2178
def k0_mult85 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1384 : BitVec 32 := 0#32
  let v2188 : BitVec 32 := Scalar.subi v1703 c0_i32_1384
  let c256_i32_1385 : BitVec 32 := 256#32
  let v2189 : BitVec 32 := Scalar.muli v2188 c256_i32_1385
  v2189
def k0_mult86 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1392 : BitVec 32 := 1#32
  let v2199 : BitVec 32 := Scalar.subi v1703 c1_i32_1392
  let c256_i32_1393 : BitVec 32 := 256#32
  let v2200 : BitVec 32 := Scalar.muli v2199 c256_i32_1393
  v2200
def k0_mult87 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1400 : BitVec 32 := 2#32
  let v2210 : BitVec 32 := Scalar.subi v1703 c2_i32_1400
  let c256_i32_1401 : BitVec 32 := 256#32
  let v2211 : BitVec 32 := Scalar.muli v2210 c256_i32_1401
  v2211
def k0_mult88 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1408 : BitVec 32 := 3#32
  let v2221 : BitVec 32 := Scalar.subi v1703 c3_i32_1408
  let c256_i32_1409 : BitVec 32 := 256#32
  let v2222 : BitVec 32 := Scalar.muli v2221 c256_i32_1409
  v2222
def k0_mult89 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1416 : BitVec 32 := 0#32
  let v2232 : BitVec 32 := Scalar.subi v1703 c0_i32_1416
  let c256_i32_1417 : BitVec 32 := 256#32
  let v2233 : BitVec 32 := Scalar.muli v2232 c256_i32_1417
  v2233
def k0_off23 (i : grid0.Coords) (k0_t1 : Fin (k0_t1_loop i).trips) (c0_i32_1416 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v2232 : BitVec 32 := Scalar.subi v1703 c0_i32_1416
  let c256_i32_1417 : BitVec 32 := 256#32
  let v2233 : BitVec 32 := Scalar.muli v2232 c256_i32_1417
  let v2234 : BitVec 32 := v2233
  let v2235 : Index := Scalar.indexCast v2234
  let c384_1418 : Index := 384#32
  ![v2235.toNat, 384]
def k0_off24 (i : grid0.Coords) (k0_t1 : Fin (k0_t1_loop i).trips) (c0_i32_1416 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let v2232 : BitVec 32 := Scalar.subi v1703 c0_i32_1416
  let v2240 : Index := Scalar.indexCast v2232
  let c192_1422 : Index := 192#32
  let c0_1423 : Index := 0#32
  ![v2240.toNat, 192, 0]
def k0_mult90 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1424 : BitVec 32 := 1#32
  let v2243 : BitVec 32 := Scalar.subi v1703 c1_i32_1424
  let c256_i32_1425 : BitVec 32 := 256#32
  let v2244 : BitVec 32 := Scalar.muli v2243 c256_i32_1425
  v2244
def k0_mult91 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1432 : BitVec 32 := 2#32
  let v2254 : BitVec 32 := Scalar.subi v1703 c2_i32_1432
  let c256_i32_1433 : BitVec 32 := 256#32
  let v2255 : BitVec 32 := Scalar.muli v2254 c256_i32_1433
  v2255
def k0_mult92 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1440 : BitVec 32 := 3#32
  let v2265 : BitVec 32 := Scalar.subi v1703 c3_i32_1440
  let c256_i32_1441 : BitVec 32 := 256#32
  let v2266 : BitVec 32 := Scalar.muli v2265 c256_i32_1441
  v2266
def k0_mult93 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1448 : BitVec 32 := 0#32
  let v2276 : BitVec 32 := Scalar.subi v1703 c0_i32_1448
  let c256_i32_1449 : BitVec 32 := 256#32
  let v2277 : BitVec 32 := Scalar.muli v2276 c256_i32_1449
  v2277
def k0_mult94 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1456 : BitVec 32 := 1#32
  let v2287 : BitVec 32 := Scalar.subi v1703 c1_i32_1456
  let c256_i32_1457 : BitVec 32 := 256#32
  let v2288 : BitVec 32 := Scalar.muli v2287 c256_i32_1457
  v2288
def k0_mult95 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1464 : BitVec 32 := 2#32
  let v2298 : BitVec 32 := Scalar.subi v1703 c2_i32_1464
  let c256_i32_1465 : BitVec 32 := 256#32
  let v2299 : BitVec 32 := Scalar.muli v2298 c256_i32_1465
  v2299
def k0_mult96 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1472 : BitVec 32 := 3#32
  let v2309 : BitVec 32 := Scalar.subi v1703 c3_i32_1472
  let c256_i32_1473 : BitVec 32 := 256#32
  let v2310 : BitVec 32 := Scalar.muli v2309 c256_i32_1473
  v2310
def k0_mult97 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1480 : BitVec 32 := 0#32
  let v2320 : BitVec 32 := Scalar.subi v1703 c0_i32_1480
  let c256_i32_1481 : BitVec 32 := 256#32
  let v2321 : BitVec 32 := Scalar.muli v2320 c256_i32_1481
  v2321
def k0_mult98 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1488 : BitVec 32 := 1#32
  let v2331 : BitVec 32 := Scalar.subi v1703 c1_i32_1488
  let c256_i32_1489 : BitVec 32 := 256#32
  let v2332 : BitVec 32 := Scalar.muli v2331 c256_i32_1489
  v2332
def k0_mult99 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1496 : BitVec 32 := 2#32
  let v2342 : BitVec 32 := Scalar.subi v1703 c2_i32_1496
  let c256_i32_1497 : BitVec 32 := 256#32
  let v2343 : BitVec 32 := Scalar.muli v2342 c256_i32_1497
  v2343
def k0_mult100 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1504 : BitVec 32 := 3#32
  let v2353 : BitVec 32 := Scalar.subi v1703 c3_i32_1504
  let c256_i32_1505 : BitVec 32 := 256#32
  let v2354 : BitVec 32 := Scalar.muli v2353 c256_i32_1505
  v2354
def k0_mult101 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c0_i32_1512 : BitVec 32 := 0#32
  let v2364 : BitVec 32 := Scalar.subi v1703 c0_i32_1512
  let c256_i32_1513 : BitVec 32 := 256#32
  let v2365 : BitVec 32 := Scalar.muli v2364 c256_i32_1513
  v2365
def k0_mult102 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c1_i32_1520 : BitVec 32 := 1#32
  let v2375 : BitVec 32 := Scalar.subi v1703 c1_i32_1520
  let c256_i32_1521 : BitVec 32 := 256#32
  let v2376 : BitVec 32 := Scalar.muli v2375 c256_i32_1521
  v2376
def k0_mult103 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c2_i32_1528 : BitVec 32 := 2#32
  let v2386 : BitVec 32 := Scalar.subi v1703 c2_i32_1528
  let c256_i32_1529 : BitVec 32 := 256#32
  let v2387 : BitVec 32 := Scalar.muli v2386 c256_i32_1529
  v2387
def k0_mult104 (i : grid0.Coords) (k0_t1 : Fin (k0_t1_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c1_i32_1024 : BitVec 32 := 1#32
  let arg8 : BitVec 32 := Scf.iv c0_i32_1022 c1_i32_1024 k0_t1
  let c4_i32_1031 : BitVec 32 := 4#32
  let v1702 : BitVec 32 := Scalar.muli arg8 c4_i32_1031
  let v1703 : BitVec 32 := Scalar.subi v1701 v1702
  let c3_i32_1536 : BitVec 32 := 3#32
  let v2397 : BitVec 32 := Scalar.subi v1703 c3_i32_1536
  let c256_i32_1537 : BitVec 32 := 256#32
  let v2398 : BitVec 32 := Scalar.muli v2397 c256_i32_1537
  v2398
@[reducible] def k0_t2_loop (i : grid0.Coords) : Scf.Loop 32 :=
  let c0_i32_1022 : BitVec 32 := 0#32
  let c4_i32 : BitVec 32 := 4#32
  let arg1 : BitVec 32 := BitVec.ofNat 32 (i 1).val
  let v9 : BitVec 32 := Scalar.muli c4_i32 arg1
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let v1692 : BitVec 32 := Scalar.addi c0_i32_1022 v1691
  let c1_i32_1025 : BitVec 32 := 1#32
  ⟨v1695, v1692, c1_i32_1025⟩
def k0_mult105 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1032 : BitVec 32 := 0#32
  let v1704 : BitVec 32 := Scalar.subi v1703 c0_i32_1032
  let c256_i32_1033 : BitVec 32 := 256#32
  let v1705 : BitVec 32 := Scalar.muli v1704 c256_i32_1033
  v1705
def k0_off25 (i : grid0.Coords) (k0_t2 : Fin (k0_t2_loop i).trips) (c0_i32_1032 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v1704 : BitVec 32 := Scalar.subi v1703 c0_i32_1032
  let c256_i32_1033 : BitVec 32 := 256#32
  let v1705 : BitVec 32 := Scalar.muli v1704 c256_i32_1033
  let v1706 : BitVec 32 := v1705
  let v1707 : Index := Scalar.indexCast v1706
  let c0_1034 : Index := 0#32
  ![v1707.toNat, 0]
def k0_off26 (i : grid0.Coords) (k0_t2 : Fin (k0_t2_loop i).trips) (c0_i32_1032 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v1704 : BitVec 32 := Scalar.subi v1703 c0_i32_1032
  let v1712 : Index := Scalar.indexCast v1704
  let c0_1038 : Index := 0#32
  let c0_1039 : Index := 0#32
  ![v1712.toNat, 0, 0]
def k0_mult106 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1040 : BitVec 32 := 1#32
  let v1715 : BitVec 32 := Scalar.subi v1703 c1_i32_1040
  let c256_i32_1041 : BitVec 32 := 256#32
  let v1716 : BitVec 32 := Scalar.muli v1715 c256_i32_1041
  v1716
def k0_mult107 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1048 : BitVec 32 := 2#32
  let v1726 : BitVec 32 := Scalar.subi v1703 c2_i32_1048
  let c256_i32_1049 : BitVec 32 := 256#32
  let v1727 : BitVec 32 := Scalar.muli v1726 c256_i32_1049
  v1727
def k0_mult108 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1056 : BitVec 32 := 3#32
  let v1737 : BitVec 32 := Scalar.subi v1703 c3_i32_1056
  let c256_i32_1057 : BitVec 32 := 256#32
  let v1738 : BitVec 32 := Scalar.muli v1737 c256_i32_1057
  v1738
def k0_mult109 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1064 : BitVec 32 := 0#32
  let v1748 : BitVec 32 := Scalar.subi v1703 c0_i32_1064
  let c256_i32_1065 : BitVec 32 := 256#32
  let v1749 : BitVec 32 := Scalar.muli v1748 c256_i32_1065
  v1749
def k0_mult110 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1072 : BitVec 32 := 1#32
  let v1759 : BitVec 32 := Scalar.subi v1703 c1_i32_1072
  let c256_i32_1073 : BitVec 32 := 256#32
  let v1760 : BitVec 32 := Scalar.muli v1759 c256_i32_1073
  v1760
def k0_mult111 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1080 : BitVec 32 := 2#32
  let v1770 : BitVec 32 := Scalar.subi v1703 c2_i32_1080
  let c256_i32_1081 : BitVec 32 := 256#32
  let v1771 : BitVec 32 := Scalar.muli v1770 c256_i32_1081
  v1771
def k0_mult112 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1088 : BitVec 32 := 3#32
  let v1781 : BitVec 32 := Scalar.subi v1703 c3_i32_1088
  let c256_i32_1089 : BitVec 32 := 256#32
  let v1782 : BitVec 32 := Scalar.muli v1781 c256_i32_1089
  v1782
def k0_mult113 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1096 : BitVec 32 := 0#32
  let v1792 : BitVec 32 := Scalar.subi v1703 c0_i32_1096
  let c256_i32_1097 : BitVec 32 := 256#32
  let v1793 : BitVec 32 := Scalar.muli v1792 c256_i32_1097
  v1793
def k0_mult114 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1104 : BitVec 32 := 1#32
  let v1803 : BitVec 32 := Scalar.subi v1703 c1_i32_1104
  let c256_i32_1105 : BitVec 32 := 256#32
  let v1804 : BitVec 32 := Scalar.muli v1803 c256_i32_1105
  v1804
def k0_mult115 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1112 : BitVec 32 := 2#32
  let v1814 : BitVec 32 := Scalar.subi v1703 c2_i32_1112
  let c256_i32_1113 : BitVec 32 := 256#32
  let v1815 : BitVec 32 := Scalar.muli v1814 c256_i32_1113
  v1815
def k0_mult116 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1120 : BitVec 32 := 3#32
  let v1825 : BitVec 32 := Scalar.subi v1703 c3_i32_1120
  let c256_i32_1121 : BitVec 32 := 256#32
  let v1826 : BitVec 32 := Scalar.muli v1825 c256_i32_1121
  v1826
def k0_mult117 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1128 : BitVec 32 := 0#32
  let v1836 : BitVec 32 := Scalar.subi v1703 c0_i32_1128
  let c256_i32_1129 : BitVec 32 := 256#32
  let v1837 : BitVec 32 := Scalar.muli v1836 c256_i32_1129
  v1837
def k0_mult118 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1136 : BitVec 32 := 1#32
  let v1847 : BitVec 32 := Scalar.subi v1703 c1_i32_1136
  let c256_i32_1137 : BitVec 32 := 256#32
  let v1848 : BitVec 32 := Scalar.muli v1847 c256_i32_1137
  v1848
def k0_mult119 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1144 : BitVec 32 := 2#32
  let v1858 : BitVec 32 := Scalar.subi v1703 c2_i32_1144
  let c256_i32_1145 : BitVec 32 := 256#32
  let v1859 : BitVec 32 := Scalar.muli v1858 c256_i32_1145
  v1859
def k0_mult120 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1152 : BitVec 32 := 3#32
  let v1869 : BitVec 32 := Scalar.subi v1703 c3_i32_1152
  let c256_i32_1153 : BitVec 32 := 256#32
  let v1870 : BitVec 32 := Scalar.muli v1869 c256_i32_1153
  v1870
def k0_mult121 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1160 : BitVec 32 := 0#32
  let v1880 : BitVec 32 := Scalar.subi v1703 c0_i32_1160
  let c256_i32_1161 : BitVec 32 := 256#32
  let v1881 : BitVec 32 := Scalar.muli v1880 c256_i32_1161
  v1881
def k0_off27 (i : grid0.Coords) (k0_t2 : Fin (k0_t2_loop i).trips) (c0_i32_1160 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v1880 : BitVec 32 := Scalar.subi v1703 c0_i32_1160
  let c256_i32_1161 : BitVec 32 := 256#32
  let v1881 : BitVec 32 := Scalar.muli v1880 c256_i32_1161
  let v1882 : BitVec 32 := v1881
  let v1883 : Index := Scalar.indexCast v1882
  let c128_1162 : Index := 128#32
  ![v1883.toNat, 128]
def k0_off28 (i : grid0.Coords) (k0_t2 : Fin (k0_t2_loop i).trips) (c0_i32_1160 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v1880 : BitVec 32 := Scalar.subi v1703 c0_i32_1160
  let v1888 : Index := Scalar.indexCast v1880
  let c64_1166 : Index := 64#32
  let c0_1167 : Index := 0#32
  ![v1888.toNat, 64, 0]
def k0_mult122 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1168 : BitVec 32 := 1#32
  let v1891 : BitVec 32 := Scalar.subi v1703 c1_i32_1168
  let c256_i32_1169 : BitVec 32 := 256#32
  let v1892 : BitVec 32 := Scalar.muli v1891 c256_i32_1169
  v1892
def k0_mult123 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1176 : BitVec 32 := 2#32
  let v1902 : BitVec 32 := Scalar.subi v1703 c2_i32_1176
  let c256_i32_1177 : BitVec 32 := 256#32
  let v1903 : BitVec 32 := Scalar.muli v1902 c256_i32_1177
  v1903
def k0_mult124 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1184 : BitVec 32 := 3#32
  let v1913 : BitVec 32 := Scalar.subi v1703 c3_i32_1184
  let c256_i32_1185 : BitVec 32 := 256#32
  let v1914 : BitVec 32 := Scalar.muli v1913 c256_i32_1185
  v1914
def k0_mult125 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1192 : BitVec 32 := 0#32
  let v1924 : BitVec 32 := Scalar.subi v1703 c0_i32_1192
  let c256_i32_1193 : BitVec 32 := 256#32
  let v1925 : BitVec 32 := Scalar.muli v1924 c256_i32_1193
  v1925
def k0_mult126 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1200 : BitVec 32 := 1#32
  let v1935 : BitVec 32 := Scalar.subi v1703 c1_i32_1200
  let c256_i32_1201 : BitVec 32 := 256#32
  let v1936 : BitVec 32 := Scalar.muli v1935 c256_i32_1201
  v1936
def k0_mult127 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1208 : BitVec 32 := 2#32
  let v1946 : BitVec 32 := Scalar.subi v1703 c2_i32_1208
  let c256_i32_1209 : BitVec 32 := 256#32
  let v1947 : BitVec 32 := Scalar.muli v1946 c256_i32_1209
  v1947
def k0_mult128 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1216 : BitVec 32 := 3#32
  let v1957 : BitVec 32 := Scalar.subi v1703 c3_i32_1216
  let c256_i32_1217 : BitVec 32 := 256#32
  let v1958 : BitVec 32 := Scalar.muli v1957 c256_i32_1217
  v1958
def k0_mult129 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1224 : BitVec 32 := 0#32
  let v1968 : BitVec 32 := Scalar.subi v1703 c0_i32_1224
  let c256_i32_1225 : BitVec 32 := 256#32
  let v1969 : BitVec 32 := Scalar.muli v1968 c256_i32_1225
  v1969
def k0_mult130 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1232 : BitVec 32 := 1#32
  let v1979 : BitVec 32 := Scalar.subi v1703 c1_i32_1232
  let c256_i32_1233 : BitVec 32 := 256#32
  let v1980 : BitVec 32 := Scalar.muli v1979 c256_i32_1233
  v1980
def k0_mult131 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1240 : BitVec 32 := 2#32
  let v1990 : BitVec 32 := Scalar.subi v1703 c2_i32_1240
  let c256_i32_1241 : BitVec 32 := 256#32
  let v1991 : BitVec 32 := Scalar.muli v1990 c256_i32_1241
  v1991
def k0_mult132 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1248 : BitVec 32 := 3#32
  let v2001 : BitVec 32 := Scalar.subi v1703 c3_i32_1248
  let c256_i32_1249 : BitVec 32 := 256#32
  let v2002 : BitVec 32 := Scalar.muli v2001 c256_i32_1249
  v2002
def k0_mult133 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1256 : BitVec 32 := 0#32
  let v2012 : BitVec 32 := Scalar.subi v1703 c0_i32_1256
  let c256_i32_1257 : BitVec 32 := 256#32
  let v2013 : BitVec 32 := Scalar.muli v2012 c256_i32_1257
  v2013
def k0_mult134 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1264 : BitVec 32 := 1#32
  let v2023 : BitVec 32 := Scalar.subi v1703 c1_i32_1264
  let c256_i32_1265 : BitVec 32 := 256#32
  let v2024 : BitVec 32 := Scalar.muli v2023 c256_i32_1265
  v2024
def k0_mult135 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1272 : BitVec 32 := 2#32
  let v2034 : BitVec 32 := Scalar.subi v1703 c2_i32_1272
  let c256_i32_1273 : BitVec 32 := 256#32
  let v2035 : BitVec 32 := Scalar.muli v2034 c256_i32_1273
  v2035
def k0_mult136 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1280 : BitVec 32 := 3#32
  let v2045 : BitVec 32 := Scalar.subi v1703 c3_i32_1280
  let c256_i32_1281 : BitVec 32 := 256#32
  let v2046 : BitVec 32 := Scalar.muli v2045 c256_i32_1281
  v2046
def k0_mult137 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1288 : BitVec 32 := 0#32
  let v2056 : BitVec 32 := Scalar.subi v1703 c0_i32_1288
  let c256_i32_1289 : BitVec 32 := 256#32
  let v2057 : BitVec 32 := Scalar.muli v2056 c256_i32_1289
  v2057
def k0_off29 (i : grid0.Coords) (k0_t2 : Fin (k0_t2_loop i).trips) (c0_i32_1288 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v2056 : BitVec 32 := Scalar.subi v1703 c0_i32_1288
  let c256_i32_1289 : BitVec 32 := 256#32
  let v2057 : BitVec 32 := Scalar.muli v2056 c256_i32_1289
  let v2058 : BitVec 32 := v2057
  let v2059 : Index := Scalar.indexCast v2058
  let c256_1290 : Index := 256#32
  ![v2059.toNat, 256]
def k0_off30 (i : grid0.Coords) (k0_t2 : Fin (k0_t2_loop i).trips) (c0_i32_1288 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v2056 : BitVec 32 := Scalar.subi v1703 c0_i32_1288
  let v2064 : Index := Scalar.indexCast v2056
  let c128_1294 : Index := 128#32
  let c0_1295 : Index := 0#32
  ![v2064.toNat, 128, 0]
def k0_mult138 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1296 : BitVec 32 := 1#32
  let v2067 : BitVec 32 := Scalar.subi v1703 c1_i32_1296
  let c256_i32_1297 : BitVec 32 := 256#32
  let v2068 : BitVec 32 := Scalar.muli v2067 c256_i32_1297
  v2068
def k0_mult139 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1304 : BitVec 32 := 2#32
  let v2078 : BitVec 32 := Scalar.subi v1703 c2_i32_1304
  let c256_i32_1305 : BitVec 32 := 256#32
  let v2079 : BitVec 32 := Scalar.muli v2078 c256_i32_1305
  v2079
def k0_mult140 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1312 : BitVec 32 := 3#32
  let v2089 : BitVec 32 := Scalar.subi v1703 c3_i32_1312
  let c256_i32_1313 : BitVec 32 := 256#32
  let v2090 : BitVec 32 := Scalar.muli v2089 c256_i32_1313
  v2090
def k0_mult141 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1320 : BitVec 32 := 0#32
  let v2100 : BitVec 32 := Scalar.subi v1703 c0_i32_1320
  let c256_i32_1321 : BitVec 32 := 256#32
  let v2101 : BitVec 32 := Scalar.muli v2100 c256_i32_1321
  v2101
def k0_mult142 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1328 : BitVec 32 := 1#32
  let v2111 : BitVec 32 := Scalar.subi v1703 c1_i32_1328
  let c256_i32_1329 : BitVec 32 := 256#32
  let v2112 : BitVec 32 := Scalar.muli v2111 c256_i32_1329
  v2112
def k0_mult143 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1336 : BitVec 32 := 2#32
  let v2122 : BitVec 32 := Scalar.subi v1703 c2_i32_1336
  let c256_i32_1337 : BitVec 32 := 256#32
  let v2123 : BitVec 32 := Scalar.muli v2122 c256_i32_1337
  v2123
def k0_mult144 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1344 : BitVec 32 := 3#32
  let v2133 : BitVec 32 := Scalar.subi v1703 c3_i32_1344
  let c256_i32_1345 : BitVec 32 := 256#32
  let v2134 : BitVec 32 := Scalar.muli v2133 c256_i32_1345
  v2134
def k0_mult145 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1352 : BitVec 32 := 0#32
  let v2144 : BitVec 32 := Scalar.subi v1703 c0_i32_1352
  let c256_i32_1353 : BitVec 32 := 256#32
  let v2145 : BitVec 32 := Scalar.muli v2144 c256_i32_1353
  v2145
def k0_mult146 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1360 : BitVec 32 := 1#32
  let v2155 : BitVec 32 := Scalar.subi v1703 c1_i32_1360
  let c256_i32_1361 : BitVec 32 := 256#32
  let v2156 : BitVec 32 := Scalar.muli v2155 c256_i32_1361
  v2156
def k0_mult147 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1368 : BitVec 32 := 2#32
  let v2166 : BitVec 32 := Scalar.subi v1703 c2_i32_1368
  let c256_i32_1369 : BitVec 32 := 256#32
  let v2167 : BitVec 32 := Scalar.muli v2166 c256_i32_1369
  v2167
def k0_mult148 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1376 : BitVec 32 := 3#32
  let v2177 : BitVec 32 := Scalar.subi v1703 c3_i32_1376
  let c256_i32_1377 : BitVec 32 := 256#32
  let v2178 : BitVec 32 := Scalar.muli v2177 c256_i32_1377
  v2178
def k0_mult149 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1384 : BitVec 32 := 0#32
  let v2188 : BitVec 32 := Scalar.subi v1703 c0_i32_1384
  let c256_i32_1385 : BitVec 32 := 256#32
  let v2189 : BitVec 32 := Scalar.muli v2188 c256_i32_1385
  v2189
def k0_mult150 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1392 : BitVec 32 := 1#32
  let v2199 : BitVec 32 := Scalar.subi v1703 c1_i32_1392
  let c256_i32_1393 : BitVec 32 := 256#32
  let v2200 : BitVec 32 := Scalar.muli v2199 c256_i32_1393
  v2200
def k0_mult151 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1400 : BitVec 32 := 2#32
  let v2210 : BitVec 32 := Scalar.subi v1703 c2_i32_1400
  let c256_i32_1401 : BitVec 32 := 256#32
  let v2211 : BitVec 32 := Scalar.muli v2210 c256_i32_1401
  v2211
def k0_mult152 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1408 : BitVec 32 := 3#32
  let v2221 : BitVec 32 := Scalar.subi v1703 c3_i32_1408
  let c256_i32_1409 : BitVec 32 := 256#32
  let v2222 : BitVec 32 := Scalar.muli v2221 c256_i32_1409
  v2222
def k0_mult153 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1416 : BitVec 32 := 0#32
  let v2232 : BitVec 32 := Scalar.subi v1703 c0_i32_1416
  let c256_i32_1417 : BitVec 32 := 256#32
  let v2233 : BitVec 32 := Scalar.muli v2232 c256_i32_1417
  v2233
def k0_off31 (i : grid0.Coords) (k0_t2 : Fin (k0_t2_loop i).trips) (c0_i32_1416 : BitVec 32) : Fin 2 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v2232 : BitVec 32 := Scalar.subi v1703 c0_i32_1416
  let c256_i32_1417 : BitVec 32 := 256#32
  let v2233 : BitVec 32 := Scalar.muli v2232 c256_i32_1417
  let v2234 : BitVec 32 := v2233
  let v2235 : Index := Scalar.indexCast v2234
  let c384_1418 : Index := 384#32
  ![v2235.toNat, 384]
def k0_off32 (i : grid0.Coords) (k0_t2 : Fin (k0_t2_loop i).trips) (c0_i32_1416 : BitVec 32) : Fin 3 → Nat :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let v2232 : BitVec 32 := Scalar.subi v1703 c0_i32_1416
  let v2240 : Index := Scalar.indexCast v2232
  let c192_1422 : Index := 192#32
  let c0_1423 : Index := 0#32
  ![v2240.toNat, 192, 0]
def k0_mult154 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1424 : BitVec 32 := 1#32
  let v2243 : BitVec 32 := Scalar.subi v1703 c1_i32_1424
  let c256_i32_1425 : BitVec 32 := 256#32
  let v2244 : BitVec 32 := Scalar.muli v2243 c256_i32_1425
  v2244
def k0_mult155 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1432 : BitVec 32 := 2#32
  let v2254 : BitVec 32 := Scalar.subi v1703 c2_i32_1432
  let c256_i32_1433 : BitVec 32 := 256#32
  let v2255 : BitVec 32 := Scalar.muli v2254 c256_i32_1433
  v2255
def k0_mult156 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1440 : BitVec 32 := 3#32
  let v2265 : BitVec 32 := Scalar.subi v1703 c3_i32_1440
  let c256_i32_1441 : BitVec 32 := 256#32
  let v2266 : BitVec 32 := Scalar.muli v2265 c256_i32_1441
  v2266
def k0_mult157 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1448 : BitVec 32 := 0#32
  let v2276 : BitVec 32 := Scalar.subi v1703 c0_i32_1448
  let c256_i32_1449 : BitVec 32 := 256#32
  let v2277 : BitVec 32 := Scalar.muli v2276 c256_i32_1449
  v2277
def k0_mult158 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1456 : BitVec 32 := 1#32
  let v2287 : BitVec 32 := Scalar.subi v1703 c1_i32_1456
  let c256_i32_1457 : BitVec 32 := 256#32
  let v2288 : BitVec 32 := Scalar.muli v2287 c256_i32_1457
  v2288
def k0_mult159 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1464 : BitVec 32 := 2#32
  let v2298 : BitVec 32 := Scalar.subi v1703 c2_i32_1464
  let c256_i32_1465 : BitVec 32 := 256#32
  let v2299 : BitVec 32 := Scalar.muli v2298 c256_i32_1465
  v2299
def k0_mult160 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1472 : BitVec 32 := 3#32
  let v2309 : BitVec 32 := Scalar.subi v1703 c3_i32_1472
  let c256_i32_1473 : BitVec 32 := 256#32
  let v2310 : BitVec 32 := Scalar.muli v2309 c256_i32_1473
  v2310
def k0_mult161 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1480 : BitVec 32 := 0#32
  let v2320 : BitVec 32 := Scalar.subi v1703 c0_i32_1480
  let c256_i32_1481 : BitVec 32 := 256#32
  let v2321 : BitVec 32 := Scalar.muli v2320 c256_i32_1481
  v2321
def k0_mult162 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1488 : BitVec 32 := 1#32
  let v2331 : BitVec 32 := Scalar.subi v1703 c1_i32_1488
  let c256_i32_1489 : BitVec 32 := 256#32
  let v2332 : BitVec 32 := Scalar.muli v2331 c256_i32_1489
  v2332
def k0_mult163 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1496 : BitVec 32 := 2#32
  let v2342 : BitVec 32 := Scalar.subi v1703 c2_i32_1496
  let c256_i32_1497 : BitVec 32 := 256#32
  let v2343 : BitVec 32 := Scalar.muli v2342 c256_i32_1497
  v2343
def k0_mult164 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1504 : BitVec 32 := 3#32
  let v2353 : BitVec 32 := Scalar.subi v1703 c3_i32_1504
  let c256_i32_1505 : BitVec 32 := 256#32
  let v2354 : BitVec 32 := Scalar.muli v2353 c256_i32_1505
  v2354
def k0_mult165 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c0_i32_1512 : BitVec 32 := 0#32
  let v2364 : BitVec 32 := Scalar.subi v1703 c0_i32_1512
  let c256_i32_1513 : BitVec 32 := 256#32
  let v2365 : BitVec 32 := Scalar.muli v2364 c256_i32_1513
  v2365
def k0_mult166 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c1_i32_1520 : BitVec 32 := 1#32
  let v2375 : BitVec 32 := Scalar.subi v1703 c1_i32_1520
  let c256_i32_1521 : BitVec 32 := 256#32
  let v2376 : BitVec 32 := Scalar.muli v2375 c256_i32_1521
  v2376
def k0_mult167 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c2_i32_1528 : BitVec 32 := 2#32
  let v2386 : BitVec 32 := Scalar.subi v1703 c2_i32_1528
  let c256_i32_1529 : BitVec 32 := 256#32
  let v2387 : BitVec 32 := Scalar.muli v2386 c256_i32_1529
  v2387
def k0_mult168 (i : grid0.Coords) (k0_t2 : Fin (k0_t2_loop i).trips) : BitVec 32 :=
  let c4_i32 : BitVec 32 := 4#32
  let arg1 : BitVec 32 := BitVec.ofNat 32 (i 1).val
  let v9 : BitVec 32 := Scalar.muli c4_i32 arg1
  let c1_i32_1030 : BitVec 32 := 1#32
  let v1701 : BitVec 32 := Scalar.subi v9 c1_i32_1030
  let c0_i32_1022 : BitVec 32 := 0#32
  let c0_i32_1016 : BitVec 32 := 0#32
  let v1675 : BitVec 1 := Scalar.cmpi .sgt v9 c0_i32_1016
  let v1676 : BitVec 32 := Scalar.extui v1675
  let c0_i32_1017 : BitVec 32 := 0#32
  let v1677 : BitVec 1 := Scalar.cmpi .slt v9 c0_i32_1017
  let v1678 : BitVec 32 := Scalar.extui v1677
  let v1679 : BitVec 32 := Scalar.subi v1676 v1678
  let c4_i32_1015 : BitVec 32 := 4#32
  let c0_i32_1018 : BitVec 32 := 0#32
  let v1680 : BitVec 1 := Scalar.cmpi .sgt c4_i32_1015 c0_i32_1018
  let v1681 : BitVec 32 := Scalar.extui v1680
  let c0_i32_1019 : BitVec 32 := 0#32
  let v1682 : BitVec 1 := Scalar.cmpi .slt c4_i32_1015 c0_i32_1019
  let v1683 : BitVec 32 := Scalar.extui v1682
  let v1684 : BitVec 32 := Scalar.subi v1681 v1683
  let v1685 : BitVec 1 := Scalar.cmpi .ne v1679 v1684
  let v1686 : BitVec 32 := Scalar.remsi v9 c4_i32_1015
  let c0_i32_1020 : BitVec 32 := 0#32
  let v1687 : BitVec 1 := Scalar.cmpi .ne v1686 c0_i32_1020
  let v1688 : BitVec 1 := Scalar.andi v1685 v1687
  let v1674 : BitVec 32 := Scalar.divsi v9 c4_i32_1015
  let c1_i32_1021 : BitVec 32 := 1#32
  let v1689 : BitVec 32 := Scalar.subi v1674 c1_i32_1021
  let v1690 : BitVec 32 := Scalar.select v1688 v1689 v1674
  let v1691 : BitVec 32 := Scalar.subi v1690 c0_i32_1022
  let c1_i32_1023 : BitVec 32 := 1#32
  let v1693 : BitVec 32 := Scalar.divsi v1691 c1_i32_1023
  let v1694 : BitVec 32 := Scalar.muli v1693 c1_i32_1023
  let v1695 : BitVec 32 := Scalar.addi c0_i32_1022 v1694
  let c1_i32_1025 : BitVec 32 := 1#32
  let arg8 : BitVec 32 := Scf.iv v1695 c1_i32_1025 k0_t2
  let c4_i32_1031 : BitVec 32 := 4#32
  let v1702 : BitVec 32 := Scalar.muli arg8 c4_i32_1031
  let v1703 : BitVec 32 := Scalar.subi v1701 v1702
  let c3_i32_1536 : BitVec 32 := 3#32
  let v2397 : BitVec 32 := Scalar.subi v1703 c3_i32_1536
  let c256_i32_1537 : BitVec 32 := 256#32
  let v2398 : BitVec 32 := Scalar.muli v2397 c256_i32_1537
  v2398
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | "no_limit" => some ⊤
  | _ => none
-- ==== ReferenceIdeal.lean ====
abbrev S16384x512 : Shape := ⟨2, ![16384, 512]⟩
abbrev S8 : Shape := ⟨1, ![8]⟩
abbrev S16384 : Shape := ⟨1, ![16384]⟩
abbrev S16384x8x64 : Shape := ⟨3, ![16384, 8, 64]⟩
abbrev S8x16384x16384 : Shape := ⟨3, ![8, 16384, 16384]⟩
abbrev S_ : Shape := ⟨0, ![]⟩
abbrev S8x1x1 : Shape := ⟨3, ![8, 1, 1]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S16384, .i32⟩
  | .hbm, ⟨5, _⟩ => ⟨S16384x8x64, .f32⟩
  | .hbm, ⟨6, _⟩ => ⟨S16384x8x64, .f32⟩
  | .hbm, ⟨7, _⟩ => ⟨S16384x8x64, .f32⟩
  | .hbm, ⟨8, _⟩ => ⟨S8x16384x16384, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S8x1x1, .f32⟩
  | .hbm, ⟨13, _⟩ => ⟨S8x16384x16384, .f32⟩
  | .hbm, ⟨14, _⟩ => ⟨S8x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S8x16384x16384, .f32⟩
  | .hbm, ⟨21, _⟩ => ⟨S8x16384x16384, .f32⟩
  | .hbm, ⟨22, _⟩ => ⟨S_, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S_, .f32⟩
  | .hbm, ⟨39, _⟩ => ⟨S8x16384x16384, .i1⟩
  | .hbm, ⟨40, _⟩ => ⟨S8x16384x16384, .f32⟩
  | .hbm, ⟨41, _⟩ => ⟨S8x16384x16384, .f32⟩
  | .hbm, ⟨42, _⟩ => ⟨S_, .f32⟩
  | .hbm, ⟨43, _⟩ => ⟨S_, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S_, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x16384x16384, .i1⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S_, .f32⟩
  | .hbm, ⟨65, _⟩ => ⟨S_, .f32⟩
  | .hbm, ⟨66, _⟩ => ⟨S8x16384x16384, .i1⟩
  | .hbm, ⟨67, _⟩ => ⟨S8x16384x16384, .f32⟩
  | .hbm, ⟨68, _⟩ => ⟨S8x16384x16384, .f32⟩
  | .hbm, ⟨69, _⟩ => ⟨S8x64x16384, .f32⟩
  | .hbm, ⟨70, _⟩ => ⟨S16384x8x64, .f32⟩
  | .hbm, ⟨71, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩

abbrev nD : Nat := 1
abbrev τ : Topo := Topo.v7x

variable {F : FTy → Type} [FloatOps F]
-- ==== KernelMemory.lean ====
abbrev S1x256x1024 : Shape := ⟨3, ![1, 256, 1024]⟩
abbrev S2x1024 : Shape := ⟨2, ![2, 1024]⟩
abbrev S2x1024x1024 : Shape := ⟨3, ![2, 1024, 1024]⟩
abbrev S256x1024 : Shape := ⟨2, ![256, 1024]⟩
abbrev S2x1x1024 : Shape := ⟨3, ![2, 1, 1024]⟩
abbrev S2x256x1024 : Shape := ⟨3, ![2, 256, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S2x256x512 : Shape := ⟨3, ![2, 256, 512]⟩
abbrev S2x1x256x4x128 : Shape := ⟨5, ![2, 1, 256, 4, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S2x1024, .f32⟩
  | .hbm, ⟨2, _⟩ => ⟨S2x1024x1024, .f32⟩
  | .hbm, ⟨3, _⟩ => ⟨S256x1024, .f32⟩
  | .hbm, ⟨4, _⟩ => ⟨S2x1024x1024, .bf16⟩
  | .hbm, ⟨5, _⟩ => ⟨S2x1x1024, .f32⟩
  | .hbm, ⟨6, _⟩ => ⟨S2x256x1024, .f32⟩
  | .hbm, ⟨7, _⟩ => ⟨S2x256x512, .f32⟩
  | .hbm, ⟨8, _⟩ => ⟨S2x1x256x4x128, .f32⟩
  | .hbm, ⟨9, _⟩ => ⟨S2x256x512, .f32⟩
  | .hbm, ⟨10, _⟩ => ⟨S2x1x256x4x128, .f32⟩
  | .local _ .vmem, ⟨0, _⟩ => ⟨S256x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMemoryIdeal.lean ====
abbrev S1x256x1024 : Shape := ⟨3, ![1, 256, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1x256x512 : Shape := ⟨3, ![1, 256, 512]⟩
abbrev S1x256x4x128 : Shape := ⟨4, ![1, 256, 4, 128]⟩
abbrev S1x1x256x4x128 : Shape := ⟨5, ![1, 1, 256, 4, 128]⟩
abbrev S2x1x256x4x128 : Shape := ⟨5, ![2, 1, 256, 4, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1024x1024, .f32⟩
  | .hbm, ⟨7, _⟩ => ⟨S1x256x1024, .f32⟩
  | .hbm, ⟨8, _⟩ => ⟨S_, .f32⟩
  | .hbm, ⟨9, _⟩ => ⟨S1x256, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S1x256x1, .f32⟩
  | .hbm, ⟨18, _⟩ => ⟨S1x256x1024, .f32⟩
  | .hbm, ⟨19, _⟩ => ⟨S1x256x1024, .f32⟩
  | .hbm, ⟨20, _⟩ => ⟨S1x1x1024, .f32⟩
  | .hbm, ⟨21, _⟩ => ⟨S1x256x1024, .f32⟩
  | .hbm, ⟨22, _⟩ => ⟨S1x256x1024, .f32⟩
  | .hbm, ⟨23, _⟩ => ⟨S1x256x1024, .f32⟩
  | .hbm, ⟨24, _⟩ => ⟨S1x256x512, .f32⟩
  | .hbm, ⟨25, _⟩ => ⟨S1x256x512, .f32⟩
  | .hbm, ⟨26, _⟩ => ⟨S1x256x4x128, .f32⟩
  | .hbm, ⟨27, _⟩ => ⟨S1x256x4x128, .f32⟩
  | .hbm, ⟨28, _⟩ => ⟨S1x1024, .f32⟩
  | .hbm, ⟨29, _⟩ => ⟨S1024, .f32⟩
  | .hbm, ⟨30, _⟩ => ⟨S1x1024x1024, .f32⟩
  | .hbm, ⟨31, _⟩ => ⟨S1024x1024, .f32⟩
  | .hbm, ⟨32, _⟩ => ⟨S1x256x1024, .f32⟩
  | .hbm, ⟨33, _⟩ => ⟨S_, .f32⟩
  | .hbm, ⟨34, _⟩ => ⟨S1x256, .f32⟩
  | .hbm, ⟨35, _⟩ => ⟨S1x256x1, .f32⟩
  | .hbm, ⟨36, _⟩ => ⟨S_, .f32⟩
  | .hbm, ⟨37, _⟩ => ⟨S1x256x1, .f32⟩
  | .hbm, ⟨38, _⟩ => ⟨S1x256x1, .f32⟩
  | .hbm, ⟨39, _⟩ => ⟨S_, .f32⟩
  | .hbm, ⟨40, _⟩ => ⟨S1x256x1, .f32⟩
  | .hbm, ⟨41, _⟩ => ⟨S1x256x1, .f32⟩
  | .hbm, ⟨42, _⟩ => ⟨S1x256x1, .f32⟩
  | .hbm, ⟨43, _⟩ => ⟨S1x256x1024, .f32⟩
  | .hbm, ⟨44, _⟩ => ⟨S1x256x1024, .f32⟩
  | .hbm, ⟨45, _⟩ => ⟨S1x1x1024, .f32⟩
  | .hbm, ⟨46, _⟩ => ⟨S1x256x1024, .f32⟩
  | .hbm, ⟨47, _⟩ => ⟨S1x256x1024, .f32⟩
  | .hbm, ⟨48, _⟩ => ⟨S1x256x1024, .f32⟩
  | .hbm, ⟨49, _⟩ => ⟨S1x256x512, .f32⟩
  | .hbm, ⟨50, _⟩ => ⟨S1x256x512, .f32⟩
  | .hbm, ⟨51, _⟩ => ⟨S1x256x4x128, .f32⟩
  | .hbm, ⟨52, _⟩ => ⟨S1x256x4x128, .f32⟩
  | .hbm, ⟨53, _⟩ => ⟨S1x1x256x4x128, .f32⟩
  | .hbm, ⟨54, _⟩ => ⟨S1x1x256x4x128, .f32⟩
  | .hbm, ⟨55, _⟩ => ⟨S2x1x256x4x128, .f32⟩
  | .hbm, ⟨56, _⟩ => ⟨S1x1x256x4x128, .f32⟩
  | .hbm, ⟨57, _⟩ => ⟨S1x1x256x4x128, .f32⟩
  | .hbm, ⟨58, _⟩ => ⟨S2x1x256x4x128, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== KernelMix.lean ====
abbrev S16384x1024 : Shape := ⟨2, ![16384, 1024]⟩
abbrev S16384x512 : Shape := ⟨2, ![16384, 512]⟩
abbrev S16384x3072 : Shape := ⟨2, ![16384, 3072]⟩
abbrev S8x128x128 : Shape := ⟨3, ![8, 128, 128]⟩
abbrev S8x128 : Shape := ⟨2, ![8, 128]⟩
abbrev S3x512x1024 : Shape := ⟨3, ![3, 512, 1024]⟩
abbrev S1024x1024 : Shape := ⟨2, ![1024, 1024]⟩
abbrev S1x8x1x128x1x128 : Shape := ⟨6, ![1, 8, 1, 128, 1, 128]⟩
abbrev S1x8x2x128x2x128 : Shape := ⟨6, ![1, 8, 2, 128, 2, 128]⟩
abbrev S8x256x256 : Shape := ⟨3, ![8, 256, 256]⟩
abbrev S128x8 : Shape := ⟨2, ![128, 8]⟩
abbrev S128x8x64 : Shape := ⟨3, ![128, 8, 64]⟩
abbrev S128x512 : Shape := ⟨2, ![128, 512]⟩
abbrev S1x128x1x512 : Shape := ⟨4, ![1, 128, 1, 512]⟩
abbrev S2x128x1x512 : Shape := ⟨4, ![2, 128, 1, 512]⟩
abbrev S256x512 : Shape := ⟨2, ![256, 512]⟩
abbrev S256x1024 : Shape := ⟨2, ![256, 1024]⟩
abbrev S256x3072 : Shape := ⟨2, ![256, 3072]⟩
abbrev S256x256 : Shape := ⟨2, ![256, 256]⟩
abbrev S256x128 : Shape := ⟨2, ![256, 128]⟩
abbrev S1x256x256 : Shape := ⟨3, ![1, 256, 256]⟩
abbrev S1x512x1024 : Shape := ⟨3, ![1, 512, 1024]⟩
abbrev S512x1024 : Shape := ⟨2, ![512, 1024]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S16384x3072, .f32⟩
  | .hbm, ⟨6, _⟩ => ⟨S8x128x128, .f32⟩
  | .hbm, ⟨7, _⟩ => ⟨S8x128, .f32⟩
  | .hbm, ⟨8, _⟩ => ⟨S3x512x1024, .f32⟩
  | .hbm, ⟨9, _⟩ => ⟨S1024x1024, .f32⟩
  | .hbm, ⟨10, _⟩ => ⟨S8x128x128, .bf16⟩
  | .hbm, ⟨11, _⟩ => ⟨S1x8x1x128x1x128, .bf16⟩
  | .hbm, ⟨12, _⟩ => ⟨S1x8x2x128x2x128, .bf16⟩
  | .hbm, ⟨13, _⟩ => ⟨S8x256x256, .bf16⟩
  | .hbm, ⟨14, _⟩ => ⟨S128x8, .f32⟩
  | .hbm, ⟨15, _⟩ => ⟨S128x8x64, .f32⟩
  | .hbm, ⟨16, _⟩ => ⟨S128x512, .f32⟩
  | .hbm, ⟨17, _⟩ => ⟨S1x128x1x512, .f32⟩
  | .hbm, ⟨18, _⟩ => ⟨S2x128x1x512, .f32⟩
  | .hbm, ⟨19, _⟩ => ⟨S256x512, .f32⟩
  | .hbm, ⟨20, _⟩ => ⟨S3x512x1024, .bf16⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x3072, .f32⟩
  | .local _ .vmem, ⟨11, _⟩ => ⟨S256x3072, .f32⟩
  | .local _ .vmem, ⟨12, _⟩ => ⟨S8x256x256, .bf16⟩
  | .local _ .vmem, ⟨13, _⟩ => ⟨S256x512, .f32⟩
  | .local _ .vmem, ⟨14, _⟩ => ⟨S3x512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMixIdeal.lean ====
abbrev S16384x1024 : Shape := ⟨2, ![16384, 1024]⟩
abbrev S16384x512 : Shape := ⟨2, ![16384, 512]⟩
abbrev S16384x3072 : Shape := ⟨2, ![16384, 3072]⟩
abbrev S8x128x128 : Shape := ⟨3, ![8, 128, 128]⟩
abbrev S8x128 : Shape := ⟨2, ![8, 128]⟩
abbrev S3x512x1024 : Shape := ⟨3, ![3, 512, 1024]⟩
abbrev S1024x1024 : Shape := ⟨2, ![1024, 1024]⟩
abbrev S128x128x8x64 : Shape := ⟨4, ![128, 128, 8, 64]⟩
abbrev S128x128 : Shape := ⟨2, ![128, 128]⟩
abbrev S_ : Shape := ⟨0, ![]⟩
abbrev S8x128x64x128 : Shape := ⟨4, ![8, 128, 64, 128]⟩
abbrev S128x8 : Shape := ⟨2, ![128, 8]⟩
abbrev S1x128x8x1 : Shape := ⟨4, ![1, 128, 8, 1]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S16384x3072, .f32⟩
  | .hbm, ⟨6, _⟩ => ⟨S8x128x128, .f32⟩
  | .hbm, ⟨7, _⟩ => ⟨S8x128, .f32⟩
  | .hbm, ⟨8, _⟩ => ⟨S3x512x1024, .f32⟩
  | .hbm, ⟨9, _⟩ => ⟨S1024x1024, .f32⟩
  | .hbm, ⟨10, _⟩ => ⟨S128x128x8x64, .f32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S8x128x128, .i1⟩
  | .hbm, ⟨18, _⟩ => ⟨S_, .f32⟩
  | .hbm, ⟨19, _⟩ => ⟨S8x128x128, .f32⟩
  | .hbm, ⟨20, _⟩ => ⟨S8x128x128, .f32⟩
  | .hbm, ⟨21, _⟩ => ⟨S8x128x64x128, .f32⟩
  | .hbm, ⟨22, _⟩ => ⟨S128x128x8x64, .f32⟩
  | .hbm, ⟨23, _⟩ => ⟨S128x8, .f32⟩
  | .hbm, ⟨24, _⟩ => ⟨S1x128x8x1, .f32⟩
  | .hbm, ⟨25, _⟩ => ⟨S128x128x8x64, .f32⟩
  | .hbm, ⟨26, _⟩ => ⟨S128x128x8x64, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x1x512, .f32⟩
  | .hbm, ⟨31, _⟩ => ⟨S16384x1x512, .f32⟩
  | .hbm, ⟨32, _⟩ => ⟨S16384x1x512, .f32⟩
  | .hbm, ⟨33, _⟩ => ⟨S16384x3x512, .f32⟩
  | .hbm, ⟨34, _⟩ => ⟨S3x1024x16384, .f32⟩
  | .hbm, ⟨35, _⟩ => ⟨S16384x3x1024, .f32⟩
  | .hbm, ⟨36, _⟩ => ⟨S16384x3x1024, .f32⟩
  | .hbm, ⟨37, _⟩ => ⟨S16384x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst : Ref sig .tc := ⟨.hbm, 18, rfl⟩
abbrev main_call0_v6 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Exact.Loop.lean ====
/- The loop over the blocks of keys, its carried sums and its scratch at anything: what a frame needs of it. -/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.LoopRemainder

@[expose] public section

set_option maxRecDepth 8192
set_option maxHeartbeats 4000000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The sums that the loop carries: a row per head and part of the queries. -/
abbrev Carries (F : FTy → Type) [FloatOps F] : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

section
variable (𝒱 : Variants) (c : Dev nD) (bd : Option 𝒱.V) (E : Set ℕ) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole) (v6 : FVec F S256x256 .bf16) (v9 : BitVec 32)
    (X2 : BufTy.Contents (Elt F) arg2.view.ty) (X3 : BufTy.Contents (Elt F) arg3.view.ty) (X4 : BufTy.Contents (Elt F) arg4.view.ty) (init : Carries F)

/-- The invariant: what is read at its contents, the accumulator and the buffer of the logits at anything. -/
abbrev inv : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, arg6.view.loc (c : Thread nD τ) ↦[arg6.view.set]{fullShare} f)
    ∗ (∃ g, arg7.view.loc (c : Thread nD τ) ↦[arg7.view.set]{fullShare} g))

set_option warn.classDefReducibility false in
/-- The loop by its invariant. -/
@[sl_loop] def loopInv :
    Idealize.ShloMosaic.LoopInv (M := MT nD τ sig Unit (Elt F) ℕ (UR sig nD τ) ℕ) Idealize.ShloMosaic.frame (wpE defs₀ 𝒱 (c : Thread nD τ) bd) E
      (k0_t1_loop i).lb (k0_t1_loop i).ub (k0_t1_loop i).st (k0_t1_ok i) init (k0_t1_body (F := F) i arg2 harg2 arg3 harg3 arg4 harg4 arg5 harg5 arg6 harg6 arg7 harg7 v6 v9) where
  inv := fun _ _ => inv (F := F) c arg2 arg3 arg4 arg6 arg7 X2 X3 X4
  step k acc := by
    unfold k0_t1_body
    iintro ⟨HR2, HR3, HR4, ⟨%f6, HW6⟩, ⟨%f7, HW7⟩⟩
    sl_exec
    sl_step
    sl_close

end

end Cert.Kernel.Attn

end
-- ==== Proof.Exact.Body.lean ====
/- The body of the call, run once on any staging memrefs. -/
module

public import proofs.«01_k».proof.Proof.Exact.Runs
public import proofs.«01_k».proof.Proof.Exact.Loop

@[expose] public section

-- membership in a rectangle of production extents (`View.cover_of_tiled`): the elaborator's structural look
-- recurses once per coordinate of the long axes
set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3232000 in
/-- The body's triple: on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec F S4x512x256 .bf16) (x1 : Vec F S16384x512 .bf16) (x2 : Vec F S64x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_sb_prompt i arg2 harg2 arg3 harg3 arg4 harg4 arg5 harg5 arg6 harg6 arg7 harg7) K := by
    intro E K
    simp only [cc0_sb_prompt_eq_skeleton]; unfold cc0_sb_prompt_skel
    simp only [k0_part185_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Attn

end
-- ==== Proof.Exact.Frame.lean ====
/- The frame: the run of the program terminates and leaves the arguments as they were. -/
module

public import proofs.«01_k».proof.Proof.Exact.Body
public import Idealize.ShloMosaic.Lib.Claim

@[expose] public section

-- membership in a rectangle of production extents (`View.cover_of_tiled`): the elaborator's structural look
-- recurses once per coordinate of the long axes
set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Attn

end
-- ==== Proof.Ideal.Runs.lean ====
/- What the runs of the kernel share: the host operations before the call, the windows' blocks, the staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The kernel body on any staging memrefs: a subtype the run finds -/

/-- One staging buffer of output window 3, through which its contents are stated (`View.read_writes_of_cover`: the
    choice does not matter). -/
abbrev VO0_3 : View sig .tc .vmem S1024x256 .f32 := (Memref.whole cc0_stg3_0 : Memref sig .tc .vmem S1024x256 .f32).view
/-- Each window's current staging memref at point `t`, spelled as the pipeline passes it (`bodyAt0`), and its wholeness. -/
abbrev ms0_0 (t : Fin cfg0.N) : Memref sig .tc .vmem S4x512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x1024 .f32 := Memref.whole cc0_scratch0
abbrev scM0_1 : Memref sig .tc .vmem S7x256x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Attn

end
-- ==== Proof.Ideal.Trip.lean ====
/- One trip of the loop over the blocks of keys, run once at a symbolic trip. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The sums that the loop carries: a row per head and part of the queries. -/
abbrev Carries (F : FTy → Type) [FloatOps F] : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- What a trip reads, at its contents, the accumulator at `f6` and the buffer of the logits at anything. -/
abbrev TripPost (c : Dev nD) (arg2 : Memref sig .tc .vmem S4x512x256 .bf16) (arg3 : Memref sig .tc .vmem S16384x512 .bf16) (arg4 : Memref sig .tc .vmem S64x256x256 .bf16) (arg6 : Memref sig .tc .vmem S256x1024 .f32) (arg7 : Memref sig .tc .vmem S7x256x256 .f32)
    (X2 : BufTy.Contents (Elt F) arg2.view.ty) (X3 : BufTy.Contents (Elt F) arg3.view.ty) (X4 : BufTy.Contents (Elt F) arg4.view.ty) (f6 : BufTy.Contents (Elt F) arg6.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg6.view.loc (c : Thread nD τ) ↦[arg6.view.set]{fullShare} f6) ∗ (∃ g, arg7.view.loc (c : Thread nD τ) ↦[arg7.view.set]{fullShare} g))

/-- The same, the buffer of the logits at `f7`. -/
abbrev TripPre (c : Dev nD) (arg2 : Memref sig .tc .vmem S4x512x256 .bf16) (arg3 : Memref sig .tc .vmem S16384x512 .bf16) (arg4 : Memref sig .tc .vmem S64x256x256 .bf16) (arg6 : Memref sig .tc .vmem S256x1024 .f32) (arg7 : Memref sig .tc .vmem S7x256x256 .f32)
    (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg6.view.loc (c : Thread nD τ) ↦[arg6.view.set]{fullShare} f6) ∗ (arg7.view.loc (c : Thread nD τ) ↦[arg7.view.set]{fullShare} f7))

/-- One trip, run at a symbolic trip number, carried sums and contents of the two scratch buffers: what it yields and the pieces it
    writes into the accumulator are those that the run finds; the buffer of the logits ends at some contents. -/
@[irreducible] def trip (𝒱 : Variants) (c : Dev nD) (bd : Option 𝒱.V) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole) (v6 : FVec F S256x256 .bf16) (v9 : BitVec 32)
    (X2 : BufTy.Contents (Elt F) arg2.view.ty) (X3 : BufTy.Contents (Elt F) arg3.view.ty) (X4 : BufTy.Contents (Elt F) arg4.view.ty) (k : Fin (k0_t1_loop i).trips) :
    Σ' (R : Carries F → Carries F),
      { L : Carries F → BufTy.Contents (Elt F) arg6.view.ty → List (View.Piece (Elt F) S256x1024 .f32) //
        ∀ (E : Set ℕ) (acc : Carries F) (f6 : BufTy.Contents (Elt F) arg6.view.ty) (f7 : BufTy.Contents (Elt F) arg7.view.ty),
          TripPre (F := F) c arg2 arg3 arg4 arg6 arg7 X2 X3 X4 f6 f7
          ⊢ wp frame (wpE (defs₀ (F := F)) 𝒱 (c : Thread nD τ) bd) E (k0_t1_body (F := F) i arg2 harg2 arg3 harg3 arg4 harg4 arg5 harg5 arg6 harg6 arg7 harg7 v6 v9 k acc)
              (fun yld => iprop(⌜yld = R acc⌝ ∗ TripPost (F := F) c arg2 arg3 arg4 arg6 arg7 X2 X3 X4 (arg6.view.writes (Elt F) f6 (L acc f6)))) } := by
  refine ⟨?_, ?_, fun E acc f6 f7 => ?run⟩
  case run =>
    unfold k0_t1_body
    iintro ⟨HR2, HR3, HR4, HW6, HW7⟩
    sl_exec
    sl_step
    sl_close

end Cert.KernelIdeal.Attn

end
-- ==== Proof.Ideal.Loop.lean ====
/- The loop over the blocks of keys: its state by recursion over the trips, and its invariant. -/
module

public import proofs.«01_k».proof.Proof.Ideal.Trip
public import Idealize.ShloMosaic.Lib.LoopRemainder

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole) (v6 : FVec F S256x256 .bf16) (v9 : BitVec 32)
    (X2 : BufTy.Contents (Elt F) arg2.view.ty) (X3 : BufTy.Contents (Elt F) arg3.view.ty) (X4 : BufTy.Contents (Elt F) arg4.view.ty) (G6 : BufTy.Contents (Elt F) arg6.view.ty) (init : Carries F)

/-- One trip's step of the state: the carried sums, and the pieces written into the accumulator. -/
@[irreducible] def stNext (k : ℕ) (prev : Carries F × List (View.Piece (Elt F) S256x1024 .f32)) : Carries F × List (View.Piece (Elt F) S256x1024 .f32) :=
  if h : k < (k0_t1_loop i).trips then
    ((trip (F := F) 𝒱 c bd i arg2 harg2 arg3 harg3 arg4 harg4 arg5 harg5 arg6 harg6 arg7 harg7 v6 v9 X2 X3 X4 ⟨k, h⟩).1 prev.1,
      (trip (F := F) 𝒱 c bd i arg2 harg2 arg3 harg3 arg4 harg4 arg5 harg5 arg6 harg6 arg7 harg7 v6 v9 X2 X3 X4 ⟨k, h⟩).2.1 prev.1 (arg6.view.writes (Elt F) G6 prev.2) ++ prev.2)
  else prev

/-- The state before trip `k`. -/
def st : ℕ → Carries F × List (View.Piece (Elt F) S256x1024 .f32)
  | 0 => (init, [])
  | k + 1 => stNext 𝒱 c bd i arg2 harg2 arg3 harg3 arg4 harg4 arg5 harg5 arg6 harg6 arg7 harg7 v6 v9 X2 X3 X4 G6 k (st k)

theorem st_succ (k : Fin (k0_t1_loop i).trips) :
    st 𝒱 c bd i arg2 harg2 arg3 harg3 arg4 harg4 arg5 harg5 arg6 harg6 arg7 harg7 v6 v9 X2 X3 X4 G6 init (k.val + 1)
      = ((trip (F := F) 𝒱 c bd i arg2 harg2 arg3 harg3 arg4 harg4 arg5 harg5 arg6 harg6 arg7 harg7 v6 v9 X2 X3 X4 k).1
            (st 𝒱 c bd i arg2 harg2 arg3 harg3 arg4 harg4 arg5 harg5 arg6 harg6 arg7 harg7 v6 v9 X2 X3 X4 G6 init k.val).1,
        (trip (F := F) 𝒱 c bd i arg2 harg2 arg3 harg3 arg4 harg4 arg5 harg5 arg6 harg6 arg7 harg7 v6 v9 X2 X3 X4 k).2.1
            (st 𝒱 c bd i arg2 harg2 arg3 harg3 arg4 harg4 arg5 harg5 arg6 harg6 arg7 harg7 v6 v9 X2 X3 X4 G6 init k.val).1
            (arg6.view.writes (Elt F) G6 (st 𝒱 c bd i arg2 harg2 arg3 harg3 arg4 harg4 arg5 harg5 arg6 harg6 arg7 harg7 v6 v9 X2 X3 X4 G6 init k.val).2)
          ++ (st 𝒱 c bd i arg2 harg2 arg3 harg3 arg4 harg4 arg5 harg5 arg6 harg6 arg7 harg7 v6 v9 X2 X3 X4 G6 init k.val).2) := by
  rw [st, stNext]; exact dif_pos k.isLt

/-- The invariant before trip `k`: what is read at its contents, the accumulator holding the pieces of the trips before, the buffer of
    the logits at anything, the carried sums those of the state. -/
abbrev inv (k : ℕ) (acc : Carries F) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f) ∗ ⌜f = arg6.view.writes (Elt F) G6 (st 𝒱 c bd i arg2 harg2 arg3 harg3 arg4 harg4 arg5 harg5 arg6 harg6 arg7 harg7 v6 v9 X2 X3 X4 G6 init k).2⌝)
    ∗ (∃ g, arg7.view.loc (c : Thread nD τ) ↦[arg7.view.set]{fullShare} g)
    ∗ ⌜acc = (st 𝒱 c bd i arg2 harg2 arg3 harg3 arg4 harg4 arg5 harg5 arg6 harg6 arg7 harg7 v6 v9 X2 X3 X4 G6 init k).1⌝)

set_option warn.classDefReducibility false in
/-- The loop by its invariant. -/
@[sl_loop] def loopInv :
    Idealize.ShloMosaic.LoopInv (M := MT nD τ sig Unit (Elt F) ℕ (UR sig nD τ) ℕ) Idealize.ShloMosaic.frame (wpE defs₀ 𝒱 (c : Thread nD τ) bd) E
      (k0_t1_loop i).lb (k0_t1_loop i).ub (k0_t1_loop i).st (k0_t1_ok i) init (k0_t1_body (F := F) i arg2 harg2 arg3 harg3 arg4 harg4 arg5 harg5 arg6 harg6 arg7 harg7 v6 v9) where
  inv := inv (F := F) 𝒱 c bd i arg2 harg2 arg3 harg3 arg4 harg4 arg5 harg5 arg6 harg6 arg7 harg7 v6 v9 X2 X3 X4 G6 init
  step k acc := by
    iintro ⟨HR2, HR3, HR4, ⟨%f6, HW6, %h6⟩, ⟨%f7, HW7⟩, %hacc⟩
    subst hacc h6
    iapply (wp_wand_r Idealize.ShloMosaic.frame (wpE (defs₀ (F := F)) 𝒱 (c : Thread nD τ) bd) E)
    isplitl [HR2 HR3 HR4 HW6 HW7]
    · iapply ((trip (F := F) 𝒱 c bd i arg2 harg2 arg3 harg3 arg4 harg4 arg5 harg5 arg6 harg6 arg7 harg7 v6 v9 X2 X3 X4 k).2.2 E
        (st 𝒱 c bd i arg2 harg2 arg3 harg3 arg4 harg4 arg5 harg5 arg6 harg6 arg7 harg7 v6 v9 X2 X3 X4 G6 init k.val).1 _ f7)
      isplitl [HR2]; · iexact HR2
      isplitl [HR3]; · iexact HR3
      isplitl [HR4]; · iexact HR4
      isplitl [HW6]; · iexact HW6
      iexact HW7
    · iintro %yld ⟨%hres, HR2, HR3, HR4, HW6, HW7⟩
      isplitl [HR2]; · iexact HR2
      isplitl [HR3]; · iexact HR3
      isplitl [HR4]; · iexact HR4
      rw [st_succ]
      isplitl [HW6]
      · iexists _; isplitl [HW6]; · iexact HW6
        ipureintro
        exact (View.writes_append ..).symm
      isplitl [HW7]
      · iexact HW7
      ipureintro; exact hres

end

end Cert.KernelIdeal.Attn

end
-- ==== Proof.Ideal.Body.lean ====
/- The body of the call, run once on any staging memrefs. -/
module

public import proofs.«01_k».proof.Proof.Ideal.Runs
public import proofs.«01_k».proof.Proof.Ideal.Loop

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3232000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec F S4x512x256 .bf16) (x1 : Vec F S16384x512 .bf16) (x2 : Vec F S64x256x256 .bf16) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d)) -∗ K ⟨⟩))
          ⊢ wp frame (wpE (defs₀ (F := F)) Variants.none c none) E (cc0_sb_prompt i arg2 harg2 arg3 harg3 arg4 harg4 arg5 harg5 arg6 harg6 arg7 harg7) K } := by
  refine ⟨?_, fun E K => ?run⟩
  case run =>
    simp only [cc0_sb_prompt_eq_skeleton]; unfold cc0_sb_prompt_skel
    simp only [k0_part185_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    iexists _, _; isplitr; swap; · iexact HS1
    ipureintro; rfl

end Cert.KernelIdeal.Attn

end
-- ==== Proof.Ideal.Frame.lean ====
/- The frame: the run of the program terminates and leaves the arguments as they were. -/
module

public import proofs.«01_k».proof.Proof.Ideal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S1024x256`, checked by the kernel's evaluation: Lib/Ring.lean `Piece.tiledL`, linear in the pieces, through a loop's `@[irreducible]` trip theorem too), so they cover it. -/
theorem cover0_A_3 (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec F S4x512x256 .bf16) (x1 : Vec F S16384x512 .bf16) (x2 : Vec F S64x256x256 .bf16) (y : S1024x256.Idx) :
    ∃ pc ∈ (kernelRun0_A c i arg2 harg2 arg3 harg3 arg4 harg4 arg5 harg5 arg6 harg6 arg7 harg7 x0 x1 x2).1, y ∈ pc.1.set :=
  View.cover_of_tiledL (kernelRun0_A c i arg2 harg2 arg3 harg3 arg4 harg4 arg5 harg5 arg6 harg6 arg7 harg7 x0 x1 x2).1 S1024x256.size (by sl_kernel_rfl) y

/-- What the run leaves in output 3's staging buffer: its pieces read back over junk. -/
def out0_A_3 (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec F S4x512x256 .bf16) (x1 : Vec F S16384x512 .bf16) (x2 : Vec F S64x256x256 .bf16) : Vec F S1024x256 .f32 :=
  VO0_3.read (Elt F) (VO0_3.writes (Elt F) VO0_3.junk (kernelRun0_A c i arg2 harg2 arg3 harg3 arg4 harg4 arg5 harg5 arg6 harg6 arg7 harg7 x0 x1 x2).1)

/-! ## What the outputs hold after each point -/

/-- What the outputs' staging buffers hold after the body at point `t`: the run's contents at
    the point's memrefs and input blocks. -/
def outsAt0 (c : Dev nD) (t : Fin cfg0.N) : Vec F S1024x256 .f32 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Ideal.Blocks.lean ====
/- The array that the call writes, block by block. -/
module

public import proofs.«01_k».proof.Proof.Ideal.Frame
public import Idealize.ShloMosaic.Lib.Pipeline.Value

@[expose] public section

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)) := by
  simp only [flushed3, outsAt0]

/-- The index map sends distinct grid points to distinct block indices (decided over the 32 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16384x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v30) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v30) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      kept_main_arg0 m r h c,
      kept_main_arg1 m r h c,
      kept_main_arg2 m r h c,
      kept_main_arg3 m r h c⟩)
    (run_main m ρ)

end Cert.KernelIdeal.Attn

end
-- ==== Proof.Ideal.Tile.lean ====
/- The kernel's arithmetic on one block of keys and one block of queries, and what one trip of the loop over the blocks of keys
   computes in these terms. -/
module

public import proofs.«01_k».proof.Proof.Ideal.Trip
public import Idealize.ShloMosaic.Lib.Tactic.Stretches
public import Idealize.ShloMosaic.Lib.Pipeline.FrameBody
public import Idealize.ShloMosaic.Lib.Pipeline.Value
public import Idealize.ShloMosaic.Lib.WritesUnit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-! ## Reading back what was stored -/

/-- The buffer of the logits, read at the slot stored last. -/
theorem slot_hit {κ : Kind} {sp : Space} (v : View sig κ sp S7x256x256 .f32) (a : ℕ) (h h' : ∀ x, (![a, 0, 0] : Fin 3 → ℕ) x + (![1, 256, 256] : Fin 3 → ℕ) x ≤ S7x256x256.size x)
    (w : Vec F S1x256x256 .f32) (L : List (View.Piece (Elt F) S7x256x256 .f32)) :
    v.readCov (⟨Rect.unit (s := S7x256x256) ![a, 0, 0] ![1, 256, 256] h, w⟩ :: L) (Rect.unit (s := S7x256x256) ![a, 0, 0] ![1, 256, 256] h').toLoadRect = w :=
  View.readCov_cons_toLoadRect v (Rect.unit (s := S7x256x256) ![a, 0, 0] ![1, 256, 256] h) w L

/-- The buffer of the logits, read at another slot than the one stored last. -/
theorem slot_miss {κ : Kind} {sp : Space} (v : View sig κ sp S7x256x256 .f32) (a b : ℕ) (h : ∀ x, (![a, 0, 0] : Fin 3 → ℕ) x + (![1, 256, 256] : Fin 3 → ℕ) x ≤ S7x256x256.size x)
    (h' : ∀ x, (![b, 0, 0] : Fin 3 → ℕ) x + (![1, 256, 256] : Fin 3 → ℕ) x ≤ S7x256x256.size x) (w : Vec F S1x256x256 .f32) (L : List (View.Piece (Elt F) S7x256x256 .f32)) (hab : a ≠ b) :
    v.readCov (⟨Rect.unit (s := S7x256x256) ![a, 0, 0] ![1, 256, 256] h, w⟩ :: L) (Rect.unit (s := S7x256x256) ![b, 0, 0] ![1, 256, 256] h').toLoadRect
      = v.readCov L (Rect.unit (s := S7x256x256) ![b, 0, 0] ![1, 256, 256] h').toLoadRect := by
  refine View.readCov_cons_of_disjoint v _ L _ (Rect.unit_disjoint (inb := h) (inb' := h') 0 ?_)
  show a + 1 ≤ b ∨ b + 1 ≤ a
  omega

/-- Where the accumulator of a head and a part of the queries lies. -/
theorem accAt_inb (hh p : Fin 4) : ∀ x, (![64 * hh.val, 256 * p.val] : Fin 2 → ℕ) x + (![64, 256] : Fin 2 → ℕ) x ≤ S256x1024.size x := by
  revert hh p; decide

/-- The accumulator of a head and a part of the queries, in the contents of the scratch buffer. -/
def accAt (arg6 : Memref sig .tc .vmem S256x1024 .f32) (f : BufTy.Contents (Elt F) arg6.view.ty) (hh p : Fin 4) : FVec F S64x256 .f32 :=
  View.readAt (Elt F) arg6.view (Rect.unit (s := S256x1024) ![64 * hh.val, 256 * p.val] ![64, 256] (accAt_inb hh p)).toLoadRect f

/-- The scratch buffer, read at the accumulator stored last. -/
theorem acc_hit {κ : Kind} {sp : Space} (v : View sig κ sp S256x1024 .f32) (a b : ℕ) (h h' : ∀ x, (![a, b] : Fin 2 → ℕ) x + (![64, 256] : Fin 2 → ℕ) x ≤ S256x1024.size x)
    (w : Vec F S64x256 .f32) (f : BufTy.Contents (Elt F) v.ty) (L : List (View.Piece (Elt F) S256x1024 .f32)) :
    View.readAt (Elt F) v (Rect.unit (s := S256x1024) ![a, b] ![64, 256] h').toLoadRect (v.writes (Elt F) f (⟨Rect.unit (s := S256x1024) ![a, b] ![64, 256] h, w⟩ :: L)) = w := by
  funext j
  rw [View.readAt_apply]
  exact View.read_writes_cons_emb v f (Rect.unit (s := S256x1024) ![a, b] ![64, 256] h) w L j

/-- The scratch buffer, read at another accumulator than the one stored last. -/
theorem acc_miss {κ : Kind} {sp : Space} (v : View sig κ sp S256x1024 .f32) (a b a' b' : ℕ) (h : ∀ x, (![a, b] : Fin 2 → ℕ) x + (![64, 256] : Fin 2 → ℕ) x ≤ S256x1024.size x)
    (h' : ∀ x, (![a', b'] : Fin 2 → ℕ) x + (![64, 256] : Fin 2 → ℕ) x ≤ S256x1024.size x) (w : Vec F S64x256 .f32) (f : BufTy.Contents (Elt F) v.ty) (L : List (View.Piece (Elt F) S256x1024 .f32))
    (hd : (a + 64 ≤ a' ∨ a' + 64 ≤ a) ∨ (b + 256 ≤ b' ∨ b' + 256 ≤ b)) :
    View.readAt (Elt F) v (Rect.unit (s := S256x1024) ![a', b'] ![64, 256] h').toLoadRect (v.writes (Elt F) f (⟨Rect.unit (s := S256x1024) ![a, b] ![64, 256] h, w⟩ :: L))
      = View.readAt (Elt F) v (Rect.unit (s := S256x1024) ![a', b'] ![64, 256] h').toLoadRect (v.writes (Elt F) f L) := by
  funext j
  have hj0 : (j 0).val < 64 := (j 0).isLt
  have hj1 : (j 1).val < 256 := (j 1).isLt
  rw [View.readAt_apply, View.readAt_apply]
  rcases hd with hd | hd
  · refine View.read_writes_cons_unit_of_not_mem v f h w L _ rfl 0 ?_
    show a' + 1 * (j 0).val < a ∨ a + 64 ≤ a' + 1 * (j 0).val
    omega
  · refine View.read_writes_cons_unit_of_not_mem v f h w L _ rfl 1 ?_
    show b' + 1 * (j 1).val < b ∨ b + 256 ≤ b' + 1 * (j 1).val
    omega

/-! ## One block of keys against one block of queries -/

/-- A square block stored in the buffer of the logits and loaded from it. -/
def stored (x : FVec F S256x256 .f32) : FVec F S256x256 .f32 :=
  shapeCast S256x256 (shapeCast S1x256x256 x shapeCasts_S256x256_S1x256x256) shapeCasts_S1x256x256_S256x256

theorem stored_eq (x : FVec F S256x256 .f32) : stored x = x := shapeCast_shapeCast ..

/-- The logits, capped, as they come back from their buffer. -/
def lg (kt : FVec F S256x128 .bf16) (qt : FVec F S128x256 .bf16) : FVec F S256x256 .f32 :=
  stored (minimumf (matmul dot_S256x128_S128x256_S256x256_1_0_0_1_n_n none kt qt (constant S256x256 .f32 0x00000000#32)) (broadcast S256x256 (Named.named κ "no_limit" 0x42FC0000#32)))

/-- The softplus of the logits. -/
def spl (z : FVec F S256x256 .f32) : FVec F S256x256 .f32 :=
  mulf (log (addf (broadcast S256x256 (Scalar.ofBits .f32 0x3F800000#32)) (exp2 z))) (broadcast S256x256 (Named.named κ "log2e" 0x3FB8AA3B#32))

/-- The softplus summed over the keys from each key on, by the triangular matrix `U`. -/
def nwr (U : FVec F S256x256 .bf16) (s : FVec F S256x256 .f32) : FVec F S256x256 .f32 :=
  matmul dot_S256x256_S256x256_S256x256_1_0_0_1_n_n none U (truncf .bf16 s bitsLt_bf16_f32) (constant S256x256 .f32 0x00000000#32)

/-- The weights: two to the logits less the sums of this block and of the blocks after it. -/
def wts (z n : FVec F S256x256 .f32) (c : FVec F S1x256 .f32) : FVec F S256x256 .bf16 :=
  exp2 (truncf .bf16 (subf (subf z n) (broadcastTo S256x256 c broadcasts_S1x256_S256x256)) bitsLt_bf16_f32)

/-- The values weighted. -/
def wval (vt : FVec F S64x256 .bf16) (a : FVec F S256x256 .bf16) : FVec F S64x256 .f32 :=
  matmul dot_S64x256_S256x256_S64x256_1_0_0_1_n_n none vt a (constant S64x256 .f32 0x00000000#32)

/-- The carried sum with the block's own sum added. -/
def crr (c : FVec F S1x256 .f32) (n : FVec F S256x256 .f32) : FVec F S1x256 .f32 :=
  addf c (extractStridedSlice S1x256 ![0, 0] n slices_S256x256_o0_0_S1x256)

/-! ## The tiles a trip loads -/

/-- The offset of the trip's `d`-th block of keys, for a head. -/
def koff (i : grid0.Coords) (k : Fin (k0_t1_loop i).trips) (hh d : Fin 4) : Fin 2 → ℕ :=
  (![k0_off17 i k, k0_off19 i k, k0_off21 i k, k0_off23 i k] hh) (BitVec.ofNat 32 d.val)

/-- The offset of the trip's `d`-th block of values, for a head. -/
def voff (i : grid0.Coords) (k : Fin (k0_t1_loop i).trips) (hh d : Fin 4) : Fin 3 → ℕ :=
  (![k0_off18 i k, k0_off20 i k, k0_off22 i k, k0_off24 i k] hh) (BitVec.ofNat 32 d.val)

theorem koff_inb (i : grid0.Coords) (k : Fin (k0_t1_loop i).trips) (hh d : Fin 4) : ∀ a, koff i k hh d a + S256x128.size a ≤ S16384x512.size a := by
  fin_cases hh
  exacts [k0_off17_inb i k d, k0_off19_inb i k d, k0_off21_inb i k d, k0_off23_inb i k d]

theorem voff_inb (i : grid0.Coords) (k : Fin (k0_t1_loop i).trips) (hh d : Fin 4) : ∀ a, voff i k hh d a + S1x64x256.size a ≤ S64x256x256.size a := by
  fin_cases hh
  exacts [k0_off18_inb i k d, k0_off20_inb i k d, k0_off22_inb i k d, k0_off24_inb i k d]

/-- A block of keys of one head, loaded at an offset. -/
def kld (arg3 : Memref sig .tc .vmem S16384x512 .bf16) (X3 : BufTy.Contents (Elt F) arg3.view.ty) (off : Fin 2 → ℕ) (h : ∀ a, off a + S256x128.size a ≤ S16384x512.size a) : FVec F S256x128 .bf16 :=
  shapeCast S256x128 (View.readAt (Elt F) arg3.view (Rect.unit (s := S16384x512) off S256x128.size h).toLoadRect X3) shapeCasts_S256x128_S256x128

/-- A block of values of one head, loaded at an offset. -/
def vld (arg4 : Memref sig .tc .vmem S64x256x256 .bf16) (X4 : BufTy.Contents (Elt F) arg4.view.ty) (off : Fin 3 → ℕ) (h : ∀ a, off a + S1x64x256.size a ≤ S64x256x256.size a) : FVec F S64x256 .bf16 :=
  shapeCast S64x256 (View.readAt (Elt F) arg4.view (Rect.unit (s := S64x256x256) off S1x64x256.size h).toLoadRect X4) shapeCasts_S1x64x256_S64x256

theorem qld_inb (hh p : Fin 4) : ∀ x, (![p.val, 128 * hh.val, 0] : Fin 3 → ℕ) x + S1x128x256.size x ≤ S4x512x256.size x := by
  revert hh p; decide

/-- A part of the queries of one head. -/
def qld (arg2 : Memref sig .tc .vmem S4x512x256 .bf16) (X2 : BufTy.Contents (Elt F) arg2.view.ty) (hh p : Fin 4) : FVec F S128x256 .bf16 :=
  shapeCast S128x256 (View.readAt (Elt F) arg2.view (Rect.unit (s := S4x512x256) ![p.val, 128 * hh.val, 0] S1x128x256.size (qld_inb hh p)).toLoadRect X2) shapeCasts_S1x128x256_S128x256

/-! ## Four blocks of keys, one after another -/

/-- The sum of a block of keys. -/
def sumOf (U : FVec F S256x256 .bf16) (kt : FVec F S256x128 .bf16) (qt : FVec F S128x256 .bf16) : FVec F S256x256 .f32 := nwr U (spl (lg kt qt))

/-- The carried sum after `d` of a trip's blocks. -/
def carryN (U : FVec F S256x256 .bf16) (kt : Fin 4 → FVec F S256x128 .bf16) (qt : FVec F S128x256 .bf16) (c : FVec F S1x256 .f32) : ℕ → FVec F S1x256 .f32
  | 0 => c
  | d + 1 => crr (carryN U kt qt c d) (sumOf U (kt (Fin.ofNat 4 d)) qt)

/-- The weighted values of a trip's `d`-th block. -/
def outN (U : FVec F S256x256 .bf16) (kt : Fin 4 → FVec F S256x128 .bf16) (qt : FVec F S128x256 .bf16) (vt : Fin 4 → FVec F S64x256 .bf16) (c : FVec F S1x256 .f32) (d : Fin 4) : FVec F S64x256 .f32 :=
  wval (vt d) (wts (lg (kt d) qt) (sumOf U (kt d) qt) (carryN U kt qt c d.val))

/-- The carried sums by head and part. -/
def stream (a : Carries F) (hh p : Fin 4) : FVec F S1x256 .f32 :=
  ![![a.1, a.2.1, a.2.2.1, a.2.2.2.1],
    ![a.2.2.2.2.1, a.2.2.2.2.2.1, a.2.2.2.2.2.2.1, a.2.2.2.2.2.2.2.1],
    ![a.2.2.2.2.2.2.2.2.1, a.2.2.2.2.2.2.2.2.2.1, a.2.2.2.2.2.2.2.2.2.2.1, a.2.2.2.2.2.2.2.2.2.2.2.1],
    ![a.2.2.2.2.2.2.2.2.2.2.2.2.1, a.2.2.2.2.2.2.2.2.2.2.2.2.2.1, a.2.2.2.2.2.2.2.2.2.2.2.2.2.2.1, a.2.2.2.2.2.2.2.2.2.2.2.2.2.2.2]] hh p

section
variable (𝒱 : Variants) (c : Dev nD) (bd : Option 𝒱.V) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole) (v6 : FVec F S256x256 .bf16) (v9 : BitVec 32)
    (X2 : BufTy.Contents (Elt F) arg2.view.ty) (X3 : BufTy.Contents (Elt F) arg3.view.ty) (X4 : BufTy.Contents (Elt F) arg4.view.ty) (k : Fin (k0_t1_loop i).trips)

/-- What a trip carries on, for each head and part: the sum with the trip's four blocks added. -/
theorem trip_carry (acc : Carries F) (hh p : Fin 4) :
    stream ((trip (F := F) 𝒱 c bd i arg2 harg2 arg3 harg3 arg4 harg4 arg5 harg5 arg6 harg6 arg7 harg7 v6 v9 X2 X3 X4 k).1 acc) hh p
      = carryN v6 (fun d => kld arg3 X3 (koff i k hh d) (koff_inb i k hh d)) (qld arg2 X2 hh p) (stream acc hh p) 4 := by
  unfold trip
  fin_cases hh <;> fin_cases p <;>
  · dsimp only [stream]
    simp only [Fin.zero_eta, Fin.mk_one, Fin.reduceFinMk, Matrix.cons_val]
    sl_open_run
    sl_open_pay
    simp (disch := decide) only [slot_hit, slot_miss]
    rfl

/-- What a trip leaves in the accumulator of a head and a part: its four blocks' weighted values added. -/
theorem trip_acc (acc : Carries F) (f6 : BufTy.Contents (Elt F) arg6.view.ty) (hh p : Fin 4) :
    accAt arg6 (arg6.view.writes (Elt F) f6 ((trip (F := F) 𝒱 c bd i arg2 harg2 arg3 harg3 arg4 harg4 arg5 harg5 arg6 harg6 arg7 harg7 v6 v9 X2 X3 X4 k).2.1 acc f6)) hh p
      = shapeCast S64x256 (addf (accAt arg6 f6 hh p)
          (addf (addf (addf (outN v6 (fun d => kld arg3 X3 (koff i k hh d) (koff_inb i k hh d)) (qld arg2 X2 hh p) (fun d => vld arg4 X4 (voff i k hh d) (voff_inb i k hh d)) (stream acc hh p) 0)
              (outN v6 (fun d => kld arg3 X3 (koff i k hh d) (koff_inb i k hh d)) (qld arg2 X2 hh p) (fun d => vld arg4 X4 (voff i k hh d) (voff_inb i k hh d)) (stream acc hh p) 1))
            (outN v6 (fun d => kld arg3 X3 (koff i k hh d) (koff_inb i k hh d)) (qld arg2 X2 hh p) (fun d => vld arg4 X4 (voff i k hh d) (voff_inb i k hh d)) (stream acc hh p) 2))
            (outN v6 (fun d => kld arg3 X3 (koff i k hh d) (koff_inb i k hh d)) (qld arg2 X2 hh p) (fun d => vld arg4 X4 (voff i k hh d) (voff_inb i k hh d)) (stream acc hh p) 3)))
          shapeCasts_S64x256_S64x256 := by
  unfold trip accAt
  fin_cases hh <;> fin_cases p <;>
  · dsimp only [stream]
    simp only [Fin.zero_eta, Fin.mk_one, Fin.reduceFinMk, Matrix.cons_val, Fin.val_zero, Fin.val_one, Fin.isValue, Fin.reduceFinMk, Nat.reduceMul, Fin.coe_ofNat_eq_mod, Nat.reduceMod]
    refine Eq.trans (by
      simp (disch := decide) only [acc_hit, acc_miss]
      rfl) ?_
    sl_open_run
    sl_open_pay
    simp (disch := decide) only [slot_hit, slot_miss]
    rfl

end

end Cert.KernelIdeal.Attn

end
-- ==== Proof.Ideal.Pro.lean ====
/- What the body does before the loop: each part of the queries against its own block of keys (masked) and against the blocks before it
   that belong to the same point of the grid. -/
module

public import proofs.«01_k».proof.Proof.Ideal.Body
public import proofs.«01_k».proof.Proof.Ideal.Tile

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-! ## The masked block -/

/-- The triangular matrix: one where the column is at least the row. -/
def upper : FVec F S256x256 .bf16 :=
  truncf .bf16 (select (cmpi .sge (iota .tc S256x256 32 [1] iota_S256x256_d1_w32) (iota .tc S256x256 32 [0] iota_S256x256_d0_w32))
    (broadcast S256x256 (Scalar.ofBits .f32 0x3F800000#32)) (broadcast S256x256 (Scalar.ofBits .f32 0x00000000#32))) bitsLt_bf16_f32

/-- The mask: the key (row) before the query (column). -/
def causal : Vec F S256x256 .i1 := cmpi .slt (iota .tc S256x256 32 [0] iota_S256x256_d0_w32) (iota .tc S256x256 32 [1] iota_S256x256_d1_w32)

/-- The sum of the softplus of the masked block. -/
def sumDiag (kt : FVec F S256x128 .bf16) (qt : FVec F S128x256 .bf16) : FVec F S256x256 .f32 :=
  nwr upper (select (causal (F := F)) (spl (lg kt qt)) (broadcast S256x256 (Scalar.ofBits .f32 0x00000000#32)))

/-- The sums before any block. -/
def noSum : FVec F S1x256 .f32 := broadcast S1x256 (Scalar.ofBits .f32 0x00000000#32)

/-- The masked block's weighted values. -/
def outDiag (kt : FVec F S256x128 .bf16) (qt : FVec F S128x256 .bf16) (vt : FVec F S64x256 .bf16) : FVec F S64x256 .f32 :=
  wval vt (select (causal (F := F)) (wts (lg kt qt) (sumDiag kt qt) noSum) (broadcast S256x256 (Scalar.ofBits .bf16 0x0000#16)))

/-- The carried sum after the masked block and `d` blocks before it. -/
def proCarry (kd : FVec F S256x128 .bf16) (kt : ℕ → FVec F S256x128 .bf16) (qt : FVec F S128x256 .bf16) : ℕ → FVec F S1x256 .f32
  | 0 => crr noSum (sumDiag kd qt)
  | d + 1 => crr (proCarry kd kt qt d) (sumOf upper (kt d) qt)

/-- The weighted values of the masked block and `d` blocks before it. -/
def proOut (kd : FVec F S256x128 .bf16) (kt : ℕ → FVec F S256x128 .bf16) (qt : FVec F S128x256 .bf16) (vd : FVec F S64x256 .bf16) (vt : ℕ → FVec F S64x256 .bf16) : ℕ → FVec F S64x256 .f32
  | 0 => outDiag kd qt vd
  | d + 1 => addf (proOut kd kt qt vd vt d) (wval (vt d) (wts (lg (kt d) qt) (sumOf upper (kt d) qt) (proCarry kd kt qt d)))

/-! ## The blocks loaded -/

/-- The offset of the masked block of keys of a head and a part. -/
def dkoff (i : grid0.Coords) (hh p : Fin 4) : Fin 2 → ℕ := (![k0_off1 i, k0_off5 i, k0_off9 i, k0_off13 i] hh) (BitVec.ofNat 32 p.val)

/-- The offset of the masked block of values of a head and a part. -/
def dvoff (i : grid0.Coords) (hh p : Fin 4) : Fin 3 → ℕ := (![k0_off2 i, k0_off6 i, k0_off10 i, k0_off14 i] hh) (BitVec.ofNat 32 p.val)

theorem dkoff_inb (i : grid0.Coords) (hh p : Fin 4) : ∀ a, dkoff i hh p a + S256x128.size a ≤ S16384x512.size a := by
  fin_cases hh
  exacts [k0_off1_inb i p, k0_off5_inb i p, k0_off9_inb i p, k0_off13_inb i p]

theorem dvoff_inb (i : grid0.Coords) (hh p : Fin 4) : ∀ a, dvoff i hh p a + S1x64x256.size a ≤ S64x256x256.size a := by
  fin_cases hh
  exacts [k0_off2_inb i p, k0_off6_inb i p, k0_off10_inb i p, k0_off14_inb i p]

/-- The offset of the `d`-th block of keys before the masked one. -/
def pkoff (i : grid0.Coords) (hh p : Fin 4) (d : ℕ) : Fin 2 → ℕ := (![k0_off3 i, k0_off7 i, k0_off11 i, k0_off15 i] hh) (BitVec.ofNat 32 p.val) (BitVec.ofNat 32 d)

/-- The offset of the `d`-th block of values before the masked one. -/
def pvoff (i : grid0.Coords) (hh p : Fin 4) (d : ℕ) : Fin 3 → ℕ := (![k0_off4 i, k0_off8 i, k0_off12 i, k0_off16 i] hh) (BitVec.ofNat 32 p.val) (BitVec.ofNat 32 d)

theorem pkoff_inb (i : grid0.Coords) (hh p : Fin 4) (d : ℕ) (h : d < p.val) : ∀ a, pkoff i hh p d a + S256x128.size a ≤ S16384x512.size a := by
  have key : ∀ (hh : Fin 4) (r : Fin 6), ∀ a, (![k0_off3 i, k0_off7 i, k0_off11 i, k0_off15 i] hh) (k0_off3_at r).1 (k0_off3_at r).2 a + S256x128.size a ≤ S16384x512.size a := by
    intro hh; fin_cases hh
    exacts [k0_off3_inb i, k0_off7_inb i, k0_off11_inb i, k0_off15_inb i]
  obtain ⟨p, hp⟩ := p
  interval_cases p <;> simp only at h <;> interval_cases d
  exacts [key hh 0, key hh 1, key hh 2, key hh 3, key hh 4, key hh 5]

theorem pvoff_inb (i : grid0.Coords) (hh p : Fin 4) (d : ℕ) (h : d < p.val) : ∀ a, pvoff i hh p d a + S1x64x256.size a ≤ S64x256x256.size a := by
  have key : ∀ (hh : Fin 4) (r : Fin 6), ∀ a, (![k0_off4 i, k0_off8 i, k0_off12 i, k0_off16 i] hh) (k0_off4_at r).1 (k0_off4_at r).2 a + S1x64x256.size a ≤ S64x256x256.size a := by
    intro hh; fin_cases hh
    exacts [k0_off4_inb i, k0_off8_inb i, k0_off12_inb i, k0_off16_inb i]
  obtain ⟨p, hp⟩ := p
  interval_cases p <;> simp only at h <;> interval_cases d
  exacts [key hh 0, key hh 1, key hh 2, key hh 3, key hh 4, key hh 5]

/-- The `d`-th block of keys before the masked one (there are as many as the part's number). -/
def pk (arg3 : Memref sig .tc .vmem S16384x512 .bf16) (X3 : BufTy.Contents (Elt F) arg3.view.ty) (i : grid0.Coords) (hh p : Fin 4) (d : ℕ) : FVec F S256x128 .bf16 :=
  if h : d < p.val then kld arg3 X3 (pkoff i hh p d) (pkoff_inb i hh p d h) else constant S256x128 .bf16 0x0000#16

/-- The `d`-th block of values before the masked one. -/
def pv (arg4 : Memref sig .tc .vmem S64x256x256 .bf16) (X4 : BufTy.Contents (Elt F) arg4.view.ty) (i : grid0.Coords) (hh p : Fin 4) (d : ℕ) : FVec F S64x256 .bf16 :=
  if h : d < p.val then vld arg4 X4 (pvoff i hh p d) (pvoff_inb i hh p d h) else constant S64x256 .bf16 0x0000#16

/-! ## The body -/

/-- The body's store: the transposed accumulator after the loop. The loop starts from sums and an accumulator that hold, for each head and
    part, what the masked block and the blocks before it of the same point give. -/
theorem body_value (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec F S4x512x256 .bf16) (x1 : Vec F S16384x512 .bf16) (x2 : Vec F S64x256x256 .bf16) :
    ∃ (v9 : BitVec 32) (L : List (View.Piece (Elt F) S256x1024 .f32)) (init : Carries F),
      (kernelRun0_A c i arg2 harg2 arg3 harg3 arg4 harg4 arg5 harg5 arg6 harg6 arg7 harg7 x0 x1 x2).1
        = [⟨Rect.unit (s := S1024x256) ![0, 0] ![1024, 256] inb_S1024x256_S1024x256_0_0,
            k0_pay9 (View.readAt (Elt F) arg6.view (Rect.unit (s := S256x1024) ![0, 0] ![256, 1024] inb_S256x1024_S256x1024_0_0).toLoadRect
              (arg6.view.writes (Elt F) arg6.view.junk
                ((st (F := F) .none c none i arg2 harg2 arg3 harg3 arg4 harg4 arg5 harg5 arg6 harg6 arg7 harg7 upper v9 (harg2.unread x0) (harg3.unread x1) (harg4.unread x2)
                    (arg6.view.writes (Elt F) arg6.view.junk L) init (Scf.trips (k0_t1_loop i).lb (k0_t1_loop i).ub (k0_t1_loop i).st)).2 ++ L)))⟩]
      ∧ (∀ hh p, stream init hh p = proCarry (kld arg3 (harg3.unread x1) (dkoff i hh p) (dkoff_inb i hh p)) (pk arg3 (harg3.unread x1) i hh p) (qld arg2 (harg2.unread x0) hh p) p.val)
      ∧ (∀ hh p, accAt arg6 (arg6.view.writes (Elt F) arg6.view.junk L) hh p
          = shapeCast S64x256 (proOut (kld arg3 (harg3.unread x1) (dkoff i hh p) (dkoff_inb i hh p)) (pk arg3 (harg3.unread x1) i hh p) (qld arg2 (harg2.unread x0) hh p)
              (vld arg4 (harg4.unread x2) (dvoff i hh p) (dvoff_inb i hh p)) (pv arg4 (harg4.unread x2) i hh p) p.val) shapeCasts_S64x256_S64x256) := by
  refine ⟨kernelRun0_A.sl.v9 i, kernelRun0_A.sl.HS0_16 c i arg2 harg2 arg3 harg3 arg4 harg4 arg7 x0 x1 x2, _, rfl, fun hh p => ?_, fun hh p => ?_⟩
  · fin_cases hh <;> fin_cases p <;>
    · dsimp only [stream]
      simp only [Fin.zero_eta, Fin.mk_one, Fin.reduceFinMk, Matrix.cons_val]
      sl_open_run
      sl_open_pay
      simp (disch := decide) only [slot_hit, slot_miss]
      rfl
  · unfold accAt
    fin_cases hh <;> fin_cases p <;>
    · simp only [Fin.zero_eta, Fin.mk_one, Fin.reduceFinMk, Matrix.cons_val, Fin.val_zero, Fin.val_one, Fin.isValue, Fin.reduceFinMk, Nat.reduceMul, Fin.coe_ofNat_eq_mod, Nat.reduceMod]
      refine Eq.trans (by
        unfold kernelRun0_A.sl.HS0_16
        simp (disch := decide) only [acc_hit, acc_miss]
        rfl) ?_
      sl_open_run
      sl_open_pay
      simp (disch := decide) only [slot_hit, slot_miss]
      rfl

end Cert.KernelIdeal.Attn

end
-- ==== Proof.Ideal.Sums.lean ====
/- The weights of one query over the keys before it, and their sums over ranges of keys. -/
module

public import Idealize.ShloMosaic.PureOps.Ideal
public import Mathlib.Analysis.SpecialFunctions.Pow.Real
public import Mathlib.Algebra.BigOperators.Intervals
public import Mathlib.Algebra.BigOperators.Fin

@[expose] public section

noncomputable section

namespace Cert.Attn

open Finset Idealize.ShloMosaic

/-- The softplus in units of `log 2`, of a logit in the same units. -/
def sp2 (w : EReal) : EReal := Ideal.log (1 + Ideal.exp2 w) * (((Real.log 2)⁻¹ : ℝ) : EReal)

/-- The softplus of the logits `W`, summed over the keys from `lo` to before `n`. -/
def cum (W : ℕ → EReal) (lo n : ℕ) : EReal := ∑ k ∈ Ico lo n, sp2 (W k)

/-- The weight of key `k` for the query at place `n`. -/
def wgt (W : ℕ → EReal) (n k : ℕ) : EReal := Ideal.exp2 (W k - cum W k n)

/-- The values `V` weighted, over the keys from `lo` to before `hi`, for the query at place `n`. -/
def part (W V : ℕ → EReal) (lo hi n : ℕ) : EReal := ∑ k ∈ Ico lo hi, V k * wgt W n k

theorem log_two_pos : (0 : ℝ) < (Real.log 2)⁻¹ := inv_pos.2 (Real.log_pos one_lt_two)

/-- The softplus of a real logit. -/
theorem sp2_coe (w : ℝ) : sp2 (w : EReal) = ((Real.log (1 + Real.rpow 2 w) * (Real.log 2)⁻¹ : ℝ) : EReal) := by
  have h2 : (0 : ℝ) < Real.rpow 2 w := Real.rpow_pos_of_pos two_pos w
  have e1 : Ideal.exp2 (w : EReal) = ((Real.rpow 2 w : ℝ) : EReal) := rfl
  unfold sp2
  rw [e1, ← EReal.coe_one, ← EReal.coe_add]
  have e2 : Ideal.log ((1 + Real.rpow 2 w : ℝ) : EReal) = ((Real.log (1 + Real.rpow 2 w) : ℝ) : EReal) := if_neg (not_le.mpr (by linarith))
  rw [e2, ← EReal.coe_mul]

theorem sp2_bot : sp2 ⊥ = 0 := by
  have e1 : Ideal.exp2 ⊥ = 0 := rfl
  have e2 : Ideal.log ((1 : ℝ) : EReal) = ((Real.log 1 : ℝ) : EReal) := if_neg (by norm_num)
  unfold sp2
  rw [e1, add_zero, ← EReal.coe_one, e2, Real.log_one, EReal.coe_zero, zero_mul]

theorem sp2_top : sp2 ⊤ = ⊤ := by
  have e1 : Ideal.exp2 ⊤ = ⊤ := rfl
  have e2 : (1 : EReal) + ⊤ = ⊤ := by rw [← EReal.coe_one]; exact EReal.coe_add_top 1
  have e3 : Ideal.log ⊤ = ⊤ := rfl
  unfold sp2
  rw [e1, e2, e3]
  exact EReal.top_mul_coe_of_pos log_two_pos

theorem sp2_nonneg (w : EReal) : 0 ≤ sp2 w := by
  induction w using EReal.rec with
  | bot => exact sp2_bot.ge
  | top => rw [sp2_top]; exact le_top
  | coe r =>
    rw [sp2_coe]
    have h2 : (0 : ℝ) < Real.rpow 2 r := Real.rpow_pos_of_pos two_pos r
    exact EReal.coe_nonneg.2 (mul_nonneg (Real.log_nonneg (by linarith)) log_two_pos.le)

theorem cum_nonneg (W : ℕ → EReal) (lo n : ℕ) : 0 ≤ cum W lo n := sum_nonneg fun _ _ => sp2_nonneg _

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

theorem cum_split (W : ℕ → EReal) {lo mid n : ℕ} (h : lo ≤ mid) (h' : mid ≤ n) : cum W lo n = cum W lo mid + cum W mid n :=
  (sum_Ico_consecutive _ h h').symm

/-- Taking two sums off one after the other is taking off their sum. -/
theorem sub_cum (W : ℕ → EReal) (x : EReal) {lo mid n : ℕ} (h : lo ≤ mid) (h' : mid ≤ n) : x - cum W lo mid - cum W mid n = x - cum W lo n := by
  have h1 : cum W lo mid ≠ ⊥ := ((EReal.bot_lt_zero).trans_le (cum_nonneg W lo mid)).ne'
  have h2 : cum W mid n ≠ ⊥ := ((EReal.bot_lt_zero).trans_le (cum_nonneg W mid n)).ne'
  rw [cum_split W h h', sub_eq_add_neg x (_ + _), EReal.neg_add (.inl h1) (.inr h2), sub_eq_add_neg, sub_eq_add_neg, sub_eq_add_neg, add_assoc]

/-- At the logit `⊥` the weight is zero. -/
theorem wgt_bot (W : ℕ → EReal) (n k : ℕ) (h : W k = ⊥) : wgt W n k = 0 := by
  unfold wgt
  rw [h, sub_eq_add_neg, EReal.bot_add]
  rfl

/-- Where a logit from the key on is `⊤`, the key's weight is zero. -/
theorem wgt_top (W : ℕ → EReal) (n k i : ℕ) (hi : i ∈ Ico k n) (h : W i = ⊤) : wgt W n k = 0 := by
  have hc : cum W k n = ⊤ := by
    unfold cum
    rw [← add_sum_erase _ _ hi, h, sp2_top]
    exact EReal.top_add_of_ne_bot ((EReal.bot_lt_zero).trans_le (sum_nonneg fun _ _ => sp2_nonneg _)).ne'
  unfold wgt
  rw [hc, sub_eq_add_neg, EReal.neg_top, EReal.add_bot]
  rfl

theorem part_split (W V : ℕ → EReal) {lo mid hi : ℕ} (n : ℕ) (h : lo ≤ mid) (h' : mid ≤ hi) :
    part W V lo hi n = part W V lo mid n + part W V mid hi n :=
  (sum_Ico_consecutive _ h h').symm

/-- A sum over a block of 256 is one over its range of keys. -/
theorem sum_block {M : Type*} [AddCommMonoid M] (f : ℕ → M) (b : ℕ) : ∑ s : Fin 256, f (b + s.val) = ∑ k ∈ Ico b (b + 256), f k := by
  rw [Fin.sum_univ_eq_sum_range (fun s => f (b + s)) 256, sum_Ico_eq_sum_range, Nat.add_sub_cancel_left]

/-- A sum over the places of a block from `s` on. -/
theorem sum_block_from {M : Type*} [AddCommMonoid M] (f : ℕ → M) (b : ℕ) (s : Fin 256) :
    (∑ k : Fin 256, if s ≤ k then f (b + k.val) else 0) = ∑ k ∈ Ico (b + s.val) (b + 256), f k := by
  have h := sum_block (fun k => if b + s.val ≤ k then f k else 0) b
  simp only [Nat.add_le_add_iff_left] at h
  simp only [Fin.le_def]
  rw [h, ← sum_filter]
  refine sum_congr ?_ fun _ _ => rfl
  ext k; simp only [mem_filter, mem_Ico]; have := s.isLt; omega

/-- A sum over the places of a block from `s` on and before `t`. -/
theorem sum_block_between {M : Type*} [AddCommMonoid M] (f : ℕ → M) (b : ℕ) (s t : Fin 256) :
    (∑ k : Fin 256, if s ≤ k then (if k < t then f (b + k.val) else 0) else 0) = ∑ k ∈ Ico (b + s.val) (b + t.val), f k := by
  have h := sum_block_from (fun k => if k < b + t.val then f k else 0) b s
  simp only [Nat.add_lt_add_iff_left] at h
  simp only [Fin.lt_def]
  rw [h, ← sum_filter]
  refine sum_congr ?_ fun _ _ => rfl
  ext k; simp only [mem_filter, mem_Ico]; have := t.isLt; omega

/-- A sum over the places of a block before `t`. -/
theorem sum_block_before {M : Type*} [AddCommMonoid M] (f : ℕ → M) (b : ℕ) (t : Fin 256) :
    (∑ k : Fin 256, if k < t then f (b + k.val) else 0) = ∑ k ∈ Ico b (b + t.val), f k := by
  have h := sum_block_between f b 0 t
  simpa using h

end Cert.Attn

end
-- ==== Proof.Ideal.Lane.lean ====
/- The kernel's arithmetic on one block, read at one query: sums over the block's keys. -/
module

public import proofs.«01_k».proof.Proof.Ideal.Pro
public import proofs.«01_k».proof.Proof.Ideal.Sums
public import Idealize.ShloMosaic.Lib.Pointwise
public import Idealize.ShloMosaic.Lib.WordCmp

@[expose] public section

set_option maxRecDepth 16384
set_option maxHeartbeats 4000000

noncomputable section

namespace Cert.KernelIdeal.Attn

open Cert.KernelIdeal Cert.KernelIdeal.Gen Cert.Attn
open Idealize.ShloMosaic Idealize.ShloMosaic.TcCoe Idealize.ShloMosaic.Tactic

theorem no_limit_val : (Named.named (F := Ideal) (φ := .f32) κ "no_limit" 0x42FC0000#32) = (⊤ : EReal) :=
  IdealRules.named_const.ideal_named_scalar _ _ _ _ rfl

theorem log2e_val : (Named.named (F := Ideal) (φ := .f32) κ "log2e" 0x3FB8AA3B#32) = (((Real.log 2)⁻¹ : ℝ) : EReal) :=
  IdealRules.named_const.ideal_named_scalar _ _ _ _ rfl

/-- A logit: the product of a key and a query. -/
theorem lg_apply (kt : FVec Ideal S256x128 .bf16) (qt : FVec Ideal S128x256 .bf16) (s t : Fin 256) :
    lg (F := Ideal) kt qt (ix2 s t) = ∑ e : Fin 128, kt (ix2 s e) * qt (ix2 e t) := by
  unfold lg; rw [stored_eq]
  pointwise [no_limit_val]
  exact min_eq_left le_top

theorem spl_apply (z : FVec Ideal S256x256 .f32) (s t : Fin 256) : spl (F := Ideal) z (ix2 s t) = sp2 (z (ix2 s t)) := by
  pointwise [spl, log2e_val]
  rfl

theorem upper_apply (s k : Fin 256) : upper (F := Ideal) (ix2 s k) = if s ≤ k then 1 else 0 := by
  pointwise [upper]
  have hs := s.isLt; have hk := k.isLt
  rw [WordCmp.cmpi_sge_ofNat (by omega) (by omega), WordCmp.select_ofBool]
  simp only [decide_eq_true_eq, Fin.le_def]

theorem causal_apply (s t : Fin 256) : causal (F := Ideal) (ix2 s t) = BitVec.ofBool (decide (s < t)) := by
  pointwise [causal]
  have hs := s.isLt; have ht := t.isLt
  rw [WordCmp.cmpi_slt_ofNat (by omega) (by omega)]
  simp only [Fin.lt_def]

theorem nwr_apply (x : FVec Ideal S256x256 .f32) (s t : Fin 256) :
    nwr (F := Ideal) upper x (ix2 s t) = ∑ k : Fin 256, if s ≤ k then x (ix2 k t) else 0 := by
  pointwise [nwr, upper_apply]
  refine Finset.sum_congr rfl fun k _ => ?_
  split_ifs
  · exact one_mul _
  · exact zero_mul _

theorem wts_apply (z n : FVec Ideal S256x256 .f32) (c : FVec Ideal S1x256 .f32) (s t : Fin 256) (a b e : EReal)
    (ha : z (ix2 s t) = a) (hb : n (ix2 s t) = b) (he : c (ix2 0 t) = e) :
    wts (F := Ideal) z n c (ix2 s t) = Ideal.exp2 (a - b - e) := by
  pointwise [wts, ha, hb, he]
  rfl

theorem wval_apply (vt : FVec Ideal S64x256 .bf16) (a : FVec Ideal S256x256 .bf16) (d : Fin 64) (t : Fin 256) :
    wval (F := Ideal) vt a (ix2 d t) = ∑ s : Fin 256, vt (ix2 d s) * a (ix2 s t) := by
  pointwise [wval]

theorem crr_apply (c : FVec Ideal S1x256 .f32) (n : FVec Ideal S256x256 .f32) (t : Fin 256) :
    crr (F := Ideal) c n (ix2 0 t) = (c (ix2 0 t) + n (ix2 0 t) : EReal) := by
  pointwise [crr]

theorem noSum_apply (t : Fin 256) : noSum (F := Ideal) (ix2 0 t) = (0 : EReal) := by
  pointwise [noSum]

/-! ## A block at one query -/

section
variable (kt : FVec Ideal S256x128 .bf16) (qt : FVec Ideal S128x256 .bf16) (vt : FVec Ideal S64x256 .bf16) (c : FVec Ideal S1x256 .f32)
  (W : ℕ → EReal) (V : ℕ → EReal) (b : ℕ) (d : Fin 64) (t : Fin 256)
  (hW : ∀ s : Fin 256, lg (F := Ideal) kt qt (ix2 s t) = W (b + s.val))

include hW

/-- The sum of a block, from each of its keys on. -/
theorem sumOf_lane (s : Fin 256) : sumOf (F := Ideal) upper kt qt (ix2 s t) = cum W (b + s.val) (b + 256) := by
  unfold sumOf
  rw [nwr_apply, cum, ← sum_block_from (fun k => sp2 (W k)) b s]
  refine Finset.sum_congr rfl fun k _ => ?_
  rw [spl_apply, hW k]

/-- The masked block's sum, from each of its keys on. -/
theorem sumDiag_lane (s : Fin 256) : sumDiag (F := Ideal) kt qt (ix2 s t) = cum W (b + s.val) (b + t.val) := by
  unfold sumDiag
  rw [nwr_apply, cum, ← sum_block_between (fun k => sp2 (W k)) b s t]
  refine Finset.sum_congr rfl fun k _ => ?_
  pointwise [spl_apply, hW k, causal_apply]

/-- The carried sum after a block. -/
theorem crr_lane (n : ℕ) (hn : b + 256 ≤ n) (hc : c (ix2 0 t) = cum W (b + 256) n) :
    crr (F := Ideal) c (sumOf upper kt qt) (ix2 0 t) = cum W b n := by
  rw [crr_apply, hc, sumOf_lane kt qt W b t hW 0, cum_split W (Nat.le_add_right b 256) hn, add_comm]
  rfl

/-- The carried sum after the masked block. -/
theorem crr_diag_lane : crr (F := Ideal) noSum (sumDiag kt qt) (ix2 0 t) = cum W b (b + t.val) := by
  rw [crr_apply, noSum_apply, sumDiag_lane kt qt W b t hW 0, zero_add]
  rfl

/-- A block's weighted values. -/
theorem out_lane (n : ℕ) (hn : b + 256 ≤ n) (hc : c (ix2 0 t) = cum W (b + 256) n)
    (hV : ∀ s : Fin 256, vt (ix2 d s) = V (b + s.val)) :
    wval (F := Ideal) vt (wts (lg kt qt) (sumOf upper kt qt) c) (ix2 d t) = part W V b (b + 256) n := by
  rw [wval_apply, part, ← sum_block (fun k => V k * wgt W n k) b]
  refine Finset.sum_congr rfl fun s _ => ?_
  have hs := s.isLt
  rw [hV, wts_apply _ _ _ _ _ _ _ _ (hW s) (sumOf_lane kt qt W b t hW s) hc, wgt,
    sub_cum W _ (lo := b + s.val) (mid := b + 256) (n := n) (by omega) hn]

/-- The masked block's weighted values. -/
theorem out_diag_lane (hV : ∀ s : Fin 256, vt (ix2 d s) = V (b + s.val)) :
    outDiag (F := Ideal) kt qt vt (ix2 d t) = part W V b (b + t.val) (b + t.val) := by
  unfold outDiag
  rw [wval_apply, part, ← sum_block_before (fun k => V k * wgt W (b + t.val) k) b t]
  refine Finset.sum_congr rfl fun s _ => ?_
  rw [hV]
  pointwise [causal_apply, wts_apply _ _ _ _ _ _ _ _ (hW s) (sumDiag_lane kt qt W b t hW s) (noSum_apply t), sub_zero]
  split_ifs
  · rfl
  · exact mul_zero _

end

end Cert.KernelIdeal.Attn

end
-- ==== Proof.Ideal.Loads.lean ====
/- What the kernel's loads of keys, values and queries read, entry by entry. -/
module

public import proofs.«01_k».proof.Proof.Ideal.Tile
public import Idealize.ShloMosaic.Lib.Pointwise
public import Idealize.ShloMosaic.Lib.WholeRead
public import Idealize.ShloMosaic.Lib.Pipeline.Value

@[expose] public section

set_option maxRecDepth 16384
set_option maxHeartbeats 400000

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- A block with one leading row of matrices, read as a matrix. -/
theorem cast_drop {α : Type} {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show (0 * a + i.val) * b + j.val = i.val * b + j.val
    rw [Nat.zero_mul, Nat.zero_add])

/-- A block of keys, read at an entry. -/
theorem kld_apply (arg3 : Memref sig .tc .vmem S16384x512 .bf16) (harg3 : arg3.IsWhole) (x1 : Vec F S16384x512 .bf16) (off : Fin 2 → ℕ) (h : ∀ a, off a + S256x128.size a ≤ S16384x512.size a)
    (b hh : ℕ) (hoff : off = ![256 * b, 128 * hh]) (hb : b < 64) (hhh : hh < 4) (s : Fin 256) (e : Fin 128) :
    kld arg3 (harg3.unread x1) off h (ix2 s e) = x1 (ix2 ⟨256 * b + s.val, by omega⟩ ⟨128 * hh + e.val, by omega⟩) := by
  subst hoff
  unfold kld
  refine (congrFun (shapeCast_self _ _) _).trans ?_
  refine (harg3.readAt_unread x1 _ _).trans (congrArg x1 ?_)
  funext a
  match a with
  | ⟨0, _⟩ => exact Fin.ext (show 256 * b + 1 * s.val = 256 * b + s.val by omega)
  | ⟨1, _⟩ => exact Fin.ext (show 128 * hh + 1 * e.val = 128 * hh + e.val by omega)

/-- A block of values, read at an entry. -/
theorem vld_apply (arg4 : Memref sig .tc .vmem S64x256x256 .bf16) (harg4 : arg4.IsWhole) (x2 : Vec F S64x256x256 .bf16) (off : Fin 3 → ℕ) (h : ∀ a, off a + S1x64x256.size a ≤ S64x256x256.size a)
    (b hh : ℕ) (hoff : off = ![b, 64 * hh, 0]) (hb : b < 64) (hhh : hh < 4) (d : Fin 64) (s : Fin 256) :
    vld arg4 (harg4.unread x2) off h (ix2 d s) = x2 (ix3 ⟨b, hb⟩ ⟨64 * hh + d.val, by omega⟩ s) := by
  subst hoff
  unfold vld
  refine (cast_drop _ _ d s).trans ?_
  refine (harg4.readAt_unread x2 _ _).trans (congrArg x2 ?_)
  funext a
  match a with
  | ⟨0, _⟩ => exact Fin.ext (show b + 0 * 1 = b by omega)
  | ⟨1, _⟩ => exact Fin.ext (show 64 * hh + 1 * d.val = 64 * hh + d.val by omega)
  | ⟨2, _⟩ => exact Fin.ext (show 0 + 1 * s.val = s.val by omega)

/-- A part of the queries, read at an entry. -/
theorem qld_apply (arg2 : Memref sig .tc .vmem S4x512x256 .bf16) (harg2 : arg2.IsWhole) (x0 : Vec F S4x512x256 .bf16) (hh p : Fin 4) (e : Fin 128) (t : Fin 256) :
    qld arg2 (harg2.unread x0) hh p (ix2 e t) = x0 (ix3 p ⟨128 * hh.val + e.val, by omega⟩ t) := by
  unfold qld
  refine (cast_drop _ _ e t).trans ?_
  refine (harg2.readAt_unread x0 _ _).trans (congrArg x0 ?_)
  funext a
  match a with
  | ⟨0, _⟩ => exact Fin.ext (show p.val + 0 * 1 = p.val by omega)
  | ⟨1, _⟩ => exact Fin.ext (show 128 * hh.val + 1 * e.val = 128 * hh.val + e.val by omega)
  | ⟨2, _⟩ => exact Fin.ext (show 0 + 1 * t.val = t.val by omega)

end Cert.KernelIdeal.Attn

end
-- ==== Proof.Ideal.Offsets.lean ====
/- Where the kernel loads its blocks of keys, values and queries, in plain numbers. -/
module

public import proofs.«01_k».proof.Proof.Ideal.Pro
public import Idealize.ShloMosaic.Lib.Pointwise
public import Idealize.ShloMosaic.Lib.WholeRead

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic

/-! ## The offsets -/

theorem dkoff_eq : ∀ (i : grid0.Coords) (hh p : Fin 4), dkoff i hh p = ![256 * (4 * (i 1).val + p.val), 128 * hh.val] := by decide +kernel

theorem dvoff_eq : ∀ (i : grid0.Coords) (hh p : Fin 4), dvoff i hh p = ![4 * (i 1).val + p.val, 64 * hh.val, 0] := by decide +kernel

theorem pkoff_eq : ∀ (i : grid0.Coords) (hh p d : Fin 4), d.val < p.val → pkoff i hh p d.val = ![256 * (4 * (i 1).val + p.val - 1 - d.val), 128 * hh.val] := by decide +kernel

theorem pvoff_eq : ∀ (i : grid0.Coords) (hh p d : Fin 4), d.val < p.val → pvoff i hh p d.val = ![4 * (i 1).val + p.val - 1 - d.val, 64 * hh.val, 0] := by decide +kernel

theorem koff_eq : ∀ (i : grid0.Coords) (k : Fin (k0_t1_loop i).trips) (hh d : Fin 4), koff i k hh d = ![256 * (4 * (i 1).val - 1 - 4 * k.val - d.val), 128 * hh.val] := by decide +kernel

theorem voff_eq : ∀ (i : grid0.Coords) (k : Fin (k0_t1_loop i).trips) (hh d : Fin 4), voff i k hh d = ![4 * (i 1).val - 1 - 4 * k.val - d.val, 64 * hh.val, 0] := by decide +kernel

theorem trips_eq : ∀ (i : grid0.Coords), (k0_t1_loop i).trips = (i 1).val := by decide +kernel

theorem trips_eq' (i : grid0.Coords) : Scf.trips (k0_t1_loop i).lb (k0_t1_loop i).ub (k0_t1_loop i).st = (i 1).val := trips_eq i

end Cert.KernelIdeal.Attn

end
-- ==== Proof.Ideal.After.lean ====
/- The accumulator after the loop, entry by entry: the values of the keys before the query, each with its weight. -/
module

public import proofs.«01_k».proof.Proof.Ideal.Lane
public import proofs.«01_k».proof.Proof.Ideal.Loads
public import proofs.«01_k».proof.Proof.Ideal.Offsets

@[expose] public section

set_option maxRecDepth 16384
set_option maxHeartbeats 1000000

noncomputable section

namespace Cert.KernelIdeal.Attn

open Cert.KernelIdeal Cert.KernelIdeal.Gen Cert.Attn
open Idealize.ShloMosaic Idealize.ShloMosaic.TcCoe Idealize.ShloMosaic.Tactic

/-! ## The blocks before the loop -/

section
variable (kd : FVec Ideal S256x128 .bf16) (kt : ℕ → FVec Ideal S256x128 .bf16) (qt : FVec Ideal S128x256 .bf16) (vd : FVec Ideal S64x256 .bf16) (vt : ℕ → FVec Ideal S64x256 .bf16)
    (W : ℕ → EReal) (V : ℕ → EReal) (B p : ℕ) (t : Fin 256) (r : Fin 64) (hp : p ≤ B)
    (hd : ∀ s : Fin 256, lg (F := Ideal) kd qt (ix2 s t) = W (256 * B + s.val))
    (hk : ∀ d < p, ∀ s : Fin 256, lg (F := Ideal) (kt d) qt (ix2 s t) = W (256 * (B - 1 - d) + s.val))
include hp hd hk

/-- The carried sum after the masked block and `d` blocks before it. -/
theorem proCarry_lane (d : ℕ) (hdp : d ≤ p) : proCarry (F := Ideal) kd kt qt d (ix2 0 t) = cum W (256 * (B - d)) (256 * B + t.val) := by
  induction d with
  | zero => exact crr_diag_lane _ _ _ _ _ hd
  | succ d ih =>
    have e : 256 * (B - 1 - d) + 256 = 256 * (B - d) := by omega
    have e' : 256 * (B - (d + 1)) = 256 * (B - 1 - d) := by omega
    rw [e']
    exact crr_lane _ _ _ _ _ _ (hk d (by omega)) _ (by omega) (by rw [e]; exact ih (by omega))

/-- The weighted values of the masked block and `d` blocks before it. -/
theorem proOut_lane (hvd : ∀ s : Fin 256, vd (ix2 r s) = V (256 * B + s.val)) (hv : ∀ d < p, ∀ s : Fin 256, vt d (ix2 r s) = V (256 * (B - 1 - d) + s.val))
    (d : ℕ) (hdp : d ≤ p) : proOut (F := Ideal) kd kt qt vd vt d (ix2 r t) = part W V (256 * (B - d)) (256 * B + t.val) (256 * B + t.val) := by
  induction d with
  | zero => exact out_diag_lane (hW := hd) (hV := hvd)
  | succ d ih =>
    have e : 256 * (B - 1 - d) + 256 = 256 * (B - d) := by omega
    have e' : 256 * (B - (d + 1)) = 256 * (B - 1 - d) := by omega
    rw [e']
    have hc := proCarry_lane kd kt qt W B p t hp hd hk d (by omega)
    have ho := out_lane (hW := hk d (by omega)) (n := 256 * B + t.val) (hn := by omega) (hc := by rw [e]; exact hc) (hV := hv d (by omega))
    have hs : proOut (F := Ideal) kd kt qt vd vt (d + 1) (ix2 r t)
      = (proOut (F := Ideal) kd kt qt vd vt d (ix2 r t) + wval (F := Ideal) (vt d) (wts (lg (kt d) qt) (sumOf upper (kt d) qt) (proCarry kd kt qt d)) (ix2 r t) : EReal) := rfl
    rw [hs, ho, ih (by omega), e, part_split W V (lo := 256 * (B - 1 - d)) (mid := 256 * (B - d)) (hi := 256 * B + t.val) _ (by omega) (by omega), add_comm]

end

/-! ## A trip -/

section
variable (kt : Fin 4 → FVec Ideal S256x128 .bf16) (qt : FVec Ideal S128x256 .bf16) (vt : Fin 4 → FVec Ideal S64x256 .bf16) (c : FVec Ideal S1x256 .f32)
    (W : ℕ → EReal) (V : ℕ → EReal) (B n : ℕ) (t : Fin 256) (r : Fin 64) (hB : 4 ≤ B) (hn : 256 * B ≤ n)
    (hk : ∀ (d : Fin 4) (s : Fin 256), lg (F := Ideal) (kt d) qt (ix2 s t) = W (256 * (B - 1 - d.val) + s.val))
    (hc : c (ix2 0 t) = cum W (256 * B) n)
include hB hn hk hc

/-- The carried sum after `d` of a trip's blocks. -/
theorem carryN_lane (d : ℕ) (hd : d ≤ 4) : carryN (F := Ideal) upper kt qt c d (ix2 0 t) = cum W (256 * (B - d)) n := by
  induction d with
  | zero => exact hc
  | succ d ih =>
    have e : 256 * (B - 1 - d) + 256 = 256 * (B - d) := by omega
    have e' : 256 * (B - (d + 1)) = 256 * (B - 1 - d) := by omega
    have hf : Fin.ofNat 4 d = (⟨d, by omega⟩ : Fin 4) := Fin.ext (Nat.mod_eq_of_lt (by omega))
    rw [e', carryN, hf]
    exact crr_lane _ _ _ _ _ _ (hk ⟨d, by omega⟩) _ (by show 256 * (B - 1 - d) + 256 ≤ n; omega) (by show _ = cum W (256 * (B - 1 - d) + 256) n; rw [e]; exact ih (by omega))

/-- The weighted values of a trip's block. -/
theorem outN_lane (d : Fin 4) (hv : ∀ s : Fin 256, vt d (ix2 r s) = V (256 * (B - 1 - d.val) + s.val)) :
    outN (F := Ideal) upper kt qt vt c d (ix2 r t) = part W V (256 * (B - (d.val + 1))) (256 * (B - d.val)) n := by
  have hd := d.isLt
  have e : 256 * (B - 1 - d.val) + 256 = 256 * (B - d.val) := by omega
  have e' : 256 * (B - (d.val + 1)) = 256 * (B - 1 - d.val) := by omega
  rw [e', ← e]
  exact out_lane (hW := hk d) (hn := by omega) (hc := by rw [e]; exact carryN_lane kt qt c W B n t hB hn hk hc d.val (by omega)) (hV := hv)

end

/-! ## The accumulator as an array -/

section
variable {F : FTy → Type} [FloatOps F] [Named F]

/-- The accumulator of a head and a part, read at an entry. -/
theorem accAt_apply (arg6 : Memref sig .tc .vmem S256x1024 .f32) (f : BufTy.Contents (Elt F) arg6.view.ty) (hh p : Fin 4) (r : Fin 64) (t : Fin 256) :
    accAt arg6 f hh p (ix2 r t) = arg6.view.read (Elt F) f (ix2 ⟨64 * hh.val + r.val, by omega⟩ ⟨256 * p.val + t.val, by omega⟩) := by
  unfold accAt
  refine congrArg (arg6.view.read (Elt F) f) ?_
  funext a
  match a with
  | ⟨0, _⟩ => exact Fin.ext (show 64 * hh.val + 1 * r.val = 64 * hh.val + r.val by omega)
  | ⟨1, _⟩ => exact Fin.ext (show 256 * p.val + 1 * t.val = 256 * p.val + t.val by omega)

/-- The block stored: the accumulator transposed. -/
theorem stored_apply (arg6 : Memref sig .tc .vmem S256x1024 .f32) (f : BufTy.Contents (Elt F) arg6.view.ty) (hh p : Fin 4) (r : Fin 64) (t : Fin 256) :
    k0_pay9 (View.readAt (Elt F) arg6.view (Rect.unit (s := S256x1024) ![0, 0] ![256, 1024] inb_S256x1024_S256x1024_0_0).toLoadRect f)
        (ix2 ⟨256 * p.val + t.val, by omega⟩ ⟨64 * hh.val + r.val, by omega⟩) = accAt arg6 f hh p (ix2 r t) := by
  rw [accAt_apply]
  unfold k0_pay9
  refine (transpose_apply _ _ _ _ (ix2 ⟨64 * hh.val + r.val, by omega⟩ ⟨256 * p.val + t.val, by omega⟩) fun a => match a with | ⟨0, _⟩ => rfl | ⟨1, _⟩ => rfl).trans ?_
  refine congrArg (arg6.view.read (Elt F) f) ?_
  funext a
  match a with
  | ⟨0, _⟩ => exact Fin.ext (show 0 + 1 * (64 * hh.val + r.val) = 64 * hh.val + r.val by omega)
  | ⟨1, _⟩ => exact Fin.ext (show 0 + 1 * (256 * p.val + t.val) = 256 * p.val + t.val by omega)

end

/-! ## The body -/

section
variable (c : Dev nD) (i : grid0.Coords) (arg2 : Memref sig .tc .vmem S4x512x256 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S7x256x256 .f32) (harg7 : arg7.IsWhole)
    (x0 : Vec Ideal S4x512x256 .bf16) (x1 : Vec Ideal S16384x512 .bf16) (x2 : Vec Ideal S64x256x256 .bf16) (hh p : Fin 4) (t : Fin 256) (r : Fin 64) (W : ℕ → EReal) (V : ℕ → EReal)
    (hW : ∀ k : Fin 16384, (∑ e : Fin 128, (x1 (ix2 k ⟨128 * hh.val + e.val, by omega⟩) : EReal) * (x0 (ix3 p ⟨128 * hh.val + e.val, by omega⟩ t) : EReal)) = W k.val)
    (hV : ∀ (b : Fin 64) (s : Fin 256), x2 (ix3 b ⟨64 * hh.val + r.val, by omega⟩ s) = V (256 * b.val + s.val))

include hW in
/-- The logits of a block of keys, at one query. -/
theorem lg_block (off : Fin 2 → ℕ) (h : ∀ a, off a + S256x128.size a ≤ S16384x512.size a) (b : ℕ) (hoff : off = ![256 * b, 128 * hh.val]) (hb : b < 64) (s : Fin 256) :
    lg (F := Ideal) (kld arg3 (harg3.unread x1) off h) (qld arg2 (harg2.unread x0) hh p) (ix2 s t) = W (256 * b + s.val) := by
  rw [lg_apply, ← hW ⟨256 * b + s.val, by omega⟩]
  refine Finset.sum_congr rfl fun e _ => ?_
  rw [kld_apply arg3 harg3 x1 off h b hh.val hoff hb hh.isLt, qld_apply]

include hV in
/-- The values of a block of keys. -/
theorem v_block (off : Fin 3 → ℕ) (h : ∀ a, off a + S1x64x256.size a ≤ S64x256x256.size a) (b : ℕ) (hoff : off = ![b, 64 * hh.val, 0]) (hb : b < 64) (s : Fin 256) :
    vld (F := Ideal) arg4 (harg4.unread x2) off h (ix2 r s) = V (256 * b + s.val) := by
  rw [vld_apply arg4 harg4 x2 off h b hh.val hoff hb hh.isLt]
  exact hV ⟨b, hb⟩ s

include hW hV in
/-- The block the body stores, at an entry: over the keys before the query, the values weighted. -/
theorem body_entry : ∃ w, (kernelRun0_A (F := Ideal) c i arg2 harg2 arg3 harg3 arg4 harg4 arg5 harg5 arg6 harg6 arg7 harg7 x0 x1 x2).1
      = [⟨Rect.unit (s := S1024x256) ![0, 0] ![1024, 256] inb_S1024x256_S1024x256_0_0, w⟩]
    ∧ w (ix2 ⟨256 * p.val + t.val, by omega⟩ ⟨64 * hh.val + r.val, by omega⟩)
        = part W V 0 (256 * (4 * (i 1).val + p.val) + t.val) (256 * (4 * (i 1).val + p.val) + t.val) := by
  obtain ⟨v9, L, init, hrun, hcar, hacc⟩ := body_value (F := Ideal) c i arg2 harg2 arg3 harg3 arg4 harg4 arg5 harg5 arg6 harg6 arg7 harg7 x0 x1 x2
  refine ⟨_, hrun, ?_⟩
  have hq : (i 1).val < 16 := (i 1).isLt
  have hp := p.isLt
  have ht := t.isLt
  have hkd := lg_block arg2 harg2 arg3 harg3 x0 x1 hh p t W hW (dkoff i hh p) (dkoff_inb i hh p) (4 * (i 1).val + p.val) (dkoff_eq i hh p) (by omega)
  have hvd := v_block arg4 harg4 x2 hh r V hV (dvoff i hh p) (dvoff_inb i hh p) (4 * (i 1).val + p.val) (dvoff_eq i hh p) (by omega)
  have hk : ∀ d < p.val, ∀ s : Fin 256, lg (F := Ideal) (pk arg3 (harg3.unread x1) i hh p d) (qld arg2 (harg2.unread x0) hh p) (ix2 s t)
      = W (256 * (4 * (i 1).val + p.val - 1 - d) + s.val) := by
    intro d hd s
    rw [pk, dif_pos hd]
    exact lg_block arg2 harg2 arg3 harg3 x0 x1 hh p t W hW _ _ _ (pkoff_eq i hh p ⟨d, by omega⟩ hd) (by omega) s
  have hv : ∀ d < p.val, ∀ s : Fin 256, pv (F := Ideal) arg4 (harg4.unread x2) i hh p d (ix2 r s) = V (256 * (4 * (i 1).val + p.val - 1 - d) + s.val) := by
    intro d hd s
    rw [pv, dif_pos hd]
    exact v_block arg4 harg4 x2 hh r V hV _ _ _ (pvoff_eq i hh p ⟨d, by omega⟩ hd) (by omega) s
  have hcar0 := congrFun (hcar hh p) (ix2 0 t)
  rw [proCarry_lane _ _ _ W (4 * (i 1).val + p.val) p.val t (by omega) hkd hk p.val le_rfl, Nat.add_sub_cancel] at hcar0
  have hacc0 := congrFun (hacc hh p) (ix2 r t)
  rw [shapeCast_self, proOut_lane _ _ _ _ _ W V (4 * (i 1).val + p.val) p.val t r (by omega) hkd hk hvd hv p.val le_rfl, Nat.add_sub_cancel] at hacc0
  have key : ∀ k, k ≤ (i 1).val →
      stream (st (F := Ideal) .none c none i arg2 harg2 arg3 harg3 arg4 harg4 arg5 harg5 arg6 harg6 arg7 harg7 upper v9 (harg2.unread x0) (harg3.unread x1) (harg4.unread x2)
          (arg6.view.writes (Elt Ideal) arg6.view.junk L) init k).1 hh p (ix2 0 t) = cum W (256 * (4 * (i 1).val - 4 * k)) (256 * (4 * (i 1).val + p.val) + t.val)
      ∧ accAt arg6 (arg6.view.writes (Elt Ideal) (arg6.view.writes (Elt Ideal) arg6.view.junk L)
          (st (F := Ideal) .none c none i arg2 harg2 arg3 harg3 arg4 harg4 arg5 harg5 arg6 harg6 arg7 harg7 upper v9 (harg2.unread x0) (harg3.unread x1) (harg4.unread x2)
          (arg6.view.writes (Elt Ideal) arg6.view.junk L) init k).2) hh p (ix2 r t)
        = part W V (256 * (4 * (i 1).val - 4 * k)) (256 * (4 * (i 1).val + p.val) + t.val) (256 * (4 * (i 1).val + p.val) + t.val) := by
    intro k
    induction k with
    | zero => exact fun _ => ⟨hcar0, hacc0⟩
    | succ k ih =>
      intro hk4
      obtain ⟨ih1, ih2⟩ := ih (by omega)
      have hlt : k < (k0_t1_loop i).trips := by rw [trips_eq]; omega
      have hst := st_succ (F := Ideal) .none c none i arg2 harg2 arg3 harg3 arg4 harg4 arg5 harg5 arg6 harg6 arg7 harg7 upper v9 (harg2.unread x0) (harg3.unread x1) (harg4.unread x2)
          (arg6.view.writes (Elt Ideal) arg6.view.junk L) init ⟨k, hlt⟩
      simp only at hst
      rw [hst]
      generalize st (F := Ideal) .none c none i arg2 harg2 arg3 harg3 arg4 harg4 arg5 harg5 arg6 harg6 arg7 harg7 upper v9 (harg2.unread x0) (harg3.unread x1) (harg4.unread x2)
          (arg6.view.writes (Elt Ideal) arg6.view.junk L) init k = S at ih1 ih2 ⊢
      have hkk : ∀ (d : Fin 4) (s : Fin 256), lg (F := Ideal) (kld arg3 (harg3.unread x1) (koff i ⟨k, hlt⟩ hh d) (koff_inb i ⟨k, hlt⟩ hh d)) (qld arg2 (harg2.unread x0) hh p) (ix2 s t)
          = W (256 * (4 * (i 1).val - 4 * k - 1 - d.val) + s.val) := by
        intro d s
        refine lg_block arg2 harg2 arg3 harg3 x0 x1 hh p t W hW _ _ _ ((koff_eq i ⟨k, hlt⟩ hh d).trans ?_) (by omega) s
        rw [show 4 * (i 1).val - 4 * k - 1 - d.val = 4 * (i 1).val - 1 - 4 * k - d.val by omega]
      have hvv : ∀ (d : Fin 4) (s : Fin 256), vld (F := Ideal) arg4 (harg4.unread x2) (voff i ⟨k, hlt⟩ hh d) (voff_inb i ⟨k, hlt⟩ hh d) (ix2 r s)
          = V (256 * (4 * (i 1).val - 4 * k - 1 - d.val) + s.val) := by
        intro d s
        refine v_block arg4 harg4 x2 hh r V hV _ _ _ ((voff_eq i ⟨k, hlt⟩ hh d).trans ?_) (by omega) s
        rw [show 4 * (i 1).val - 4 * k - 1 - d.val = 4 * (i 1).val - 1 - 4 * k - d.val by omega]
      have hn : 256 * (4 * (i 1).val - 4 * k) ≤ 256 * (4 * (i 1).val + p.val) + t.val := by omega
      have h4 : 4 ≤ 4 * (i 1).val - 4 * k := by omega
      refine ⟨?_, ?_⟩
      · rw [trip_carry, carryN_lane _ _ _ W (4 * (i 1).val - 4 * k) _ t h4 hn hkk ih1 4 le_rfl,
          show 4 * (i 1).val - 4 * (k + 1) = 4 * (i 1).val - 4 * k - 4 by omega]
      · rw [View.writes_append, trip_acc, shapeCast_self]
        have ho : ∀ d : Fin 4, _ := fun d => outN_lane _ _ (fun d => vld (F := Ideal) arg4 (harg4.unread x2) (voff i ⟨k, hlt⟩ hh d) (voff_inb i ⟨k, hlt⟩ hh d)) _ W V (4 * (i 1).val - 4 * k) _ t r h4 hn hkk ih1 d (hvv d)
        show (_ + (((_ + _) + _) + _) : EReal) = _
        rw [ih2, ho 0, ho 1, ho 2, ho 3, show 4 * (i 1).val - 4 * (k + 1) = 4 * (i 1).val - 4 * k - 4 by omega]
        generalize 4 * (i 1).val - 4 * k = B at h4 hn
        show part W V (256 * B) _ _ + (part W V (256 * (B - 1)) (256 * B) _ + part W V (256 * (B - 2)) (256 * (B - 1)) _ + part W V (256 * (B - 3)) (256 * (B - 2)) _
          + part W V (256 * (B - 4)) (256 * (B - 3)) _) = _
        generalize 256 * (4 * (i 1).val + p.val) + t.val = n at hn
        rw [part_split W V (lo := 256 * (B - 4)) (mid := 256 * (B - 3)) (hi := n) n (by omega) (by omega), part_split W V (lo := 256 * (B - 3)) (mid := 256 * (B - 2)) (hi := n) n (by omega) (by omega),
          part_split W V (lo := 256 * (B - 2)) (mid := 256 * (B - 1)) (hi := n) n (by omega) (by omega), part_split W V (lo := 256 * (B - 1)) (mid := 256 * B) (hi := n) n (by omega) hn]
        abel
  obtain ⟨-, h2⟩ := key (i 1).val le_rfl
  rw [stored_apply, View.writes_append, trips_eq', h2, Nat.sub_self, Nat.mul_zero]

omit hW hV in
/-- The same, at indices given by their values. -/
theorem body_at (kcol : Fin 128 → Fin 512) (hkcol : ∀ e, (kcol e).val = 128 * hh.val + e.val) (vrow : Fin 256) (hvrow : vrow.val = 64 * hh.val + r.val)
    (orow : Fin 1024) (horow : orow.val = 256 * p.val + t.val) (n : ℕ) (hn : 256 * (4 * (i 1).val + p.val) + t.val = n)
    (hW' : ∀ k : Fin 16384, (∑ e : Fin 128, (x1 (ix2 k (kcol e)) : EReal) * (x0 (ix3 p (kcol e) t) : EReal)) = W k.val)
    (hV' : ∀ (b : Fin 64) (s : Fin 256), x2 (ix3 b vrow s) = V (256 * b.val + s.val)) :
    ∃ w, (kernelRun0_A (F := Ideal) c i arg2 harg2 arg3 harg3 arg4 harg4 arg5 harg5 arg6 harg6 arg7 harg7 x0 x1 x2).1
        = [⟨Rect.unit (s := S1024x256) ![0, 0] ![1024, 256] inb_S1024x256_S1024x256_0_0, w⟩]
      ∧ w (ix2 orow vrow) = part W V 0 n n := by
  obtain ⟨orow, _⟩ := orow
  obtain ⟨vrow, _⟩ := vrow
  dsimp only at hvrow horow
  subst hvrow horow hn
  have hk : kcol = fun e => ⟨128 * hh.val + e.val, by have := hh.isLt; have := e.isLt; omega⟩ := funext fun e => Fin.ext (hkcol e)
  subst hk
  exact body_entry c i arg2 harg2 arg3 harg3 arg4 harg4 arg5 harg5 arg6 harg6 arg7 harg7 x0 x1 x2 hh p t r W V hW' hV'

end

end Cert.KernelIdeal.Attn

end
-- ==== Proof.Ideal.Closed.lean ====
/- The attention in closed form: what both programs compute, over the extended reals. -/
module

public import proofs.«01_k».proof.Proof.Ideal.Sums

@[expose] public section

noncomputable section

namespace Cert.Attn

variable (q k : Fin 16384 → Fin 512 → EReal) (b : Fin 8 → EReal) (v : Fin 16384 → Fin 512 → EReal)

/-- The logit of head `h` between the query at place `n` and the key at place `j`. -/
def logit (h : Fin 8) (n j : Fin 16384) : EReal :=
  (∑ e : Fin 64, q n ⟨64 * h.val + e.val, by omega⟩ * k j ⟨64 * h.val + e.val, by omega⟩) * ((1 / 8 : ℝ) : EReal) + b h

/-- The logits of a query as a sequence over the keys' places, in units of `log 2`. -/
def logits (h : Fin 8) (n : Fin 16384) (j : ℕ) : EReal :=
  if hj : j < 16384 then logit q k b h n ⟨j, hj⟩ * (((Real.log 2)⁻¹ : ℝ) : EReal) else 0

theorem logits_of (h : Fin 8) (n j : Fin 16384) : logits q k b h n j.val = logit q k b h n j * (((Real.log 2)⁻¹ : ℝ) : EReal) :=
  dif_pos j.isLt

/-- A column of the values as a sequence over the keys' places. -/
def vals (col : Fin 512) (j : ℕ) : EReal := if hj : j < 16384 then v ⟨j, hj⟩ col else 0

theorem vals_of (col : Fin 512) (j : Fin 16384) : vals v col j.val = v j col := dif_pos j.isLt

/-- The attention at place `n` and column `r` of head `h`: over the keys before `n`, the values weighted. -/
def attn (n : Fin 16384) (h : Fin 8) (r : Fin 64) : EReal :=
  part (logits q k b h n) (vals v ⟨64 * h.val + r.val, by omega⟩) 0 n.val n.val

end Cert.Attn

end
-- ==== Proof.Ideal.Entry.lean ====
/- What the call's operands hold: the queries, keys and values laid out by the host operations before it. -/
module

public import proofs.«01_k».proof.Proof.Ideal.Runs
public import proofs.«01_k».proof.Proof.Ideal.Closed
public import Idealize.ShloMosaic.Lib.Claim
public import Idealize.ShloMosaic.Lib.Pipeline.Value
public import Idealize.ShloMosaic.Lib.Pointwise

@[expose] public section

set_option maxRecDepth 16384
set_option maxHeartbeats 400000

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The queries. -/
def Q : FVec Ideal S16384x512 .f32 := m ((c : Thread nD τ).loc main_arg0)
/-- The keys. -/
def K : FVec Ideal S16384x512 .f32 := m ((c : Thread nD τ).loc main_arg1)
/-- The values. -/
def Vv : FVec Ideal S16384x512 .f32 := m ((c : Thread nD τ).loc main_arg2)
/-- The bias per head. -/
def Bs : FVec Ideal S8 .f32 := m ((c : Thread nD τ).loc main_arg3)

/-- What the host leaves in buffer 3. -/
def w3 : FVec Ideal S8 .f32 := V (F := Ideal) m c main_v3
/-- What the host leaves in buffer 9. -/
def w9 : FVec Ideal S16384x8x1 .f32 := V (F := Ideal) m c main_v9
/-- What the host leaves in buffer 10. -/
def w10 : FVec Ideal S16384x8x62 .f32 := V (F := Ideal) m c main_v10
/-- What the host leaves in buffer 14. -/
def w14 : FVec Ideal S16384x8x64 .f32 := V (F := Ideal) m c main_v14
/-- What the host leaves in buffer 15. -/
def w15 : FVec Ideal S16384x8x128 .f32 := V (F := Ideal) m c main_v15
/-- What the host leaves in buffer 16. -/
def w16 : FVec Ideal S16384x8x64 .f32 := V (F := Ideal) m c main_v16
/-- What the host leaves in buffer 18. -/
def w18 : FVec Ideal S16384x8x1 .f32 := V (F := Ideal) m c main_v18
/-- What the host leaves in buffer 20. -/
def w20 : FVec Ideal S16384x8x1 .f32 := V (F := Ideal) m c main_v20
/-- What the host leaves in buffer 21. -/
def w21 : FVec Ideal S16384x8x128 .f32 := V (F := Ideal) m c main_v21
/-- What the host leaves in buffer 24. -/
def w24 : FVec Ideal S64x1024x256 .bf16 := V (F := Ideal) m c main_v24
/-- What the host leaves in buffer 27. -/
def w27 : FVec Ideal S64x512x256 .bf16 := V (F := Ideal) m c main_v27
/-- What the host leaves in buffer 29. -/
def w29 : FVec Ideal S16384x1024 .bf16 := V (F := Ideal) m c main_v29

/-- The base-two logarithm of e, as the host computes it. -/
def log2e : EReal := Ideal.div 1 (Ideal.log (Ideal.ofBits .f32 0x40000000#32))

/-- The scale of the queries: the base-two logarithm of e divided by eight. -/
def qscale : EReal := log2e * Ideal.ofBits .f32 0x3E000000#32

/-- The scaled queries, followed per head by two ones and zeros. -/
theorem v15_of : (w15 m c)
    = concatenate S16384x8x128 2 [⟨S16384x8x64, (w14 m c)⟩, ⟨S16384x8x1, (w9 m c)⟩,
        ⟨S16384x8x1, (w9 m c)⟩, ⟨S16384x8x62, (w10 m c)⟩]
      concatenates_S16384x8x64_S16384x8x1_S16384x8x1_S16384x8x62_S16384x8x128_d2 := rfl

/-- The keys, followed per head by the bias in two pieces and zeros. -/
theorem v21_of : (w21 m c)
    = concatenate S16384x8x128 2 [⟨S16384x8x64, (w16 m c)⟩, ⟨S16384x8x1, (w18 m c)⟩,
        ⟨S16384x8x1, (w20 m c)⟩, ⟨S16384x8x62, (w10 m c)⟩]
      concatenates_S16384x8x64_S16384x8x1_S16384x8x1_S16384x8x62_S16384x8x128_d2 := rfl

theorem v24_of : (w24 m c)
    = (truncf .bf16 (transpose S64x1024x256 [0, 2, 1] (shapeCast S64x256x1024 (w15 m c) shapeCasts_S16384x8x128_S64x256x1024)
        transposes_S64x256x1024_S64x1024x256_0_2_1) bitsLt_bf16_f32 : FVec Ideal S64x1024x256 .bf16) := rfl

theorem v29_of : (w29 m c)
    = (truncf .bf16 (shapeCast S16384x1024 (w21 m c) shapeCasts_S16384x8x128_S16384x1024) bitsLt_bf16_f32 : FVec Ideal S16384x1024 .bf16) := rfl

/-- The values, transposed by blocks. -/
theorem v27_apply (b : Fin 64) (r : Fin 512) (t : Fin 256) : w27 m c (ix3 b r t) = Vv m c (ix2 ⟨256 * b.val + t.val, by omega⟩ r) := by
  have hv : w27 m c = (truncf .bf16 (transpose S64x512x256 [0, 2, 1] (shapeCast S64x256x512 (Vv m c) shapeCasts_S16384x512_S64x256x512)
        transposes_S64x256x512_S64x512x256_0_2_1) bitsLt_bf16_f32 : FVec Ideal S64x512x256 .bf16) := rfl
  rw [hv]
  show transpose S64x512x256 [0, 2, 1] (shapeCast S64x256x512 (Vv m c) shapeCasts_S16384x512_S64x256x512) transposes_S64x256x512_S64x512x256_0_2_1 (ix3 b r t) = _
  refine (transpose_apply _ _ _ _ (ix3 b t r) fun a => match a with | ⟨0, _⟩ => rfl | ⟨1, _⟩ => rfl | ⟨2, _⟩ => rfl).trans ?_
  refine shapeCast_apply _ _ _ _ ?_
  rw [Shape.rowMajor_val_two, Shape.rowMajor_val_three]
  show (256 * b.val + t.val) * 512 + r.val = (b.val * 256 + t.val) * 512 + r.val
  omega

/-- The queries laid out, transposed by blocks. -/
theorem v24_apply (b : Fin 64) (h : Fin 8) (e : Fin 128) (t : Fin 256) :
    w24 m c (ix3 b ⟨128 * h.val + e.val, by omega⟩ t) = w15 m c (ix3 ⟨256 * b.val + t.val, by omega⟩ h e) := by
  rw [v24_of]
  show transpose S64x1024x256 [0, 2, 1] (shapeCast S64x256x1024 (w15 m c) shapeCasts_S16384x8x128_S64x256x1024) transposes_S64x256x1024_S64x1024x256_0_2_1 _ = _
  refine (transpose_apply _ _ _ _ (ix3 b t ⟨128 * h.val + e.val, by omega⟩) fun a => match a with | ⟨0, _⟩ => rfl | ⟨1, _⟩ => rfl | ⟨2, _⟩ => rfl).trans ?_
  refine shapeCast_apply _ _ _ _ ?_
  rw [Shape.rowMajor_val_three, Shape.rowMajor_val_three]
  show ((256 * b.val + t.val) * 8 + h.val) * 128 + e.val = (b.val * 256 + t.val) * 1024 + (128 * h.val + e.val)
  omega

/-- The keys laid out. -/
theorem v29_apply (k : Fin 16384) (h : Fin 8) (e : Fin 128) : w29 m c (ix2 k ⟨128 * h.val + e.val, by omega⟩) = w21 m c (ix3 k h e) := by
  rw [v29_of]
  show shapeCast S16384x1024 (w21 m c) shapeCasts_S16384x8x128_S16384x1024 _ = _
  refine shapeCast_apply _ _ _ _ ?_
  rw [Shape.rowMajor_val_three, Shape.rowMajor_val_two]
  show (k.val * 8 + h.val) * 128 + e.val = k.val * 1024 + (128 * h.val + e.val)
  omega

/-- The columns of a head, read out of all columns. -/
theorem cast_heads {α : Type} (x : S16384x512.Idx → α) (n : Fin 16384) (h : Fin 8) (e : Fin 64) :
    shapeCast S16384x8x64 x shapeCasts_S16384x512_S16384x8x64 (ix3 n h e) = x (ix2 n ⟨64 * h.val + e.val, by omega⟩) := by
  refine shapeCast_apply _ _ _ _ ?_
  rw [Shape.rowMajor_val_three, Shape.rowMajor_val_two]
  show n.val * 512 + (64 * h.val + e.val) = (n.val * 8 + h.val) * 64 + e.val
  omega

theorem v14_apply (n : Fin 16384) (h : Fin 8) (e : Fin 64) :
    (w14 m c (ix3 n h e) : EReal)
      = (Q m c (ix2 n ⟨64 * h.val + e.val, by omega⟩) : EReal) * qscale := by
  have hv : (w14 m c)
    = mulf (shapeCast S16384x8x64 (Q m c) shapeCasts_S16384x512_S16384x8x64)
        (broadcastInDim S16384x8x64 ![] bcast_S_S16384x8x64 (mulf (Host.divf (constant S_ .f32 0x3F800000#32) (Host.log (constant S_ .f32 0x40000000#32))) (constant S_ .f32 0x3E000000#32))) := rfl
  rw [hv]
  show _ * _ = _
  rw [cast_heads]
  refine congrArg _ ?_
  unfold qscale log2e
  pointwise

theorem v16_apply (n : Fin 16384) (h : Fin 8) (e : Fin 64) :
    (w16 m c (ix3 n h e) : EReal)
      = (K m c) (ix2 n ⟨64 * h.val + e.val, by omega⟩) := by
  have hv : (w16 m c)
    = (shapeCast S16384x8x64 (K m c) shapeCasts_S16384x512_S16384x8x64) := rfl
  rw [hv]
  exact cast_heads _ n h e

theorem v3_apply (h : Fin 8) :
    (w3 m c (ix1 h) : EReal)
      = (Bs m c (ix1 h) : EReal) * log2e := by
  have hv : (w3 m c)
    = mulf (Bs m c)
        (broadcastInDim S8 ![] bcast_S_S8 (Host.divf (constant S_ .f32 0x3F800000#32) (Host.log (constant S_ .f32 0x40000000#32)))) := rfl
  rw [hv]
  unfold log2e
  pointwise

theorem v18_apply (n : Fin 16384) (h : Fin 8) :
    (w18 m c (ix3 n h 0) : EReal) = (Bs m c (ix1 h) : EReal) * log2e := by
  have hv : (w18 m c)
    = broadcastInDim S16384x8x1 ![0, 1, 2] bcast_S1x8x1_S16384x8x1_0_1_2 (broadcastInDim S1x8x1 ![1] bcast_S8_S1x8x1_1 (extf .f32 (truncf .bf16 (w3 m c) bitsLt_bf16_f32) bitsLt_bf16_f32)) := rfl
  rw [hv, ← v3_apply]
  generalize (w3 m c) = X
  pointwise

theorem v20_apply (n : Fin 16384) (h : Fin 8) :
    (w20 m c (ix3 n h 0) : EReal)
      = (Bs m c (ix1 h) : EReal) * log2e - (Bs m c (ix1 h) : EReal) * log2e := by
  have hv : (w20 m c)
    = broadcastInDim S16384x8x1 ![0, 1, 2] bcast_S1x8x1_S16384x8x1_0_1_2 (broadcastInDim S1x8x1 ![1] bcast_S8_S1x8x1_1 (extf .f32 (truncf .bf16 (subf (w3 m c)
        (extf .f32 (truncf .bf16 (w3 m c) bitsLt_bf16_f32) bitsLt_bf16_f32)) bitsLt_bf16_f32) bitsLt_bf16_f32)) := rfl
  rw [hv, ← v3_apply]
  generalize (w3 m c) = X
  pointwise

theorem v9_apply (n : Fin 16384) (h : Fin 8) : (w9 m c (ix3 n h 0) : EReal) = 1 := by
  have hv : (w9 m c) = broadcastInDim S16384x8x1 ![] bcast_S_S16384x8x1 (constant S_ .f32 0x3F800000#32) := rfl
  rw [hv]
  pointwise

theorem v10_apply (n : Fin 16384) (h : Fin 8) (e : Fin 62) : (w10 m c (ix3 n h e) : EReal) = 0 := by
  have hv : (w10 m c) = broadcastInDim S16384x8x62 ![] bcast_S_S16384x8x62 (constant S_ .f32 0x00000000#32) := rfl
  rw [hv]
  pointwise

/-- A sum over a head's columns: its 64 dimensions, two more and 62 of zeros. -/
theorem sum_cols (f : Fin 128 → EReal) :
    ∑ e, f e = (∑ e : Fin 64, f ⟨e.val, by omega⟩) + (f ⟨64, by omega⟩ + (f ⟨65, by omega⟩ + ∑ e : Fin 62, f ⟨66 + e.val, by omega⟩)) := by
  refine (Fin.sum_univ_add (a := 64) (b := 64) f).trans ?_
  rw [Fin.sum_univ_succ (n := 63) (fun i => f (Fin.natAdd 64 i)), Fin.sum_univ_succ (n := 62) (fun i => f (Fin.natAdd 64 i.succ))]
  refine congrArg₂ _ rfl (congrArg₂ _ rfl (congrArg₂ _ rfl (Finset.sum_congr rfl fun e _ => congrArg f (Fin.ext ?_))))
  simp only [Fin.val_natAdd, Fin.val_succ]
  omega

/-- The logit of a query and a key, over the laid-out columns of a head: the product of the query (scaled) and the key, and the bias. -/
theorem logit_entry (h : Fin 8) (n k : Fin 16384) :
    (∑ e : Fin 128, (w21 m c (ix3 k h e) : EReal) * (w15 m c (ix3 n h e) : EReal))
      = (∑ e : Fin 64, (K m c (ix2 k ⟨64 * h.val + e.val, by omega⟩) : EReal) * ((Q m c (ix2 n ⟨64 * h.val + e.val, by omega⟩) : EReal) * qscale))
        + ((Bs m c (ix1 h) : EReal) * log2e + ((Bs m c (ix1 h) : EReal) * log2e - (Bs m c (ix1 h) : EReal) * log2e)) := by
  rw [v21_of, v15_of]
  have h14 := v14_apply m c n h
  have h16 := v16_apply m c k h
  have h18 := v18_apply m c k h
  have h20 := v20_apply m c k h
  have h9 := v9_apply m c n h
  have h10 := v10_apply m c n h
  have h10' := v10_apply m c k h
  revert h14 h16 h18 h20 h9 h10 h10'
  generalize w14 m c = X14
  generalize w16 m c = X16
  generalize w18 m c = X18
  generalize w20 m c = X20
  generalize w9 m c = X9
  generalize w10 m c = X10
  intro h14 h16 h18 h20 h9 h10 h10'
  pointwise
  rw [sum_cols]
  refine congrArg₂ _ (Finset.sum_congr rfl fun e _ => ?_) (congrArg₂ _ ?_ ?_)
  · have he := e.isLt
    simp only [he, dite_true, Fin.eta, h14, h16]
  · have e0 : (⟨64 - 64, by omega⟩ : Fin 1) = 0 := rfl
    simp only [show ¬ (64 < 64) by omega, dite_false, show 64 - 64 < 1 by omega, dite_true, e0, h18, h9, mul_one]
  · have hz : ∀ e : Fin 62, (66 + e.val) - 64 - 1 - 1 = e.val := fun e => by omega
    simp only [show ¬ (65 < 64) by omega, show ¬ (65 - 64 < 1) by omega, dite_false, show 65 - 64 - 1 < 1 by omega, dite_true, Fin.zero_eta, show (⟨65 - 64 - 1, by omega⟩ : Fin 1) = 0 from rfl, h20, h9, mul_one]
    rw [Finset.sum_eq_zero, add_zero]
    intro e _
    simp only [show ¬ (66 + e.val < 64) by omega, show ¬ (66 + e.val - 64 < 1) by omega, show ¬ (66 + e.val - 64 - 1 < 1) by omega, dite_false, hz, Fin.eta, h10, h10', mul_zero]

/-- The host's base-two logarithm of e. -/
theorem log2e_eq : log2e = (((Real.log 2)⁻¹ : ℝ) : EReal) := by
  have e : Ideal.ofBits .f32 0x40000000#32 = ((2 : ℝ) : EReal) := by
    simp [Ideal.ofBits, Ideal.ieee, -EReal.coe_mul]; norm_num
  unfold log2e
  rw [e, show Ideal.log ((2 : ℝ) : EReal) = ((Real.log 2 : ℝ) : EReal) from if_neg (by norm_num), Ideal.div_coe (Real.log_pos one_lt_two).ne', one_mul, one_div]

/-- The scale of the queries. -/
theorem qscale_eq : qscale = (((Real.log 2)⁻¹ / 8 : ℝ) : EReal) := by
  have e : Ideal.ofBits .f32 0x3E000000#32 = ((1 / 8 : ℝ) : EReal) := by
    simp [Ideal.ofBits, Ideal.ieee, -EReal.coe_mul]; norm_num
  unfold qscale
  rw [log2e_eq, e, ← EReal.coe_mul]
  congr 1; ring

/-- A positive real factor goes into a sum. -/
theorem sum_mul_coe {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- The bias in two pieces is the bias, where it is not `⊤`. -/
theorem bias_pieces (b : EReal) (hb : b ≠ ⊤) :
    b * (((Real.log 2)⁻¹ : ℝ) : EReal) + (b * (((Real.log 2)⁻¹ : ℝ) : EReal) - b * (((Real.log 2)⁻¹ : ℝ) : EReal)) = b * (((Real.log 2)⁻¹ : ℝ) : EReal) := by
  induction b using EReal.rec with
  | bot => rw [EReal.bot_mul_coe_of_pos Cert.Attn.log_two_pos, EReal.bot_add]
  | top => exact absurd rfl hb
  | coe r => rw [← EReal.coe_mul, ← EReal.coe_sub, sub_self, EReal.coe_zero, add_zero]

/-- The logit of a query and a key, where the bias is not `⊤`. -/
theorem logit_value (h : Fin 8) (n k : Fin 16384) (hb : Bs m c (ix1 h) ≠ (⊤ : EReal)) :
    (∑ e : Fin 128, (w21 m c (ix3 k h e) : EReal) * (w15 m c (ix3 n h e) : EReal))
      = Cert.Attn.logit (fun n e => Q m c (ix2 n e)) (fun n e => K m c (ix2 n e)) (fun h => Bs m c (ix1 h)) h n k * (((Real.log 2)⁻¹ : ℝ) : EReal) := by
  rw [logit_entry, log2e_eq, qscale_eq, bias_pieces _ hb]
  unfold Cert.Attn.logit
  rw [EReal.right_distrib_of_nonneg_of_ne_top (EReal.coe_nonneg.2 Cert.Attn.log_two_pos.le) (EReal.coe_ne_top _), mul_assoc (∑ e : Fin 64, _), ← EReal.coe_mul,
    sum_mul_coe _ _ _ (mul_nonneg (by norm_num) Cert.Attn.log_two_pos.le)]
  refine congrArg₂ _ (Finset.sum_congr rfl fun e _ => ?_) rfl
  rw [show (1 / 8 * (Real.log 2)⁻¹ : ℝ) = (Real.log 2)⁻¹ / 8 by ring, ← mul_assoc]
  exact congrArg (· * _) (mul_comm _ _)

/-- Where the bias is `⊤`, its second piece is `⊥` and the logits are. -/
theorem logit_bot (h : Fin 8) (n k : Fin 16384) (hb : Bs m c (ix1 h) = (⊤ : EReal)) :
    (∑ e : Fin 128, (w21 m c (ix3 k h e) : EReal) * (w15 m c (ix3 n h e) : EReal)) = ⊥ := by
  rw [logit_entry, hb, log2e_eq, EReal.top_mul_coe_of_pos Cert.Attn.log_two_pos, sub_eq_add_neg, EReal.neg_top, EReal.add_bot, EReal.add_bot, EReal.add_bot]

/-- Where the bias is `⊤`, the logits are `⊤` or `⊥`, and no key has a weight. -/
theorem wgt_of_top (q k : Fin 16384 → Fin 512 → EReal) (b : Fin 8 → EReal) (h : Fin 8) (hb : b h = ⊤) (n : Fin 16384) (j : ℕ) (hj : j < n.val) :
    Cert.Attn.wgt (Cert.Attn.logits q k b h n) n.val j = 0 := by
  have hn := n.isLt
  have e : Cert.Attn.logits q k b h n j = Cert.Attn.logit q k b h n ⟨j, by omega⟩ * (((Real.log 2)⁻¹ : ℝ) : EReal) := dif_pos (by omega)
  unfold Cert.Attn.logit at e
  rw [hb] at e
  generalize (∑ e : Fin 64, q n ⟨64 * h.val + e.val, by omega⟩ * k ⟨j, by omega⟩ ⟨64 * h.val + e.val, by omega⟩) * ((1 / 8 : ℝ) : EReal) = x at e
  by_cases hx : x = ⊥
  · refine Cert.Attn.wgt_bot _ _ _ (e.trans ?_)
    rw [hx, EReal.bot_add, EReal.bot_mul_coe_of_pos Cert.Attn.log_two_pos]
  · refine Cert.Attn.wgt_top _ _ _ j (Finset.mem_Ico.2 ⟨le_rfl, hj⟩) (e.trans ?_)
    rw [EReal.add_top_of_ne_bot hx, EReal.top_mul_coe_of_pos Cert.Attn.log_two_pos]

/-- The logits that the kernel computes give the attention's sum. -/
theorem kernel_logits (h : Fin 8) (n : Fin 16384) : ∃ W : ℕ → EReal,
    (∀ k : Fin 16384, (∑ e : Fin 128, (w21 m c (ix3 k h e) : EReal) * (w15 m c (ix3 n h e) : EReal)) = W k.val)
    ∧ ∀ V : ℕ → EReal, Cert.Attn.part W V 0 n.val n.val
        = Cert.Attn.part (Cert.Attn.logits (fun n e => Q m c (ix2 n e)) (fun n e => K m c (ix2 n e)) (fun h => Bs m c (ix1 h)) h n) V 0 n.val n.val := by
  by_cases hb : Bs m c (ix1 h) = (⊤ : EReal)
  · refine ⟨fun _ => ⊥, fun k => logit_bot m c h n k hb, fun V => Finset.sum_congr rfl fun j hj => ?_⟩
    rw [Cert.Attn.wgt_bot _ _ _ rfl, wgt_of_top _ _ _ h hb n j (Finset.mem_Ico.1 hj).2]
  · exact ⟨_, fun k => (logit_value m c h n k hb).trans (Cert.Attn.logits_of _ _ _ h n k).symm, fun _ => rfl⟩

end Cert.KernelIdeal.Attn

end
-- ==== Proof.Ideal.Value.lean ====
/- The array that the call leaves, entry by entry: the attention in closed form. -/
module

public import proofs.«01_k».proof.Proof.Ideal.After
public import proofs.«01_k».proof.Proof.Ideal.Blocks
public import proofs.«01_k».proof.Proof.Ideal.Closed
public import proofs.«01_k».proof.Proof.Ideal.Entry
public import Idealize.ShloMosaic.Lib.WritesUnit
public import Idealize.ShloMosaic.Lib.Pipeline.ValueKit

@[expose] public section

set_option maxRecDepth 16384
set_option maxHeartbeats 400000

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

/-- The block of every window at every grid point. -/
theorem idx : ∀ t : Fin grid0.N, win0_0.index t = ![(grid0.coords t 1).val, (grid0.coords t 0).val, 0] ∧ win0_1.index t = ![0, (grid0.coords t 0).val]
    ∧ win0_2.index t = ![0, (grid0.coords t 0).val, 0] ∧ win0_3.index t = ![(grid0.coords t 1).val, (grid0.coords t 0).val] := by
  decide +kernel

/-- The queries that a grid point stages. -/
def qb (t : Fin cfg0.N) : FVec Ideal S4x512x256 .bf16 := iblk (F := Ideal) m c 0 t
/-- The keys that a grid point stages. -/
def kb (t : Fin cfg0.N) : FVec Ideal S16384x512 .bf16 := iblk (F := Ideal) m c 1 t
/-- The values that a grid point stages. -/
def vb (t : Fin cfg0.N) : FVec Ideal S64x256x256 .bf16 := iblk (F := Ideal) m c 2 t

/-- The block of queries that a grid point stages. -/
theorem iblk0_apply (t : Fin cfg0.N) (p : Fin 4) (e : Fin 512) (s : Fin 256) (hg : (grid0.coords t 0).val < 2) (hq : (grid0.coords t 1).val < 16) :
    qb m c t (ix3 p e s) = w24 m c (ix3 ⟨4 * (grid0.coords t 1).val + p.val, by omega⟩ ⟨512 * (grid0.coords t 0).val + e.val, by omega⟩ s) := by
  unfold qb iblk
  rw [View.read_apply]
  refine congrArg (w24 m c) (funext fun a => Fin.ext ?_)
  refine (Pipeline.Window.rect_emb_val (cfg0.win 0) t _ a).trans ?_
  rw [show (cfg0.win 0).index t = _ from (idx t).1]
  match a with
  | ⟨0, _⟩ => show (grid0.coords t 1).val * 4 + p.val = 4 * (grid0.coords t 1).val + p.val; omega
  | ⟨1, _⟩ => show (grid0.coords t 0).val * 512 + e.val = 512 * (grid0.coords t 0).val + e.val; omega
  | ⟨2, _⟩ => show 0 * 256 + s.val = s.val; omega

/-- The keys that a grid point stages. -/
theorem iblk1_apply (t : Fin cfg0.N) (k : Fin 16384) (e : Fin 512) (hg : (grid0.coords t 0).val < 2) :
    kb m c t (ix2 k e) = w29 m c (ix2 k ⟨512 * (grid0.coords t 0).val + e.val, by omega⟩) := by
  unfold kb iblk
  rw [View.read_apply]
  refine congrArg (w29 m c) (funext fun a => Fin.ext ?_)
  refine (Pipeline.Window.rect_emb_val (cfg0.win 1) t _ a).trans ?_
  rw [show (cfg0.win 1).index t = _ from (idx t).2.1]
  match a with
  | ⟨0, _⟩ => show 0 * 16384 + k.val = k.val; omega
  | ⟨1, _⟩ => show (grid0.coords t 0).val * 512 + e.val = 512 * (grid0.coords t 0).val + e.val; omega

/-- The values that a grid point stages. -/
theorem iblk2_apply (t : Fin cfg0.N) (b : Fin 64) (e : Fin 256) (s : Fin 256) (hg : (grid0.coords t 0).val < 2) :
    vb m c t (ix3 b e s) = w27 m c (ix3 b ⟨256 * (grid0.coords t 0).val + e.val, by omega⟩ s) := by
  unfold vb iblk
  rw [View.read_apply]
  refine congrArg (w27 m c) (funext fun a => Fin.ext ?_)
  refine (Pipeline.Window.rect_emb_val (cfg0.win 2) t _ a).trans ?_
  rw [show (cfg0.win 2).index t = _ from (idx t).2.2.1]
  match a with
  | ⟨0, _⟩ => show 0 * 64 + b.val = b.val; omega
  | ⟨1, _⟩ => show (grid0.coords t 0).val * 256 + e.val = 256 * (grid0.coords t 0).val + e.val; omega
  | ⟨2, _⟩ => show 0 * 256 + s.val = s.val; omega

/-- What a grid point leaves in the block it writes back: the attention at the block's places and heads. -/
theorem outsAt_entry (t : Fin cfg0.N) (hh p : Fin 4) (s : Fin 256) (r : Fin 64) (hg : (grid0.coords t 0).val < 2) (hq : (grid0.coords t 1).val < 16) :
    outsAt0 (F := Ideal) m c t (ix2 ⟨256 * p.val + s.val, by omega⟩ ⟨64 * hh.val + r.val, by omega⟩)
      = attn (fun n e => Q m c (ix2 n e)) (fun n e => K m c (ix2 n e)) (fun h => Bs m c (ix1 h)) (fun n e => Vv m c (ix2 n e)) ⟨1024 * (grid0.coords t 1).val + (256 * p.val + s.val), by omega⟩
          ⟨4 * (grid0.coords t 0).val + hh.val, by omega⟩ r := by
  obtain ⟨W, hWe, hWp⟩ := kernel_logits m c ⟨4 * (grid0.coords t 0).val + hh.val, by omega⟩ ⟨1024 * (grid0.coords t 1).val + (256 * p.val + s.val), by omega⟩
  have hW : ∀ j : Fin 16384, (∑ e : Fin 128, (kb m c t (ix2 j ⟨128 * hh.val + e.val, by omega⟩) : EReal) * (qb m c t (ix3 p ⟨128 * hh.val + e.val, by omega⟩ s) : EReal)) = W j.val := by
    intro j
    refine Eq.trans (Finset.sum_congr rfl fun e _ => ?_) (hWe j)
    have hx1 := iblk1_apply m c t j ⟨128 * hh.val + e.val, by omega⟩ hg
    have hx0 := iblk0_apply m c t p ⟨128 * hh.val + e.val, by omega⟩ s hg hq
    rw [hx1, hx0, ← v29_apply m c j ⟨4 * (grid0.coords t 0).val + hh.val, by omega⟩ e]
    have h24 := v24_apply m c ⟨4 * (grid0.coords t 1).val + p.val, by omega⟩ ⟨4 * (grid0.coords t 0).val + hh.val, by omega⟩ e s
    have e1 : 512 * (grid0.coords t 0).val + (128 * hh.val + e.val) = 128 * (4 * (grid0.coords t 0).val + hh.val) + e.val := by omega
    have e2 : 256 * (4 * (grid0.coords t 1).val + p.val) + s.val = 1024 * (grid0.coords t 1).val + (256 * p.val + s.val) := by omega
    simp only [e2] at h24
    simp only [e1]
    rw [h24]
  have hV : ∀ (j : Fin 64) (s' : Fin 256), vb m c t (ix3 j ⟨64 * hh.val + r.val, by omega⟩ s')
      = vals (fun n e => Vv m c (ix2 n e)) ⟨64 * (4 * (grid0.coords t 0).val + hh.val) + r.val, by omega⟩ (256 * j.val + s'.val) := by
    intro j s'
    rw [iblk2_apply m c t j ⟨64 * hh.val + r.val, by omega⟩ s' hg, v27_apply]
    have e1 : 256 * (grid0.coords t 0).val + (64 * hh.val + r.val) = 64 * (4 * (grid0.coords t 0).val + hh.val) + r.val := by omega
    simp only [e1]
    exact (vals_of (fun n e => Vv m c (ix2 n e)) _ ⟨256 * j.val + s'.val, by omega⟩).symm
  obtain ⟨w, hrun, hw⟩ := body_at c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (qb m c t) (kb m c t) (vb m c t) hh p s r
    W (vals (fun n e => Vv m c (ix2 n e)) ⟨64 * (4 * (grid0.coords t 0).val + hh.val) + r.val, by omega⟩)
    (fun e => ⟨128 * hh.val + e.val, by omega⟩) (fun _ => rfl) ⟨64 * hh.val + r.val, by omega⟩ rfl ⟨256 * p.val + s.val, by omega⟩ rfl
    (1024 * (grid0.coords t 1).val + (256 * p.val + s.val)) (by omega) hW hV
  unfold outsAt0 out0_A_3
  rw [show (kernelRun0_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (iblk m c 0 t) (iblk m c 1 t) (iblk m c 2 t)).1 = _ from hrun]
  refine (View.read_writes_cons_unit_of_mem _ _ _ _ _ _ (ix2 ⟨256 * p.val + s.val, by omega⟩ ⟨64 * hh.val + r.val, by omega⟩) rfl fun a => ?_).trans ?_
  · match a with
    | ⟨0, _⟩ => exact (Nat.zero_add _).symm
    | ⟨1, _⟩ => exact (Nat.zero_add _).symm
  · exact hw.trans (hWp _)

/-- The array after the call: the attention of every place and head. -/
theorem arr_value (G : FVec Ideal S16384x512 .f32)
    (hG : ∀ (n : Fin 16384) (h : Fin 8) (r : Fin 64), G (ix2 n ⟨64 * h.val + r.val, by omega⟩) = attn (fun n e => Q m c (ix2 n e)) (fun n e => K m c (ix2 n e)) (fun h => Bs m c (ix1 h)) (fun n e => Vv m c (ix2 n e)) n h r) :
    (dats (F := Ideal) m 0 c).arrAt 3 cfg0.N = G := by
  refine (dats (F := Ideal) m 0 c).arrAt_eq_of_covers 3 _ (by decide +kernel) fun t hf y => ?_
  have hg : (grid0.coords t 0).val < 2 := (grid0.coords t 0).isLt
  have hq : (grid0.coords t 1).val < 16 := (grid0.coords t 1).isLt
  rw [after0_3]
  have hy0 : (y 0).val < 1024 := (y 0).isLt
  have hy1 : (y 1).val < 256 := (y 1).isLt
  have key := outsAt_entry m c t ⟨(y 1).val / 64, by omega⟩ ⟨(y 0).val / 256, by omega⟩ ⟨(y 0).val % 256, by omega⟩ ⟨(y 1).val % 64, by omega⟩ hg hq
  rw [← hG] at key
  refine Eq.trans ?_ (key.trans (congrArg G (funext fun a => Fin.ext ?_)))
  · refine congrArg (outsAt0 (F := Ideal) m c t) (funext fun a => Fin.ext ?_)
    match a with
    | ⟨0, _⟩ => show (y 0).val = 256 * ((y 0).val / 256) + (y 0).val % 256; omega
    | ⟨1, _⟩ => show (y 1).val = 64 * ((y 1).val / 64) + (y 1).val % 64; omega
  · refine Eq.trans ?_ (Pipeline.Window.rect_emb_val (cfg0.win 3) t y a).symm
    rw [show (cfg0.win 3).index t = _ from (idx t).2.2.2]
    match a with
    | ⟨0, _⟩ => show 1024 * (grid0.coords t 1).val + (256 * ((y 0).val / 256) + (y 0).val % 256) = (grid0.coords t 1).val * 1024 + (y 0).val; omega
    | ⟨1, _⟩ => show 64 * (4 * (grid0.coords t 0).val + (y 1).val / 64) + (y 1).val % 64 = (grid0.coords t 0).val * 256 + (y 1).val; omega

end Cert.KernelIdeal.Attn

end
-- ==== Proof.Ref.Cumsum.lean ====
/- The sum from each place of the last axis to its end, and the softplus, over the extended reals. -/
module

public import proofs.«01_k».proof.Proof.Ideal.Sums
public import Idealize.ShloMosaic.Lib.Pointwise
public import Idealize.ShloMosaic.PureOps.Ideal.Laws
public import Idealize.ShloMosaic.Lib.WordCmp

@[expose] public section

noncomputable section

namespace Cert.Attn

open Idealize.ShloMosaic Finset

/-- Adding a list's terms one after another is adding their sum. -/
theorem foldl_add {ι : Type*} (f : ι → EReal) : ∀ (l : List ι) (v : EReal), l.foldl (fun r n => r + f n) v = v + (l.map f).sum
  | [], v => by simp
  | a :: l, v => by rw [List.foldl_cons, foldl_add f l, List.map_cons, List.sum_cons, add_assoc]

/-- The places of a window that reaches along the last axis alone. -/
def rowEquiv (N : ℕ) : Fin N ≃ (⟨3, ![1, 1, N]⟩ : Shape).Idx where
  toFun j := ix3 0 0 j
  invFun w := w 2
  left_inv _ := rfl
  right_inv w := by
    funext a
    match a with
    | ⟨0, _⟩ => exact Subsingleton.elim (α := Fin 1) _ _
    | ⟨1, _⟩ => exact Subsingleton.elim (α := Fin 1) _ _
    | ⟨2, _⟩ => rfl

/-- A window sum as long as the last axis, padded past its end, adds at each place the elements from there on. -/
theorem window_sum {H Q N e : ℕ} (x : (⟨3, ![H, Q, N]⟩ : Shape).Idx → EReal)
    (h : (⟨3, ![H, Q, N]⟩ : Shape).ReduceWindows (![1, 1, N] : Fin 3 → ℕ) ![1, 1, 1] ![0, 0, 0] ![0, 0, e] ⟨3, ![H, Q, N]⟩) (a : Fin H) (b : Fin Q) (k : Fin N) :
    Ideal.hostReduceWindowAdd (s := ⟨3, ![H, Q, N]⟩) ![1, 1, N] ![1, 1, 1] ![0, 0, 0] ![0, 0, e] h x 0 (ix3 a b k)
      = ∑ j : Fin N, if hj : k.val + j.val < N then x (ix3 a b ⟨k.val + j.val, hj⟩) else 0 := by
  unfold Ideal.hostReduceWindowAdd Host.reduceWindow
  dsimp only
  rw [foldl_add, zero_add, ← Fin.sum_univ_def, ← Equiv.sum_comp (Shape.rowMajor _), ← Equiv.sum_comp (rowEquiv N)]
  refine sum_congr rfl fun j _ => ?_
  by_cases hj : k.val + j.val < N
  · rw [dif_pos hj]
    have hin : ∀ c : Fin 3, (![0, 0, 0] : Fin 3 → ℕ) c ≤ ((ix3 a b k : (⟨3, ![H, Q, N]⟩ : Shape).Idx) c).val * (![1, 1, 1] : Fin 3 → ℕ) c + (rowEquiv N j c).val
        ∧ ((ix3 a b k : (⟨3, ![H, Q, N]⟩ : Shape).Idx) c).val * (![1, 1, 1] : Fin 3 → ℕ) c + (rowEquiv N j c).val - (![0, 0, 0] : Fin 3 → ℕ) c < (![H, Q, N] : Fin 3 → ℕ) c := by
      intro c
      have ha := a.isLt
      have hb := b.isLt
      match c with
      | ⟨0, _⟩ => exact ⟨Nat.zero_le _, show a.val * 1 + 0 - 0 < H by omega⟩
      | ⟨1, _⟩ => exact ⟨Nat.zero_le _, show b.val * 1 + 0 - 0 < Q by omega⟩
      | ⟨2, _⟩ => exact ⟨Nat.zero_le _, show k.val * 1 + j.val - 0 < N by omega⟩
    simp only [Equiv.symm_apply_apply]
    refine (dif_pos hin).trans (congrArg x (funext fun c => Fin.ext ?_))
    match c with
    | ⟨0, _⟩ => show a.val * 1 + 0 - 0 = a.val; omega
    | ⟨1, _⟩ => show b.val * 1 + 0 - 0 = b.val; omega
    | ⟨2, _⟩ => show k.val * 1 + j.val - 0 = k.val + j.val; omega
  · rw [dif_neg hj]
    simp only [Equiv.symm_apply_apply]
    refine dif_neg fun hin => hj ?_
    have h2 : k.val * 1 + j.val - 0 < N := (hin 2).2
    omega

/-- The same of elements that are a sequence before place `n` and zero from there on. -/
theorem window_sum_before (N : ℕ) (k n : Fin N) (f : ℕ → EReal) :
    (∑ j : Fin N, if k.val + j.val < N then (if k.val + j.val < n.val then f (k.val + j.val) else 0) else 0)
      = ∑ i ∈ Ico k.val n.val, f i := by
  have hn := n.isLt
  rw [Fin.sum_univ_eq_sum_range (fun j => if k.val + j < N then (if k.val + j < n.val then f (k.val + j) else 0) else 0) N]
  have h1 := sum_Ico_eq_sum_range (fun i => if i < N then (if i < n.val then f i else 0) else 0) k.val (k.val + N)
  rw [Nat.add_sub_cancel_left] at h1
  rw [← h1]
  have h2 : ∀ i, (if i < N then (if i < n.val then f i else 0) else 0) = if i < n.val then f i else 0 := by
    intro i
    by_cases hi : i < n.val
    · rw [if_pos (by omega)]
    · rw [if_neg hi, ite_self]
  simp only [h2]
  rw [← sum_filter]
  refine sum_congr ?_ fun _ _ => rfl
  ext i
  simp only [mem_filter, mem_Ico]
  omega

/-- The softplus as the reference writes it. -/
def softplus (x : EReal) : EReal :=
  Scalar.select (Ideal.cmp .une (x - 0) (x - 0)) (x + 0) (max x 0 + Ideal.log1p (Ideal.exp (-(max (x - 0) (-(x - 0))))))

/-- The softplus of a real is the logarithm of one plus its exponential. -/
theorem softplus_coe (z : ℝ) : softplus (z : EReal) = ((Real.log (1 + Real.exp z) : ℝ) : EReal) := by
  unfold softplus
  have hc : Ideal.cmp .une ((z : EReal) - 0) ((z : EReal) - 0) = 0#1 := by simp [Ideal.cmp]
  have hs : Scalar.select (0#1) ((z : EReal) + 0) (max (z : EReal) 0 + Ideal.log1p (Ideal.exp (-(max ((z : EReal) - 0) (-((z : EReal) - 0))))))
      = max (z : EReal) 0 + Ideal.log1p (Ideal.exp (-(max ((z : EReal) - 0) (-((z : EReal) - 0))))) := by simp [Scalar.select]
  have hm : ∀ a b : ℝ, max (a : EReal) (b : EReal) = ((max a b : ℝ) : EReal) := fun a b => (EReal.coe_strictMono.monotone.map_max).symm
  rw [hc, hs, sub_zero, ← EReal.coe_neg, hm, ← EReal.coe_neg, Ideal.exp_coe, ← EReal.coe_zero, hm]
  unfold Ideal.log1p
  have hp : 0 < 1 + Real.exp (-(max z (-z))) := by positivity
  have hl : Ideal.log (1 + ((Real.exp (-(max z (-z))) : ℝ) : EReal)) = ((Real.log (1 + Real.exp (-(max z (-z)))) : ℝ) : EReal) := by
    rw [← EReal.coe_one, ← EReal.coe_add]
    show (if 1 + Real.exp (-(max z (-z))) ≤ 0 then (⊥ : EReal) else ((Real.log (1 + Real.exp (-(max z (-z)))) : ℝ) : EReal)) = _
    rw [if_neg (not_le.2 hp)]
  rw [hl, ← EReal.coe_add]
  congr 1
  rcases le_total 0 z with hz | hz
  · rw [max_eq_left hz, max_eq_left (by linarith)]
    have e : 1 + Real.exp z = Real.exp z * (1 + Real.exp (-z)) := by
      rw [mul_add, mul_one, ← Real.exp_add, add_neg_cancel, Real.exp_zero, add_comm]
    rw [e, Real.log_mul (Real.exp_pos _).ne' (by positivity), Real.log_exp]
  · rw [max_eq_right hz, max_eq_right (by linarith), neg_neg, zero_add]

/-- The softplus of the negative of a real. -/
theorem softplus_neg (z : ℝ) : Real.log (1 + Real.exp (-z)) = Real.log (1 + Real.exp z) - z := by
  have e : 1 + Real.exp z = Real.exp z * (1 + Real.exp (-z)) := by
    rw [mul_add, mul_one, ← Real.exp_add, add_neg_cancel, Real.exp_zero, add_comm]
  rw [e, Real.log_mul (Real.exp_pos _).ne' (by positivity), Real.log_exp]
  ring

/-- A power of two at a multiple of `1 / log 2` is an exponential. -/
theorem rpow_two (z : ℝ) : Real.rpow 2 (z / Real.log 2) = Real.exp z := by
  have h2 : Real.log 2 ≠ 0 := (Real.log_pos (by norm_num)).ne'
  show (2 : ℝ) ^ (z / Real.log 2) = _
  rw [Real.rpow_def_of_pos (by norm_num), mul_div_cancel₀ _ h2]

theorem softplus_bot : softplus ⊥ = 0 := by
  have hc : Ideal.cmp .une ((⊥ : EReal) - 0) (⊥ - 0) = 0#1 := by simp [Ideal.cmp]
  have hm : max ((⊥ : EReal) - 0) (-(⊥ - 0)) = ⊤ := by rw [sub_zero, EReal.neg_bot]; exact max_eq_right bot_le
  have he : Ideal.exp ⊥ = 0 := rfl
  have hl : Ideal.log1p 0 = 0 := by
    have e : Ideal.log ((1 : ℝ) : EReal) = ((Real.log 1 : ℝ) : EReal) := if_neg (by norm_num)
    unfold Ideal.log1p
    rw [add_zero, ← EReal.coe_one, e, Real.log_one, EReal.coe_zero]
  unfold softplus
  rw [hc, hm, EReal.neg_top, he, hl, max_eq_right bot_le]
  simp [Scalar.select]

theorem softplus_top : softplus ⊤ = ⊤ := by
  have hc : Ideal.cmp .une ((⊤ : EReal) - 0) (⊤ - 0) = 0#1 := by simp [Ideal.cmp]
  have hm : max ((⊤ : EReal) - 0) (-(⊤ - 0)) = ⊤ := by rw [sub_zero]; exact max_eq_left le_top
  have he : Ideal.exp ⊥ = 0 := rfl
  have hl : Ideal.log1p 0 = 0 := by
    have e : Ideal.log ((1 : ℝ) : EReal) = ((Real.log 1 : ℝ) : EReal) := if_neg (by norm_num)
    unfold Ideal.log1p
    rw [add_zero, ← EReal.coe_one, e, Real.log_one, EReal.coe_zero]
  unfold softplus
  rw [hc, hm, EReal.neg_top, he, hl, max_eq_left le_top]
  simp [Scalar.select]

/-- At a logit below `⊤` both softplus are real and differ by the units. -/
theorem softplus_real (z : EReal) (hz : z ≠ ⊤) :
    ∃ p : ℝ, softplus z = (p : EReal) ∧ sp2 (z * (((Real.log 2)⁻¹ : ℝ) : EReal)) = ((p * (Real.log 2)⁻¹ : ℝ) : EReal) := by
  induction z using EReal.rec with
  | bot => exact ⟨0, softplus_bot.trans EReal.coe_zero.symm, by rw [EReal.bot_mul_coe_of_pos log_two_pos, sp2_bot, zero_mul, EReal.coe_zero]⟩
  | top => exact absurd rfl hz
  | coe r => exact ⟨_, softplus_coe r, by rw [← EReal.coe_mul, sp2_coe, ← div_eq_mul_inv r, rpow_two]⟩

/-- The weight of a key, as the reference computes it from logits in natural units. -/
theorem wgt_of (Z W : ℕ → EReal) (n k : ℕ) (hk : k < n) (hZ : ∀ j < n, W j = Z j * (((Real.log 2)⁻¹ : ℝ) : EReal)) :
    Ideal.exp (-softplus (-Z k) + ((∑ i ∈ Ico k n, -softplus (Z i)) - -softplus (Z k))) = wgt W n k := by
  by_cases ht : ∃ i ∈ Ico k n, Z i = ⊤
  · obtain ⟨i, hi, hzi⟩ := ht
    rw [wgt_top W n k i hi (by rw [hZ i (mem_Ico.1 hi).2, hzi, EReal.top_mul_coe_of_pos log_two_pos]), ← add_sum_erase _ _ hi, hzi, softplus_top, EReal.neg_top, EReal.bot_add,
      sub_eq_add_neg, EReal.bot_add, EReal.add_bot]
    rfl
  · have ht' : ∀ i, i ∈ Ico k n → Z i ≠ ⊤ := fun i hi h => ht ⟨i, hi, h⟩
    have hkk : k ∈ Ico k n := mem_Ico.2 ⟨le_rfl, hk⟩
    by_cases hb : Z k = ⊥
    · rw [wgt_bot W n k (by rw [hZ k hk, hb, EReal.bot_mul_coe_of_pos log_two_pos]), hb, EReal.neg_bot, softplus_top, EReal.neg_top, EReal.bot_add]
      rfl
    · obtain ⟨z, hz⟩ : ∃ z : ℝ, Z k = (z : EReal) := ⟨(Z k).toReal, (EReal.coe_toReal (ht' k hkk) hb).symm⟩
      have hp : ∀ i, ∃ p : ℝ, i ∈ Ico k n → softplus (Z i) = (p : EReal) ∧ sp2 (W i) = ((p * (Real.log 2)⁻¹ : ℝ) : EReal) := by
        intro i
        by_cases hi : i ∈ Ico k n
        · obtain ⟨p, h1, h2⟩ := softplus_real (Z i) (ht' i hi)
          exact ⟨p, fun _ => ⟨h1, by rw [hZ i (mem_Ico.1 hi).2]; exact h2⟩⟩
        · exact ⟨0, fun h => absurd h hi⟩
      choose p hp using hp
      have hs : (∑ i ∈ Ico k n, -softplus (Z i)) = ((∑ i ∈ Ico k n, -p i : ℝ) : EReal) := by
        rw [coe_sum]
        exact sum_congr rfl fun i hi => by rw [(hp i hi).1, EReal.coe_neg]
      have hc : cum W k n = ((∑ i ∈ Ico k n, p i * (Real.log 2)⁻¹ : ℝ) : EReal) := by
        rw [coe_sum]
        exact sum_congr rfl fun i hi => (hp i hi).2
      have hpk : p k = Real.log (1 + Real.exp z) := by
        have h := (hp k hkk).1
        rw [hz, softplus_coe] at h
        exact (EReal.coe_injective h).symm
      unfold wgt
      rw [hs, hc, (hp k hkk).1, hZ k hk, hz, ← EReal.coe_neg, softplus_coe, softplus_neg, ← EReal.coe_neg, ← EReal.coe_neg, ← EReal.coe_sub, ← EReal.coe_add, Ideal.exp_coe, ← EReal.coe_mul,
        ← EReal.coe_sub, ← sum_mul, ← sub_mul, ← div_eq_mul_inv]
      show _ = ((Real.rpow 2 _ : ℝ) : EReal)
      rw [rpow_two, sum_neg_distrib, ← hpk]
      congr 2
      ring

end Cert.Attn

end
-- ==== Proof.Ref.Value.lean ====
/- What the reference computes, entry by entry: the attention in closed form. -/
module

public import proofs.«01_k».proof.Proof.Gen.ReferenceIdeal.Read
public import proofs.«01_k».proof.Proof.Ideal.Closed
public import proofs.«01_k».proof.Proof.Ref.Cumsum

@[expose] public section

set_option maxHeartbeats 400000

noncomputable section

namespace Cert.ReferenceIdeal.Attn

open Cert.ReferenceIdeal Cert.ReferenceIdeal.Gen Cert.ReferenceIdeal.Read Cert.Attn
open Idealize.ShloMosaic Idealize.ShloMosaic.TcCoe Finset

/-! ## Constants and layout -/

theorem zero_bits : (FloatOps.ofBits (F := Ideal) .f32 0x00000000#32 : EReal) = 0 := by
  show Ideal.ofBits .f32 0x00000000#32 = 0
  simp [Ideal.ofBits, Ideal.ieee, -EReal.coe_mul]

theorem eighth_bits : (FloatOps.ofBits (F := Ideal) .f32 0x3E000000#32 : EReal) = ((1 / 8 : ℝ) : EReal) := by
  show Ideal.ofBits .f32 0x3E000000#32 = _
  simp [Ideal.ofBits, Ideal.ieee, -EReal.coe_mul]
  norm_num

variable (x0 x1 x2 : FVec Ideal S16384x512 .f32) (x3 : FVec Ideal S8 .f32)

/-- The queries by heads. -/
theorem v1_at (n : Fin 16384) (h : Fin 8) (e : Fin 64) : val_main_v1 (F := Ideal) x0 (ix3 n h e) = x0 (ix2 n ⟨64 * h.val + e.val, by omega⟩) := by
  rw [val_main_v1_apply]
  refine congrArg x0 (funext fun a => Fin.ext ?_)
  match a with
  | ⟨0, _⟩ => show ((n.val * 8 + h.val) * 64 + e.val) / 512 = n.val; omega
  | ⟨1, _⟩ => show ((n.val * 8 + h.val) * 64 + e.val) % 512 = 64 * h.val + e.val; omega

/-- The keys by heads. -/
theorem v2_at (n : Fin 16384) (h : Fin 8) (e : Fin 64) : val_main_v2 (F := Ideal) x1 (ix3 n h e) = x1 (ix2 n ⟨64 * h.val + e.val, by omega⟩) :=
  v1_at x1 n h e

/-- The values by heads. -/
theorem v3_at (n : Fin 16384) (h : Fin 8) (e : Fin 64) : val_main_v3 (F := Ideal) x2 (ix3 n h e) = x2 (ix2 n ⟨64 * h.val + e.val, by omega⟩) :=
  v1_at x2 n h e

/-- The mask: the key is before the query. -/
theorem v14_at (n j : Fin 16384) : val_main_v14 (F := Ideal) (ix2 n j) = BitVec.ofBool (decide (j.val < n.val)) := by
  rw [val_main_v14_apply, val_main_v12_apply, val_main_v10_apply, val_main_v0_apply, val_main_v13_apply, val_main_v11_apply, val_main_v0_apply]
  have hn := n.isLt
  have hj := j.isLt
  exact WordCmp.cmpi_slt_ofNat (a := j.val) (b := n.val) (by omega) (by omega)

/-! ## The logits -/

/-- The queries, or the keys, entry by entry. -/
abbrev mat (x : FVec Ideal S16384x512 .f32) (n : Fin 16384) (e : Fin 512) : EReal := x (ix2 n e)

/-- The biases, head by head. -/
abbrev row (x : FVec Ideal S8 .f32) (h : Fin 8) : EReal := x (ix1 h)

/-- The logit of a query and a key. -/
theorem v9_at (h : Fin 8) (n j : Fin 16384) : val_main_v9 (F := Ideal) x0 x1 x3 (ix3 h n j) = logit (mat x0) (mat x1) (row x3) h n j := by
  have h4 : val_main_v4 (F := Ideal) x0 x1 (ix3 h n j) = (∑ e : Fin 64, mat x0 n ⟨64 * h.val + e.val, by omega⟩ * mat x1 j ⟨64 * h.val + e.val, by omega⟩ : EReal) := by
    rw [val_main_v4_apply]
    refine sum_congr rfl fun e _ => ?_
    have hl : lidx_main_v4 (ix3 h n j) e = ix3 n h e := funext fun a => match a with | ⟨0, _⟩ => rfl | ⟨1, _⟩ => rfl | ⟨2, _⟩ => rfl
    have hr : ridx_main_v4 (ix3 h n j) e = ix3 j h e := funext fun a => match a with | ⟨0, _⟩ => rfl | ⟨1, _⟩ => rfl | ⟨2, _⟩ => rfl
    rw [hl, hr, v1_at, v2_at]
  have h8 : val_main_v8 (F := Ideal) x3 (ix3 h n j) = row x3 h := by
    rw [val_main_v8_apply, val_main_v7_apply]
    exact congrArg x3 (funext fun a => match a with | ⟨0, _⟩ => rfl)
  rw [val_main_v9_apply, val_main_v6_apply, h4, h8, val_main_v5_apply, val_main_cst_apply, eighth_bits]
  rfl

/-- The softplus of the logit. -/
theorem call0_at (h : Fin 8) (n j : Fin 16384) :
    val_main_call0_v1 (F := Ideal) x0 x1 x3 (ix3 h n j) = softplus (logit (mat x0) (mat x1) (row x3) h n j) := by
  have e : val_main_call0_v0 (F := Ideal) x0 x1 x3 (ix3 h n j) = logit (mat x0) (mat x1) (row x3) h n j := by
    rw [val_main_call0_v0_apply, val_main_v15_apply, v9_at]
    exact neg_neg _
  rw [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v0_apply, val_main_call0_call0_v2_apply, val_main_call0_call0_v5_apply,
    val_main_call0_call0_cst_apply, zero_bits, e]
  rfl

/-- The softplus of the logit's negative. -/
theorem call3_at (h : Fin 8) (n j : Fin 16384) :
    val_main_call3_v1 (F := Ideal) x0 x1 x3 (ix3 h n j) = softplus (-logit (mat x0) (mat x1) (row x3) h n j) := by
  have e : val_main_call3_v0 (F := Ideal) x0 x1 x3 (ix3 h n j) = -logit (mat x0) (mat x1) (row x3) h n j := by
    rw [val_main_call3_v0_apply, v9_at]
    rfl
  rw [val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply, val_main_call3_call0_v7_apply,
    val_main_call3_call0_v3_apply, val_main_call3_call0_v0_apply, val_main_call3_call0_v2_apply, val_main_call3_call0_v5_apply,
    val_main_call3_call0_cst_apply, zero_bits, e]
  rfl

/-- The logits of a query as a sequence over the keys' places. -/
def zs (h : Fin 8) (n : Fin 16384) (j : ℕ) : EReal := if hj : j < 16384 then logit (mat x0) (mat x1) (row x3) h n ⟨j, hj⟩ else 0

theorem zs_of (h : Fin 8) (n j : Fin 16384) : zs x0 x1 x3 h n j.val = logit (mat x0) (mat x1) (row x3) h n j := dif_pos j.isLt

/-- The logarithm of one minus the weight's probability, for the keys before the query. -/
theorem v17_at (h : Fin 8) (n j : Fin 16384) :
    val_main_v17 (F := Ideal) x0 x1 x3 (ix3 h n j) = if j.val < n.val then -softplus (zs x0 x1 x3 h n j.val) else 0 := by
  have hm : val_main_call1_v1 (F := Ideal) (ix3 h n j) = BitVec.ofBool (decide (j.val < n.val)) := by
    rw [val_main_call1_v1_apply, ← v14_at]
    exact congrArg (val_main_v14 (F := Ideal)) (funext fun a => match a with | ⟨0, _⟩ => rfl | ⟨1, _⟩ => rfl)
  have hz : val_main_call1_v2 (F := Ideal) (ix3 h n j) = (0 : EReal) := by
    rw [val_main_call1_v2_apply, val_main_call1_v0_apply, val_main_cst_0_apply, zero_bits]
  have hv : val_main_v16 (F := Ideal) x0 x1 x3 (ix3 h n j) = -softplus (zs x0 x1 x3 h n j.val) := by
    rw [val_main_v16_apply, call0_at, zs_of]
    rfl
  rw [val_main_v17_apply, hm, hz, hv, WordCmp.select_ofBool]
  by_cases hj : j.val < n.val <;> simp [hj]

/-- Its sum from a key on. -/
theorem v18_at (h : Fin 8) (n j : Fin 16384) :
    val_main_v18 (F := Ideal) x0 x1 x3 (ix3 h n j) = (∑ i ∈ Ico j.val n.val, -softplus (zs x0 x1 x3 h n i) : EReal) := by
  rw [← window_sum_before 16384 j n (fun i => -softplus (zs x0 x1 x3 h n i))]
  unfold val_main_v18 Host.reduceWindowAdd
  have hi : val_main_call2_v0 (F := Ideal) (Shape.Idx.first h_S_) = (0 : EReal) := by
    rw [val_main_call2_v0_apply, val_main_call2_cst_apply, zero_bits]
  rw [hi]
  refine (window_sum _ _ h n j).trans (sum_congr rfl fun i _ => ?_)
  by_cases hij : j.val + i.val < 16384
  · rw [dif_pos hij, if_pos hij]
    exact v17_at x0 x1 x3 h n ⟨j.val + i.val, hij⟩
  · rw [dif_neg hij, if_neg hij]

/-- The weight of a key before the query. -/
theorem v22_at (h : Fin 8) (n j : Fin 16384) (hj : j.val < n.val) :
    val_main_v22 (F := Ideal) x0 x1 x3 (ix3 h n j) = wgt (logits (mat x0) (mat x1) (row x3) h n) n.val j.val := by
  have h20 : val_main_v20 (F := Ideal) x0 x1 x3 (ix3 h n j) = -softplus (-zs x0 x1 x3 h n j.val) := by
    rw [val_main_v20_apply, call3_at, zs_of]
    rfl
  rw [val_main_v22_apply, val_main_v21_apply, val_main_v19_apply, h20, v18_at, v17_at, if_pos hj]
  refine Eq.trans ?_ (wgt_of (zs x0 x1 x3 h n) (logits (mat x0) (mat x1) (row x3) h n) n.val j.val hj (fun i hi => by
    unfold logits zs
    rw [dif_pos (by omega), dif_pos (by omega)]))
  rfl

/-- The reference's result: the attention of every place and head. -/
theorem v26_at (n : Fin 16384) (h : Fin 8) (r : Fin 64) :
    val_main_v26 (F := Ideal) x0 x1 x2 x3 (ix2 n ⟨64 * h.val + r.val, by omega⟩) = attn (mat x0) (mat x1) (row x3) (mat x2) n h r := by
  have h26 : idx_main_v26 (ix2 n ⟨64 * h.val + r.val, by omega⟩) = ix3 n h r := funext fun a => Fin.ext (by
    match a with
    | ⟨0, _⟩ => show (n.val * 512 + (64 * h.val + r.val)) / 512 = n.val; omega
    | ⟨1, _⟩ => show (n.val * 512 + (64 * h.val + r.val)) / 64 % 8 = h.val; omega
    | ⟨2, _⟩ => show (n.val * 512 + (64 * h.val + r.val)) % 64 = r.val; omega)
  have h25 : idx_main_v25 (ix3 n h r) = ix3 h r n := funext fun a => match a with | ⟨0, _⟩ => rfl | ⟨1, _⟩ => rfl | ⟨2, _⟩ => rfl
  rw [val_main_v26_apply, h26, val_main_v25_apply, h25, val_main_v24_apply]
  have hterm : ∀ j : Fin 16384, (val_main_v3 (F := Ideal) x2 (lidx_main_v24 (ix3 h r n) j) : EReal) * val_main_v23 (F := Ideal) x0 x1 x3 (ridx_main_v24 (ix3 h r n) j)
      = if j.val < n.val then vals (mat x2) ⟨64 * h.val + r.val, by omega⟩ j.val * wgt (logits (mat x0) (mat x1) (row x3) h n) n.val j.val else 0 := by
    intro j
    have hl : lidx_main_v24 (ix3 h r n) j = ix3 j h r := funext fun a => match a with | ⟨0, _⟩ => rfl | ⟨1, _⟩ => rfl | ⟨2, _⟩ => rfl
    have hr : ridx_main_v24 (ix3 h r n) j = ix3 h n j := funext fun a => match a with | ⟨0, _⟩ => rfl | ⟨1, _⟩ => rfl | ⟨2, _⟩ => rfl
    have hm : val_main_call4_v1 (F := Ideal) (ix3 h n j) = BitVec.ofBool (decide (j.val < n.val)) := by
      rw [val_main_call4_v1_apply, ← v14_at]
      exact congrArg (val_main_v14 (F := Ideal)) (funext fun a => match a with | ⟨0, _⟩ => rfl | ⟨1, _⟩ => rfl)
    have hz : val_main_call4_v2 (F := Ideal) (ix3 h n j) = (0 : EReal) := by
      rw [val_main_call4_v2_apply, val_main_call4_v0_apply, val_main_cst_1_apply, zero_bits]
    rw [hl, hr, v3_at, val_main_v23_apply, hm, hz, WordCmp.select_ofBool, vals_of]
    by_cases hj : j.val < n.val
    · rw [if_pos hj, v22_at x0 x1 x3 h n j hj]
      simp [hj]
    · rw [if_neg hj]
      simp [hj]
  refine (sum_congr rfl fun j _ => hterm j).trans ?_
  unfold attn part
  rw [Fin.sum_univ_eq_sum_range (fun j => if j < n.val then vals (mat x2) ⟨64 * h.val + r.val, by omega⟩ j * wgt (logits (mat x0) (mat x1) (row x3) h n) n.val j else 0) 16384,
    ← sum_filter]
  refine sum_congr ?_ fun _ _ => rfl
  have hn := n.isLt
  ext i
  simp only [mem_filter, mem_range, mem_Ico]
  omega

end Cert.ReferenceIdeal.Attn

end
-- ==== Proof.Ref.Agree.lean ====
/- The kernel's array and the reference's result are the same. -/
module

public import proofs.«01_k».proof.Defs
public import proofs.«01_k».proof.Proof.Gen.ReferenceIdeal
public import proofs.«01_k».proof.Proof.Ideal.Value
public import proofs.«01_k».proof.Proof.Ref.Value

@[expose] public section

noncomputable section

namespace Cert.Attn

open Idealize.ShloMosaic Idealize.ShloMosaic.TcCoe

variable (m : (ℓ : Loc Cert.KernelIdeal.nD Cert.KernelIdeal.τ Cert.KernelIdeal.sig) → Buf (Elt Ideal) ℓ)

/-- The array that the kernel leaves is the reference's result. -/
theorem agree (c : Dev Cert.KernelIdeal.nD) :
    (Cert.KernelIdeal.Attn.dats (F := Ideal) m 0 c).arrAt 3 Cert.KernelIdeal.cfg0.N
      = Cert.ReferenceIdeal.Read.val_main_v26 (F := Ideal) (Cert.KernelIdeal.Attn.Q m c) (Cert.KernelIdeal.Attn.K m c) (Cert.KernelIdeal.Attn.Vv m c) (Cert.KernelIdeal.Attn.Bs m c) :=
  Cert.KernelIdeal.Attn.arr_value m c _ fun n h r => Cert.ReferenceIdeal.Attn.v26_at _ _ _ _ n h r

end Cert.Attn

end
-- ==== Proof.Memory.Kernel.lean ====
/- The array that the memory call leaves, entry by entry: normalized rows times each layer's weights. -/
module

public import proofs.«01_k».proof.Proof.Gen.KernelMemoryIdeal.Frame
public import Idealize.ShloMosaic.Lib.Claim
public import Idealize.ShloMosaic.Lib.Pipeline.Value
public import Idealize.ShloMosaic.Lib.Pointwise
public import Idealize.ShloMosaic.Lib.WritesUnit
public import Idealize.ShloMosaic.Lib.Pipeline.ValueKit

@[expose] public section

set_option maxRecDepth 16384
set_option maxHeartbeats 400000

noncomputable section

namespace Cert.Memory

open Idealize.ShloMosaic

/-- The scale that gives a row a root mean square of one. -/
def scale (x : Fin 256 → Fin 1024 → EReal) (s : Fin 256) : EReal :=
  Ideal.rsqrt (Ideal.div (∑ e : Fin 1024, x s e * x s e) (Ideal.ofBits .f32 0x44800000#32) + Ideal.ofBits .f32 0x358637BD#32)

/-- A layer's projection of the normalized rows: row `s`, column `j`. -/
def project (x : Fin 256 → Fin 1024 → EReal) (g : Fin 1024 → EReal) (w : Fin 1024 → Fin 1024 → EReal) (s : Fin 256) (j : Fin 1024) : EReal :=
  ∑ e : Fin 1024, x s e * scale x s * g e * w e j

end Cert.Memory

namespace Cert.KernelMemoryIdeal.Value

open Cert.KernelMemoryIdeal Cert.KernelMemoryIdeal.Gen Cert.Memory
open Idealize.ShloMosaic Idealize.ShloMosaic.TcCoe Idealize.ShloMosaic.Tactic

/-- What the body computes from its blocks. -/
theorem pay_apply (x : FVec Ideal S256x1024 .f32) (g : FVec Ideal S1x1x1024 .f32) (w : FVec Ideal S1x1024x1024 .bf16) (s : Fin 256) (j : Fin 1024) :
    k0_pay1 (F := Ideal) x g w (ix3 0 s j) = project (fun s e => x (ix2 s e)) (fun e => g (ix3 0 0 e)) (fun e j => w (ix3 0 e j)) s j := by
  unfold k0_pay1 project scale
  pointwise

variable (m : (ℓ : Loc nD τ sig) → Buf (Elt Ideal) ℓ) (c : Dev nD)

/-- The memory's rows. -/
def M : FVec Ideal S1x256x1024 .f32 := m ((c : Thread nD τ).loc main_arg0)
/-- The gains of each layer's normalization. -/
def Gn : FVec Ideal S2x1024 .f32 := m ((c : Thread nD τ).loc main_arg1)
/-- The weights of each layer's projection. -/
def Wt : FVec Ideal S2x1024x1024 .f32 := m ((c : Thread nD τ).loc main_arg2)

/-- What the host leaves in buffer 0. -/
def w0 : FVec Ideal S256x1024 .f32 := V (F := Ideal) m c main_v0
/-- What the host leaves in buffer 1. -/
def w1 : FVec Ideal S2x1024x1024 .bf16 := V (F := Ideal) m c main_v1
/-- What the host leaves in buffer 2. -/
def w2 : FVec Ideal S2x1x1024 .f32 := V (F := Ideal) m c main_v2

theorem w0_apply (s : Fin 256) (e : Fin 1024) : w0 m c (ix2 s e) = M m c (ix3 0 s e) := by
  have hv : w0 m c = shapeCast S256x1024 (M m c) shapeCasts_S1x256x1024_S256x1024 := rfl
  rw [hv]
  refine shapeCast_apply _ _ _ _ ?_
  rw [Shape.rowMajor_val_three, Shape.rowMajor_val_two]
  show (0 * 256 + s.val) * 1024 + e.val = s.val * 1024 + e.val
  omega

theorem w1_apply (l : Fin 2) (e j : Fin 1024) : w1 m c (ix3 l e j) = Wt m c (ix3 l e j) := by
  have hv : w1 m c = (truncf .bf16 (Wt m c) bitsLt_bf16_f32 : FVec Ideal S2x1024x1024 .bf16) := rfl
  rw [hv]
  rfl

theorem w2_apply (l : Fin 2) (e : Fin 1024) : w2 m c (ix3 l 0 e) = Gn m c (ix2 l e) := by
  have hv : w2 m c = shapeCast S2x1x1024 (Gn m c) shapeCasts_S2x1024_S2x1x1024 := rfl
  rw [hv]
  refine shapeCast_apply _ _ _ _ ?_
  rw [Shape.rowMajor_val_three, Shape.rowMajor_val_two]
  show l.val * 1024 + e.val = (l.val * 1 + 0) * 1024 + e.val
  omega

/-- The block of every window at every grid point. -/
theorem idx : ∀ t : Fin grid0.N, win0_0.index t = ![0, 0] ∧ win0_1.index t = ![(grid0.coords t 0).val, 0, 0]
    ∧ win0_2.index t = ![(grid0.coords t 0).val, 0, 0] ∧ win0_3.index t = ![(grid0.coords t 0).val, 0, 0] := by
  decide +kernel

/-- The layer of a grid point. -/
def layer (t : Fin cfg0.N) : Fin 2 := grid0.coords t 0

/-- The rows that a grid point stages. -/
def mb (t : Fin cfg0.N) : FVec Ideal S256x1024 .f32 := iblk (F := Ideal) m c 0 t
/-- The gains that a grid point stages. -/
def gb (t : Fin cfg0.N) : FVec Ideal S1x1x1024 .f32 := iblk (F := Ideal) m c 1 t
/-- The weights that a grid point stages. -/
def wb (t : Fin cfg0.N) : FVec Ideal S1x1024x1024 .bf16 := iblk (F := Ideal) m c 2 t

theorem mb_apply (t : Fin cfg0.N) (s : Fin 256) (e : Fin 1024) : mb m c t (ix2 s e) = w0 m c (ix2 s e) := by
  unfold mb iblk
  rw [View.read_apply]
  refine congrArg (w0 m c) (funext fun a => Fin.ext ?_)
  refine (Pipeline.Window.rect_emb_val (cfg0.win 0) t _ a).trans ?_
  rw [show (cfg0.win 0).index t = _ from (idx t).1]
  match a with
  | ⟨0, _⟩ => show 0 * 256 + s.val = s.val; omega
  | ⟨1, _⟩ => show 0 * 1024 + e.val = e.val; omega

theorem gb_apply (t : Fin cfg0.N) (e : Fin 1024) : gb m c t (ix3 0 0 e) = w2 m c (ix3 (layer t) 0 e) := by
  unfold gb iblk
  rw [View.read_apply]
  refine congrArg (w2 m c) (funext fun a => Fin.ext ?_)
  refine (Pipeline.Window.rect_emb_val (cfg0.win 1) t _ a).trans ?_
  rw [show (cfg0.win 1).index t = _ from (idx t).2.1]
  match a with
  | ⟨0, _⟩ => show (grid0.coords t 0).val * 1 + 0 = (grid0.coords t 0).val; omega
  | ⟨1, _⟩ => show 0 * 1 + 0 = 0; omega
  | ⟨2, _⟩ => show 0 * 1024 + e.val = e.val; omega

theorem wb_apply (t : Fin cfg0.N) (e j : Fin 1024) : wb m c t (ix3 0 e j) = w1 m c (ix3 (layer t) e j) := by
  unfold wb iblk
  rw [View.read_apply]
  refine congrArg (w1 m c) (funext fun a => Fin.ext ?_)
  refine (Pipeline.Window.rect_emb_val (cfg0.win 2) t _ a).trans ?_
  rw [show (cfg0.win 2).index t = _ from (idx t).2.2.1]
  match a with
  | ⟨0, _⟩ => show (grid0.coords t 0).val * 1 + 0 = (grid0.coords t 0).val; omega
  | ⟨1, _⟩ => show 0 * 1024 + e.val = e.val; omega
  | ⟨2, _⟩ => show 0 * 1024 + j.val = j.val; omega

/-- A layer's projection of the memory, from the arguments. -/
def proj (l : Fin 2) (s : Fin 256) (j : Fin 1024) : EReal :=
  project (fun s e => M m c (ix3 0 s e)) (fun e => Gn m c (ix2 l e)) (fun e j => Wt m c (ix3 l e j)) s j

/-- The block that a grid point writes back. -/
def outb (t : Fin cfg0.N) : FVec Ideal S1x256x1024 .f32 := out0_3 (F := Ideal) (mb m c t) (gb m c t) (wb m c t)

theorem after_eq (t : Fin cfg0.N) : (dats (F := Ideal) m 0 c).after 3 t = outb m c t := after0_3 m c t

/-- What a grid point leaves in the block it writes back. -/
theorem out_entry (t : Fin cfg0.N) (s : Fin 256) (j : Fin 1024) :
    outb m c t (ix3 0 s j) = proj m c (layer t) s j := by
  unfold outb out0_3
  rw [View.canon_unit_zero (by funext a; match a with | ⟨0, _⟩ => rfl | ⟨1, _⟩ => rfl | ⟨2, _⟩ => rfl)]
  rw [View.ld_unit_lit _ _ (by decide), View.ld_unit_lit _ _ (by decide), View.ld_unit_lit _ _ (by decide)]
  rw [pay_apply]
  unfold proj
  simp only [mb_apply, gb_apply, wb_apply, w0_apply, w1_apply, w2_apply]

/-- The array after the call: each layer's projection of every row. -/
theorem arr_value (G : FVec Ideal S2x256x1024 .f32) (hG : ∀ (l : Fin 2) (s : Fin 256) (j : Fin 1024), G (ix3 l s j) = proj m c l s j) :
    (dats (F := Ideal) m 0 c).arrAt 3 cfg0.N = G := by
  refine (dats (F := Ideal) m 0 c).arrAt_eq_of_covers 3 _ (by decide +kernel) fun t hf y => ?_
  rw [after_eq]
  have hy0 : (y 0).val < 1 := (y 0).isLt
  have hy1 : (y 1).val < 256 := (y 1).isLt
  have hy2 : (y 2).val < 1024 := (y 2).isLt
  have key := out_entry m c t ⟨(y 1).val, hy1⟩ ⟨(y 2).val, hy2⟩
  rw [← hG] at key
  generalize outb m c t = B at key ⊢
  refine Eq.trans ?_ (key.trans (congrArg G (funext fun a => Fin.ext ?_)))
  · refine congrArg B (funext fun a => Fin.ext ?_)
    match a with
    | ⟨0, _⟩ => show (y 0).val = 0; omega
    | ⟨1, _⟩ => rfl
    | ⟨2, _⟩ => rfl
  · refine Eq.trans ?_ (Pipeline.Window.rect_emb_val (cfg0.win 3) t y a).symm
    rw [show (cfg0.win 3).index t = _ from (idx t).2.2.2]
    match a with
    | ⟨0, _⟩ => show (grid0.coords t 0).val = (grid0.coords t 0).val * 1 + (y 0).val; omega
    | ⟨1, _⟩ => show (y 1).val = 0 * 256 + (y 1).val; omega
    | ⟨2, _⟩ => show (y 2).val = 0 * 1024 + (y 2).val; omega

/-! ## The results -/

/-- The array after the call. -/
def arr : FVec Ideal S2x256x1024 .f32 := (dats (F := Ideal) m 0 c).arrAt 3 cfg0.N

/-- The keys' result: the first half of the columns, by heads. -/
theorem tail_keys : Pipeline.afterTail₀ cfgs (dats (F := Ideal) m) 0 (V0 m) [hostOps1] c main_v5
    = shapeCast S2x1x256x4x128 (extractStridedSlice S2x256x512 ![0, 0, 0] (arr m c) slices_S2x256x1024_S2x256x512_0_0_0) shapeCasts_S2x256x512_S2x1x256x4x128 := by
  unfold Pipeline.afterTail₀ hostOps1
  simp only [List.flatten_cons, List.flatten_nil, List.append_nil]
  after_results
  rw [Pipeline.withArrays_arr spec0 launch0.win.arr_inj c (V0 m c) _ 3]
  rfl

/-- The values' result: the second half of the columns, by heads. -/
theorem tail_values : Pipeline.afterTail₀ cfgs (dats (F := Ideal) m) 0 (V0 m) [hostOps1] c main_v7
    = shapeCast S2x1x256x4x128 (extractStridedSlice S2x256x512 ![0, 0, 512] (arr m c) slices_S2x256x1024_S2x256x512_0_0_512) shapeCasts_S2x256x512_S2x1x256x4x128 := by
  unfold Pipeline.afterTail₀ hostOps1
  simp only [List.flatten_cons, List.flatten_nil, List.append_nil]
  after_results
  rw [Pipeline.withArrays_arr spec0 launch0.win.arr_inj c (V0 m c) _ 3]
  rfl

end Cert.KernelMemoryIdeal.Value

end
-- ==== Proof.Memory.Reference.lean ====
/- What the memory's reference computes, entry by entry: normalized rows times each layer's weights. -/
module

public import proofs.«01_k».proof.Proof.Gen.ReferenceMemoryIdeal.Read
public import proofs.«01_k».proof.Proof.Memory.Kernel

@[expose] public section

set_option maxRecDepth 16384
set_option maxHeartbeats 400000

noncomputable section

namespace Cert.ReferenceMemoryIdeal.Mem

open Cert.ReferenceMemoryIdeal Cert.ReferenceMemoryIdeal.Gen Cert.ReferenceMemoryIdeal.Read Cert.Memory
open Idealize.ShloMosaic Idealize.ShloMosaic.TcCoe Finset

theorem zero_bits : (FloatOps.ofBits (F := Ideal) .f32 0x00000000#32 : EReal) = 0 := by
  show Ideal.ofBits .f32 0x00000000#32 = 0
  simp [Ideal.ofBits, Ideal.ieee, -EReal.coe_mul]

variable (x0 : FVec Ideal S1x256x1024 .f32) (x1 : FVec Ideal S2x1024 .f32) (x2 : FVec Ideal S2x1024x1024 .f32)

/-- The rows, by row and column. -/
abbrev rows (s : Fin 256) (e : Fin 1024) : EReal := x0 (ix3 0 s e)

/-- The scale of a row. -/
theorem v11_at (s : Fin 256) : val_main_v11 (F := Ideal) x0 (ix3 0 s 0) = scale (rows x0) s := by
  have h5 : val_main_v6 (F := Ideal) x0 (ix3 0 s 0) = (∑ e : Fin 1024, rows x0 s e * rows x0 s e : EReal) := by
    rw [val_main_v6_apply, val_main_v5_apply, val_main_cst_apply, zero_bits, zero_add]
    refine sum_congr rfl fun e _ => ?_
    rw [val_main_v4_apply]
    have he : idx_main_v5 (idx_main_v6 (ix3 0 s 0)) e = ix3 0 s e := funext fun a => match a with | ⟨0, _⟩ => rfl | ⟨1, _⟩ => rfl | ⟨2, _⟩ => rfl
    rw [he]
    rfl
  rw [val_main_v11_apply, val_main_v10_apply, val_main_v8_apply, h5, val_main_v7_apply, val_main_cst_0_apply, val_main_v9_apply, val_main_cst_1_apply]
  rfl

/-- The scaled rows. -/
theorem v13_at (s : Fin 256) (e : Fin 1024) : val_main_v13 (F := Ideal) x0 (ix3 0 s e) = rows x0 s e * scale (rows x0) s := by
  rw [val_main_v13_apply, val_main_v12_apply, ← v11_at]
  have he : idx_main_v12 (ix3 0 s e) = ix3 0 s 0 := funext fun a => match a with | ⟨0, _⟩ => rfl | ⟨1, _⟩ => rfl | ⟨2, _⟩ => rfl
  rw [he]
  rfl

theorem v35_at (s : Fin 256) (e : Fin 1024) : val_main_v35 (F := Ideal) x0 (ix3 0 s e) = rows x0 s e * scale (rows x0) s :=
  v13_at x0 s e

/-- The first layer's gain. -/
theorem v15_at (s : Fin 256) (e : Fin 1024) : val_main_v15 (F := Ideal) x1 (ix3 0 s e) = x1 (ix2 0 e) := by
  rw [val_main_v15_apply, val_main_v14_apply, val_main_v1_apply, val_main_v0_apply]
  refine congrArg x1 (funext fun a => Fin.ext ?_)
  match a with
  | ⟨0, _⟩ => rfl
  | ⟨1, _⟩ => show e.val % 1024 = e.val; omega

/-- The second layer's gain. -/
theorem v37_at (s : Fin 256) (e : Fin 1024) : val_main_v37 (F := Ideal) x1 (ix3 0 s e) = x1 (ix2 1 e) := by
  rw [val_main_v37_apply, val_main_v36_apply, val_main_v23_apply, val_main_v22_apply]
  refine congrArg x1 (funext fun a => Fin.ext ?_)
  match a with
  | ⟨0, _⟩ => rfl
  | ⟨1, _⟩ => show e.val % 1024 = e.val; omega

/-- The first layer's weights. -/
theorem v3_at (e j : Fin 1024) : val_main_v3 (F := Ideal) x2 (ix2 e j) = x2 (ix3 0 e j) := by
  rw [val_main_v3_apply, val_main_v2_apply]
  refine congrArg x2 (funext fun a => Fin.ext ?_)
  match a with
  | ⟨0, _⟩ => rfl
  | ⟨1, _⟩ => show (e.val * 1024 + j.val) / 1024 % 1024 = e.val; omega
  | ⟨2, _⟩ => show (e.val * 1024 + j.val) % 1024 = j.val; omega

/-- The second layer's weights. -/
theorem v25_at (e j : Fin 1024) : val_main_v25 (F := Ideal) x2 (ix2 e j) = x2 (ix3 1 e j) := by
  rw [val_main_v25_apply, val_main_v24_apply]
  refine congrArg x2 (funext fun a => Fin.ext ?_)
  match a with
  | ⟨0, _⟩ => rfl
  | ⟨1, _⟩ => show (e.val * 1024 + j.val) / 1024 % 1024 = e.val; omega
  | ⟨2, _⟩ => show (e.val * 1024 + j.val) % 1024 = j.val; omega

/-- The first layer's projection. -/
theorem v17_at (s : Fin 256) (j : Fin 1024) :
    val_main_v17 (F := Ideal) x0 x1 x2 (ix3 0 s j) = project (rows x0) (fun e => x1 (ix2 0 e)) (fun e j => x2 (ix3 0 e j)) s j := by
  rw [val_main_v17_apply]
  refine sum_congr rfl fun e _ => ?_
  have hl : lidx_main_v17 (ix3 0 s j) e = ix3 0 s e := funext fun a => match a with | ⟨0, _⟩ => rfl | ⟨1, _⟩ => rfl | ⟨2, _⟩ => rfl
  have hr : ridx_main_v17 (ix3 0 s j) e = ix2 e j := funext fun a => match a with | ⟨0, _⟩ => rfl | ⟨1, _⟩ => rfl
  rw [hl, hr, val_main_v16_apply, v13_at, v15_at, v3_at]
  rfl

/-- The second layer's projection. -/
theorem v39_at (s : Fin 256) (j : Fin 1024) :
    val_main_v39 (F := Ideal) x0 x1 x2 (ix3 0 s j) = project (rows x0) (fun e => x1 (ix2 1 e)) (fun e j => x2 (ix3 1 e j)) s j := by
  rw [val_main_v39_apply]
  refine sum_congr rfl fun e _ => ?_
  have hl : lidx_main_v39 (ix3 0 s j) e = ix3 0 s e := funext fun a => match a with | ⟨0, _⟩ => rfl | ⟨1, _⟩ => rfl | ⟨2, _⟩ => rfl
  have hr : ridx_main_v39 (ix3 0 s j) e = ix2 e j := funext fun a => match a with | ⟨0, _⟩ => rfl | ⟨1, _⟩ => rfl
  rw [hl, hr, val_main_v38_apply, v35_at, v37_at, v25_at]
  rfl

/-- A projection by heads: the column of head `h` and dimension `d`, from column `o` on. -/
theorem v44_at (s : Fin 256) (h : Fin 4) (d : Fin 128) :
    val_main_v44 (F := Ideal) x0 x1 x2 (ix5 0 0 s h d) = val_main_v17 (F := Ideal) x0 x1 x2 (ix3 0 s ⟨128 * h.val + d.val, by omega⟩) := by
  rw [val_main_v44_apply, val_main_v20_apply, val_main_v18_apply]
  refine congrArg (val_main_v17 (F := Ideal) x0 x1 x2) (funext fun a => Fin.ext ?_)
  match a with
  | ⟨0, _⟩ => rfl
  | ⟨1, _⟩ => show (((0 * 256 + s.val) * 4 + h.val) * 128 + d.val) / 512 % 256 = s.val; omega
  | ⟨2, _⟩ => show (((0 * 256 + s.val) * 4 + h.val) * 128 + d.val) % 512 = 128 * h.val + d.val; omega

theorem v45_at (s : Fin 256) (h : Fin 4) (d : Fin 128) :
    val_main_v45 (F := Ideal) x0 x1 x2 (ix5 0 0 s h d) = val_main_v39 (F := Ideal) x0 x1 x2 (ix3 0 s ⟨128 * h.val + d.val, by omega⟩) := by
  rw [val_main_v45_apply, val_main_v42_apply, val_main_v40_apply]
  refine congrArg (val_main_v39 (F := Ideal) x0 x1 x2) (funext fun a => Fin.ext ?_)
  match a with
  | ⟨0, _⟩ => rfl
  | ⟨1, _⟩ => show (((0 * 256 + s.val) * 4 + h.val) * 128 + d.val) / 512 % 256 = s.val; omega
  | ⟨2, _⟩ => show (((0 * 256 + s.val) * 4 + h.val) * 128 + d.val) % 512 = 128 * h.val + d.val; omega

theorem v47_at (s : Fin 256) (h : Fin 4) (d : Fin 128) :
    val_main_v47 (F := Ideal) x0 x1 x2 (ix5 0 0 s h d) = val_main_v17 (F := Ideal) x0 x1 x2 (ix3 0 s ⟨512 + (128 * h.val + d.val), by omega⟩) := by
  rw [val_main_v47_apply, val_main_v21_apply, val_main_v19_apply]
  refine congrArg (val_main_v17 (F := Ideal) x0 x1 x2) (funext fun a => Fin.ext ?_)
  match a with
  | ⟨0, _⟩ => rfl
  | ⟨1, _⟩ => show (((0 * 256 + s.val) * 4 + h.val) * 128 + d.val) / 512 % 256 = s.val; omega
  | ⟨2, _⟩ => show 512 + (((0 * 256 + s.val) * 4 + h.val) * 128 + d.val) % 512 = 512 + (128 * h.val + d.val); omega

theorem v48_at (s : Fin 256) (h : Fin 4) (d : Fin 128) :
    val_main_v48 (F := Ideal) x0 x1 x2 (ix5 0 0 s h d) = val_main_v39 (F := Ideal) x0 x1 x2 (ix3 0 s ⟨512 + (128 * h.val + d.val), by omega⟩) := by
  rw [val_main_v48_apply, val_main_v43_apply, val_main_v41_apply]
  refine congrArg (val_main_v39 (F := Ideal) x0 x1 x2) (funext fun a => Fin.ext ?_)
  match a with
  | ⟨0, _⟩ => rfl
  | ⟨1, _⟩ => show (((0 * 256 + s.val) * 4 + h.val) * 128 + d.val) / 512 % 256 = s.val; omega
  | ⟨2, _⟩ => show 512 + (((0 * 256 + s.val) * 4 + h.val) * 128 + d.val) % 512 = 512 + (128 * h.val + d.val); omega

/-- Two layers' pieces joined, read at the first. -/
theorem join_first {α : Type} (y0 y1 : S1x1x256x4x128.Idx → α) (s : Fin 256) (h : Fin 4) (d : Fin 128) :
    concatenate S2x1x256x4x128 0 [⟨S1x1x256x4x128, y0⟩, ⟨S1x1x256x4x128, y1⟩] concatenates_S1x1x256x4x128_S1x1x256x4x128_S2x1x256x4x128_d0 (ix5 0 0 s h d)
      = y0 (ix5 0 0 s h d) :=
  concatenate_apply_piece (t := S2x1x256x4x128) 0 [⟨S1x1x256x4x128, y0⟩, ⟨S1x1x256x4x128, y1⟩] _ (ix5 0 0 s h d) 0 (by simp) S1x1x256x4x128 y0 rfl rfl 0 rfl (ix5 0 0 s h d)
    (fun b hb => match b with | ⟨0, _⟩ => absurd rfl hb | ⟨1, _⟩ => rfl | ⟨2, _⟩ => rfl | ⟨3, _⟩ => rfl | ⟨4, _⟩ => rfl) rfl

/-- Two layers' pieces joined, read at the second. -/
theorem join_second {α : Type} (y0 y1 : S1x1x256x4x128.Idx → α) (s : Fin 256) (h : Fin 4) (d : Fin 128) :
    concatenate S2x1x256x4x128 0 [⟨S1x1x256x4x128, y0⟩, ⟨S1x1x256x4x128, y1⟩] concatenates_S1x1x256x4x128_S1x1x256x4x128_S2x1x256x4x128_d0 (ix5 1 0 s h d)
      = y1 (ix5 0 0 s h d) :=
  concatenate_apply_piece (t := S2x1x256x4x128) 0 [⟨S1x1x256x4x128, y0⟩, ⟨S1x1x256x4x128, y1⟩] _ (ix5 1 0 s h d) 1 (by simp) S1x1x256x4x128 y1 rfl rfl 1 rfl (ix5 0 0 s h d)
    (fun b hb => match b with | ⟨0, _⟩ => absurd rfl hb | ⟨1, _⟩ => rfl | ⟨2, _⟩ => rfl | ⟨3, _⟩ => rfl | ⟨4, _⟩ => rfl) rfl

/-- The keys: each layer's first half of the columns. -/
theorem v46_at (l : Fin 2) (s : Fin 256) (h : Fin 4) (d : Fin 128) :
    val_main_v46 (F := Ideal) x0 x1 x2 (ix5 l 0 s h d)
      = project (rows x0) (fun e => x1 (ix2 l e)) (fun e j => x2 (ix3 l e j)) s ⟨128 * h.val + d.val, by omega⟩ := by
  unfold val_main_v46
  match l with
  | ⟨0, _⟩ => exact (join_first _ _ s h d).trans ((v44_at x0 x1 x2 s h d).trans (v17_at x0 x1 x2 s _))
  | ⟨1, _⟩ => exact (join_second _ _ s h d).trans ((v45_at x0 x1 x2 s h d).trans (v39_at x0 x1 x2 s _))

/-- The values: each layer's second half of the columns. -/
theorem v49_at (l : Fin 2) (s : Fin 256) (h : Fin 4) (d : Fin 128) :
    val_main_v49 (F := Ideal) x0 x1 x2 (ix5 l 0 s h d)
      = project (rows x0) (fun e => x1 (ix2 l e)) (fun e j => x2 (ix3 l e j)) s ⟨512 + (128 * h.val + d.val), by omega⟩ := by
  unfold val_main_v49
  match l with
  | ⟨0, _⟩ => exact (join_first _ _ s h d).trans ((v47_at x0 x1 x2 s h d).trans (v17_at x0 x1 x2 s _))
  | ⟨1, _⟩ => exact (join_second _ _ s h d).trans ((v48_at x0 x1 x2 s h d).trans (v39_at x0 x1 x2 s _))

end Cert.ReferenceMemoryIdeal.Mem

end
-- ==== Proof.Memory.Agree.lean ====
/- The memory's keys and values: what the kernel leaves is what the reference computes. -/
module

public import proofs.«01_k».proof.Proof.Memory.Kernel
public import proofs.«01_k».proof.Proof.Memory.Reference

@[expose] public section

set_option maxRecDepth 16384
set_option maxHeartbeats 400000

noncomputable section

namespace Cert.Memory

open Cert.KernelMemoryIdeal Cert.KernelMemoryIdeal.Gen Cert.KernelMemoryIdeal.Value
open Idealize.ShloMosaic Idealize.ShloMosaic.TcCoe Idealize.SL.Sem

/-- Columns split into heads, read at a head and a dimension. -/
theorem heads_apply {α : Type} (y : S2x256x512.Idx → α) (l : Fin 2) (s : Fin 256) (h : Fin 4) (d : Fin 128) :
    shapeCast S2x1x256x4x128 y shapeCasts_S2x256x512_S2x1x256x4x128 (ix5 l 0 s h d) = y (ix3 l s ⟨128 * h.val + d.val, by omega⟩) := by
  refine shapeCast_apply _ _ _ _ ?_
  rw [Shape.rowMajor_val_three, Shape.rowMajor_val_five]
  show (l.val * 256 + s.val) * 512 + (128 * h.val + d.val) = (((l.val * 1 + 0) * 256 + s.val) * 4 + h.val) * 128 + d.val
  omega

variable (m : (ℓ : Loc nD τ sig) → Buf (Elt Ideal) ℓ) (c : Dev nD)

/-- The array after the call, entry by entry. -/
theorem arr_apply (l : Fin 2) (s : Fin 256) (j : Fin 1024) : arr m c (ix3 l s j) = proj m c l s j := by
  have e : arr m c = fun i => proj m c (i 0) (i 1) (i 2) := arr_value m c _ fun _ _ _ => rfl
  rw [e]
  rfl

/-- An index by its coordinates, the second of which is zero. -/
theorem five (i : S2x1x256x4x128.Idx) : ∃ (l : Fin 2) (s : Fin 256) (h : Fin 4) (d : Fin 128), i = ix5 l 0 s h d := by
  refine ⟨i 0, i 2, i 3, i 4, funext fun a => Fin.ext ?_⟩
  have h1 : (i 1).val < 1 := (i 1).isLt
  match a with
  | ⟨0, _⟩ => rfl
  | ⟨1, _⟩ => show (i 1).val = 0; omega
  | ⟨2, _⟩ => rfl
  | ⟨3, _⟩ => rfl
  | ⟨4, _⟩ => rfl

/-- The keys. -/
theorem agree_keys : Pipeline.afterTail₀ cfgs (dats (F := Ideal) m) 0 (V0 m) [hostOps1] c main_v5
    = Cert.ReferenceMemoryIdeal.Read.val_main_v46 (F := Ideal) (M m c) (Gn m c) (Wt m c) := by
  rw [tail_keys]
  funext i
  obtain ⟨l, s, h, d, rfl⟩ := five i
  refine (heads_apply _ l s h d).trans (Eq.trans ?_ (Cert.ReferenceMemoryIdeal.Mem.v46_at (M m c) (Gn m c) (Wt m c) l s h d).symm)
  refine (extractStridedSlice_apply ![0, 0, 0] (arr m c) slices_S2x256x1024_S2x256x512_0_0_0 _ (ix3 l s ⟨128 * h.val + d.val, by omega⟩) fun a => ?_).trans (arr_apply m c l s _)
  match a with
  | ⟨0, _⟩ => show l.val = 0 + l.val; omega
  | ⟨1, _⟩ => show s.val = 0 + s.val; omega
  | ⟨2, _⟩ => show 128 * h.val + d.val = 0 + (128 * h.val + d.val); omega

/-- The values. -/
theorem agree_values : Pipeline.afterTail₀ cfgs (dats (F := Ideal) m) 0 (V0 m) [hostOps1] c main_v7
    = Cert.ReferenceMemoryIdeal.Read.val_main_v49 (F := Ideal) (M m c) (Gn m c) (Wt m c) := by
  rw [tail_values]
  funext i
  obtain ⟨l, s, h, d, rfl⟩ := five i
  refine (heads_apply _ l s h d).trans (Eq.trans ?_ (Cert.ReferenceMemoryIdeal.Mem.v49_at (M m c) (Gn m c) (Wt m c) l s h d).symm)
  refine (extractStridedSlice_apply ![0, 0, 512] (arr m c) slices_S2x256x1024_S2x256x512_0_0_512 _ (ix3 l s ⟨512 + (128 * h.val + d.val), by omega⟩) fun a => ?_).trans (arr_apply m c l s _)
  match a with
  | ⟨0, _⟩ => show l.val = 0 + l.val; omega
  | ⟨1, _⟩ => show s.val = 0 + s.val; omega
  | ⟨2, _⟩ => rfl

/-- The run: the two results are what the operations after the call leave, and the arguments are as they were. -/
theorem run_memory (g : Dev nD → PrngReg) : θ_run defs (onTc (τ := τ) (main (F := Ideal))) ⟨m, fun _ => 0, g⟩ fun r => ∀ c : Dev nD,
      r.2.mem ((c : Thread nD τ).loc main_v5) = Pipeline.afterTail₀ cfgs (dats (F := Ideal) m) 0 (V0 m) [hostOps1] c main_v5
      ∧ r.2.mem ((c : Thread nD τ).loc main_v7) = Pipeline.afterTail₀ cfgs (dats (F := Ideal) m) 0 (V0 m) [hostOps1] c main_v7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2 main_v5 (Pipeline.mem_restRefs_of main_v5 (by decide) (by decide)),
      (h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m g)

end Cert.Memory

end
-- ==== Proof.Mix.Body.lean ====
/- What the mix computes from its blocks, entry by entry: the spatial gate, the branches' projections, their gated sum and the residual. -/
module

public import proofs.«01_k».proof.Proof.Gen.KernelMixIdeal.Frame
public import Idealize.ShloMosaic.Lib.Claim
public import Idealize.ShloMosaic.Lib.Pipeline.Value
public import Idealize.ShloMosaic.Lib.Pointwise
public import Idealize.ShloMosaic.Lib.WritesUnit
public import Idealize.ShloMosaic.Lib.WordCmp
public import Idealize.ShloMosaic.Lib.Pipeline.ValueKit

@[expose] public section

set_option maxRecDepth 16384
set_option maxHeartbeats 400000

noncomputable section

namespace Cert.KernelMixIdeal.Value

open Cert.KernelMixIdeal Cert.KernelMixIdeal.Gen
open Idealize.ShloMosaic Idealize.ShloMosaic.TcCoe Idealize.ShloMosaic.Tactic

/-! ## The spatial gate's product -/

/-- A row's number shifted right by seven bits: the number of its group of 128. -/
theorem shift_row : ∀ r : Fin 256, IntOp.shrsi .vector (BitVec.ofNat 32 r.val) 7#32 = BitVec.ofNat 32 (r.val / 128) := by
  decide +kernel

/-- The mask: a column not after the row and in the row's group of 128. -/
def near (r s : Fin 256) : Prop := s.val ≤ r.val ∧ r.val / 128 = s.val / 128

instance (r s : Fin 256) : Decidable (near r s) := by unfold near; infer_instance

theorem mask_apply (r s : Fin 256) : k0_pay2 (ix2 r s) = BitVec.ofBool (decide (near r s)) := by
  have hr := r.isLt
  have hs := s.isLt
  have e : k0_pay2 (ix2 r s) = IntOp.andi (IntOp.cmpi .sle (BitVec.ofNat 32 s.val) (BitVec.ofNat 32 r.val))
      (IntOp.cmpi .eq (IntOp.shrsi .vector (BitVec.ofNat 32 r.val) 7#32) (IntOp.shrsi .vector (BitVec.ofNat 32 s.val) 7#32)) := by
    unfold k0_pay2
    pointwise
  rw [e, shift_row, shift_row, WordCmp.cmpi_sle_ofNat (by omega) (by omega), WordCmp.cmpi_eq_ofNat (by omega) (by omega)]
  unfold near
  by_cases h1 : s.val ≤ r.val <;> by_cases h2 : r.val / 128 = s.val / 128 <;> simp [h1, h2] <;> rfl

/-- A group's weights under the mask. -/
def masked (W : FVec Ideal S1x256x256 .bf16) : FVec Ideal S256x256 .bf16 :=
  select k0_pay2 (shapeCast S256x256 W shapeCasts_S1x256x256_S256x256) (broadcast S256x256 (Scalar.ofBits .bf16 0x0000#16))

theorem masked_apply (W : FVec Ideal S1x256x256 .bf16) (r s : Fin 256) :
    masked W (ix2 r s) = if near r s then W (ix3 0 r s) else 0 := by
  unfold masked
  pointwise
  rw [mask_apply, WordCmp.select_ofBool]
  simp only [decide_eq_true_eq]

/-- A group's weights times a tile of 128 columns. -/
def gate (W : FVec Ideal S1x256x256 .bf16) (v : FVec Ideal S256x128 .bf16) : FVec Ideal S256x128 .f32 :=
  matmul dot_S256x256_S256x128_S256x128_1_0_0_1_n_n none (masked W) v (constant S256x128 .f32 0x00000000#32)

theorem gate_apply (W : FVec Ideal S1x256x256 .bf16) (v : FVec Ideal S256x128 .bf16) (r : Fin 256) (l : Fin 128) :
    gate W v (ix2 r l) = ∑ s : Fin 256, (if near r s then W (ix3 0 r s) else 0) * v (ix2 s l) := by
  unfold gate
  pointwise [masked_apply]

/-- A tile: its first 64 columns by one group's weights, the others by the next group's. -/
def tile (W0 W1 : FVec Ideal S1x256x256 .bf16) (v : FVec Ideal S256x128 .bf16) : FVec Ideal S256x128 .f32 :=
  select (cmpi .slt (iota .tc S256x128 32 [1] iota_S256x128_d1_w32) (broadcast S256x128 64#32)) (gate W0 v) (gate W1 v)

theorem tile_apply (W0 W1 : FVec Ideal S1x256x256 .bf16) (v : FVec Ideal S256x128 .bf16) (r : Fin 256) (l : Fin 128) :
    tile W0 W1 v (ix2 r l) = ∑ s : Fin 256, (if near r s then (if l.val < 64 then W0 (ix3 0 r s) else W1 (ix3 0 r s)) else 0) * v (ix2 s l) := by
  unfold tile
  pointwise [gate_apply]
  have hl := l.isLt
  rw [WordCmp.cmpi_slt_ofNat (by omega) (by omega), WordCmp.select_ofBool]
  simp only [decide_eq_true_eq]
  by_cases h : l.val < 64 <;> simp [h]

/-- The columns from `128 j` on of the gate's operand. -/
theorem cols_apply (o : Fin 2 → ℕ) (x : FVec Ideal S256x512 .f32) (h : S256x512.Slices o S256x128) (j : ℕ) (hj : j < 4) (ho : o = ![0, 128 * j]) (s : Fin 256) (l : Fin 128) :
    @Eq EReal (extractStridedSlice S256x128 o (k0_pay3 (F := Ideal) x) h (ix2 s l)) (x (ix2 s ⟨128 * j + l.val, by omega⟩)) := by
  subst ho
  refine (extractStridedSlice_apply ![0, 128 * j] (k0_pay3 (F := Ideal) x) h _ (ix2 s ⟨128 * j + l.val, by omega⟩) fun a => ?_).trans rfl
  match a with
  | ⟨0, _⟩ => show s.val = 0 + s.val; omega
  | ⟨1, _⟩ => rfl

/-- The four tiles joined. -/
def joined (x : FVec Ideal S256x512 .f32) (W0 W1 W2 W3 W4 W5 W6 W7 : FVec Ideal S1x256x256 .bf16) : FVec Ideal S256x512 .f32 :=
  k0_pay9 k0_pay2 (iota .tc S256x128 32 [1] iota_S256x128_d1_w32) (k0_pay3 x) (k0_pay4 x W0 W1) (k0_pay5 x) (k0_pay6 x W2) (k0_pay7 W3) k0_pay8 W4 W5 W6 W7

theorem joined_eq (x : FVec Ideal S256x512 .f32) (W0 W1 W2 W3 W4 W5 W6 W7 : FVec Ideal S1x256x256 .bf16) :
    joined x W0 W1 W2 W3 W4 W5 W6 W7 = concatenate S256x512 1 [
      ⟨S256x128, tile W0 W1 (extractStridedSlice S256x128 ![0, 0] (k0_pay3 x) slices_S256x512_o0_0_S256x128)⟩,
      ⟨S256x128, tile W2 W3 (extractStridedSlice S256x128 ![0, 128] (k0_pay3 x) slices_S256x512_o0_128_S256x128)⟩,
      ⟨S256x128, tile W4 W5 (extractStridedSlice S256x128 ![0, 256] (k0_pay3 x) slices_S256x512_o0_256_S256x128)⟩,
      ⟨S256x128, tile W6 W7 (extractStridedSlice S256x128 ![0, 384] (k0_pay3 x) slices_S256x512_o0_384_S256x128)⟩]
      concatenates_S256x128_S256x128_S256x128_S256x128_S256x512_d1 := rfl

/-- Four tiles joined, read in one of them. -/
theorem join_at {α : Type} (y : Fin 4 → S256x128.Idx → α) (r : Fin 256) (j : Fin 4) (l : Fin 128) :
    concatenate S256x512 1 [⟨S256x128, y 0⟩, ⟨S256x128, y 1⟩, ⟨S256x128, y 2⟩, ⟨S256x128, y 3⟩] concatenates_S256x128_S256x128_S256x128_S256x128_S256x512_d1
      (ix2 r ⟨128 * j.val + l.val, by omega⟩) = y j (ix2 r l) :=
  match j with
  | ⟨0, _⟩ => concatenate_apply_piece (t := S256x512) 1 [⟨S256x128, y 0⟩, ⟨S256x128, y 1⟩, ⟨S256x128, y 2⟩, ⟨S256x128, y 3⟩] _ (ix2 r ⟨128 * 0 + l.val, by omega⟩) 0 (by simp) S256x128 (y 0) rfl rfl 0 rfl (ix2 r l)
      (fun b hb => match b with | ⟨0, _⟩ => rfl | ⟨1, _⟩ => absurd rfl hb) (show 128 * 0 + l.val = 0 + l.val by omega)
  | ⟨1, _⟩ => concatenate_apply_piece (t := S256x512) 1 [⟨S256x128, y 0⟩, ⟨S256x128, y 1⟩, ⟨S256x128, y 2⟩, ⟨S256x128, y 3⟩] _ (ix2 r ⟨128 * 1 + l.val, by omega⟩) 1 (by simp) S256x128 (y 1) rfl rfl 128 rfl (ix2 r l)
      (fun b hb => match b with | ⟨0, _⟩ => rfl | ⟨1, _⟩ => absurd rfl hb) (show 128 * 1 + l.val = 128 + l.val by omega)
  | ⟨2, _⟩ => concatenate_apply_piece (t := S256x512) 1 [⟨S256x128, y 0⟩, ⟨S256x128, y 1⟩, ⟨S256x128, y 2⟩, ⟨S256x128, y 3⟩] _ (ix2 r ⟨128 * 2 + l.val, by omega⟩) 2 (by simp) S256x128 (y 2) rfl rfl 256 rfl (ix2 r l)
      (fun b hb => match b with | ⟨0, _⟩ => rfl | ⟨1, _⟩ => absurd rfl hb) (show 128 * 2 + l.val = 256 + l.val by omega)
  | ⟨3, _⟩ => concatenate_apply_piece (t := S256x512) 1 [⟨S256x128, y 0⟩, ⟨S256x128, y 1⟩, ⟨S256x128, y 2⟩, ⟨S256x128, y 3⟩] _ (ix2 r ⟨128 * 3 + l.val, by omega⟩) 3 (by simp) S256x128 (y 3) rfl rfl 384 rfl (ix2 r l)
      (fun b hb => match b with | ⟨0, _⟩ => rfl | ⟨1, _⟩ => absurd rfl hb) (show 128 * 3 + l.val = 384 + l.val by omega)

/-- The gate's product: row `r`, column `c`, by the weights of the column's group of 64. -/
theorem joined_apply (x : FVec Ideal S256x512 .f32) (W0 W1 W2 W3 W4 W5 W6 W7 : FVec Ideal S1x256x256 .bf16) (w : Fin 8 → Fin 256 → Fin 256 → EReal)
    (h0 : ∀ r s, W0 (ix3 0 r s) = w 0 r s) (h1 : ∀ r s, W1 (ix3 0 r s) = w 1 r s) (h2 : ∀ r s, W2 (ix3 0 r s) = w 2 r s) (h3 : ∀ r s, W3 (ix3 0 r s) = w 3 r s)
    (h4 : ∀ r s, W4 (ix3 0 r s) = w 4 r s) (h5 : ∀ r s, W5 (ix3 0 r s) = w 5 r s) (h6 : ∀ r s, W6 (ix3 0 r s) = w 6 r s) (h7 : ∀ r s, W7 (ix3 0 r s) = w 7 r s)
    (r : Fin 256) (c : Fin 512) :
    joined x W0 W1 W2 W3 W4 W5 W6 W7 (ix2 r c) = ∑ s : Fin 256, (if near r s then w ⟨c.val / 64, by omega⟩ r s else 0) * x (ix2 s c) := by
  have key : ∀ (j : Fin 4) (l : Fin 128), joined x W0 W1 W2 W3 W4 W5 W6 W7 (ix2 r ⟨128 * j.val + l.val, by omega⟩)
      = ∑ s : Fin 256, (if near r s then w ⟨(128 * j.val + l.val) / 64, by omega⟩ r s else 0) * x (ix2 s ⟨128 * j.val + l.val, by omega⟩) := by
    intro j l
    rw [joined_eq]
    refine (join_at ![_, _, _, _] r j l).trans ?_
    have pick : ∀ (a b g : Fin 8) (p q : EReal), a.val = 2 * j.val → b.val = 2 * j.val + 1 → g.val = (128 * j.val + l.val) / 64 →
        ∀ s, (if l.val < 64 then w a r s else w b r s) = w g r s := by
      intro a b g p q ha hb hg s
      have hl := l.isLt
      by_cases h : l.val < 64
      · rw [if_pos h, show a = g from Fin.ext (by omega)]
      · rw [if_neg h, show b = g from Fin.ext (by omega)]
    match j with
    | ⟨0, _⟩ =>
      refine (tile_apply W0 W1 _ r l).trans (Finset.sum_congr rfl fun s _ => ?_)
      rw [h0, h1, pick 0 1 ⟨(128 * 0 + l.val) / 64, by omega⟩ 0 0 rfl rfl rfl s, cols_apply ![0, 0] x _ 0 (by omega) rfl]
    | ⟨1, _⟩ =>
      refine (tile_apply W2 W3 _ r l).trans (Finset.sum_congr rfl fun s _ => ?_)
      rw [h2, h3, pick 2 3 ⟨(128 * 1 + l.val) / 64, by omega⟩ 0 0 rfl rfl rfl s, cols_apply ![0, 128] x _ 1 (by omega) rfl]
    | ⟨2, _⟩ =>
      refine (tile_apply W4 W5 _ r l).trans (Finset.sum_congr rfl fun s _ => ?_)
      rw [h4, h5, pick 4 5 ⟨(128 * 2 + l.val) / 64, by omega⟩ 0 0 rfl rfl rfl s, cols_apply ![0, 256] x _ 2 (by omega) rfl]
    | ⟨3, _⟩ =>
      refine (tile_apply W6 W7 _ r l).trans (Finset.sum_congr rfl fun s _ => ?_)
      rw [h6, h7, pick 6 7 ⟨(128 * 3 + l.val) / 64, by omega⟩ 0 0 rfl rfl rfl s, cols_apply ![0, 384] x _ 3 (by omega) rfl]
  have hc := c.isLt
  have e : c = ⟨128 * (⟨c.val / 128, by omega⟩ : Fin 4).val + (⟨c.val % 128, by omega⟩ : Fin 128).val, by show 128 * (c.val / 128) + c.val % 128 < 512; omega⟩ :=
    Fin.ext (by show c.val = 128 * (c.val / 128) + c.val % 128; omega)
  have k := key ⟨c.val / 128, by omega⟩ ⟨c.val % 128, by omega⟩
  generalize hd : (⟨128 * (⟨c.val / 128, by omega⟩ : Fin 4).val + (⟨c.val % 128, by omega⟩ : Fin 128).val, by show 128 * (c.val / 128) + c.val % 128 < 512; omega⟩ : Fin 512) = d at k
  have hdc : d = c := hd.symm.trans e.symm
  subst hdc
  refine k.trans (Finset.sum_congr rfl fun s _ => ?_)
  congr 3
  exact Fin.ext (by show (128 * (d.val / 128) + d.val % 128) / 64 = d.val / 64; omega)

/-! ## The projections and the sum -/

/-- The gated sum of the branches' projections. -/
theorem mixed_apply (sp : FVec Ideal S256x512 .f32) (bt : FVec Ideal S256x512 .f32) (u : FVec Ideal S256x512 .bf16) (o0 o2 : FVec Ideal S256x512 .f32)
    (w0 : FVec Ideal S1x512x1024 .bf16) (g0 : FVec Ideal S256x1024 .f32) (w1 : FVec Ideal S1x512x1024 .bf16) (g1 : FVec Ideal S256x1024 .f32)
    (w2 : FVec Ideal S1x512x1024 .bf16) (g2 : FVec Ideal S256x1024 .f32) (r : Fin 256) (k : Fin 1024) :
    k0_pay10 (F := Ideal) sp bt u o0 o2 w0 g0 w1 g1 w2 g2 (ix2 r k)
      = (∑ w : Fin 512, o0 (ix2 r w) * w0 (ix3 0 w k)) * g0 (ix2 r k)
        + (∑ w : Fin 512, u (ix2 r w) * (sp (ix2 r w) + bt (ix2 r w)) * w1 (ix3 0 w k)) * g1 (ix2 r k)
        + (∑ w : Fin 512, o2 (ix2 r w) * w2 (ix3 0 w k)) * g2 (ix2 r k) := by
  unfold k0_pay10
  pointwise

/-- The residual plus the gated sum's projection. -/
theorem total_apply (h : FVec Ideal S256x1024 .f32) (x : FVec Ideal S256x1024 .bf16) (wo : FVec Ideal S1024x1024 .bf16) (r : Fin 256) (d : Fin 1024) :
    k0_pay1 (F := Ideal) h x (k0_pay11 wo) (ix2 r d) = h (ix2 r d) + ∑ k : Fin 1024, x (ix2 r k) * wo (ix2 k d) := by
  unfold k0_pay1 k0_pay11
  pointwise

end Cert.KernelMixIdeal.Value

end
-- ==== Proof.Mix.Kernel.lean ====
/- The array that the mix leaves, entry by entry, from the arguments. -/
module

public import proofs.«01_k».proof.Proof.Gen.KernelMixIdeal.Frame
public import proofs.«01_k».proof.Proof.Mix.Body
public import Idealize.ShloMosaic.Lib.ValueIdxRank6

@[expose] public section

set_option maxRecDepth 16384
set_option maxHeartbeats 400000

noncomputable section

namespace Cert.Mix

open Idealize.ShloMosaic

/-- The gate's causal product within a row's group of 128, plus its bias. -/
def spatial (v : Fin 16384 → Fin 512 → EReal) (w : Fin 8 → Fin 128 → Fin 128 → EReal) (b : Fin 8 → Fin 128 → EReal) (t : Fin 16384) (c : Fin 512) : EReal :=
  (∑ s : Fin 128, (if s.val ≤ t.val % 128 then w ⟨c.val / 64, by omega⟩ ⟨t.val % 128, by omega⟩ s else 0) * v ⟨128 * (t.val / 128) + s.val, by omega⟩ c)
    + b ⟨c.val / 64, by omega⟩ ⟨t.val % 128, by omega⟩

/-- The gated sum of the three branches' projections. -/
def mixed (o0 o2 u : Fin 16384 → Fin 512 → EReal) (sp : Fin 16384 → Fin 512 → EReal) (g : Fin 16384 → Fin 3072 → EReal) (wb : Fin 3 → Fin 512 → Fin 1024 → EReal)
    (t : Fin 16384) (k : Fin 1024) : EReal :=
  (∑ w : Fin 512, o0 t w * wb 0 w k) * g t ⟨k.val, by omega⟩
    + (∑ w : Fin 512, u t w * sp t w * wb 1 w k) * g t ⟨1024 + k.val, by omega⟩
    + (∑ w : Fin 512, o2 t w * wb 2 w k) * g t ⟨2048 + k.val, by omega⟩

/-- The residual plus the gated sum's projection. -/
def total (h : Fin 16384 → Fin 1024 → EReal) (x : Fin 16384 → Fin 1024 → EReal) (wo : Fin 1024 → Fin 1024 → EReal) (t : Fin 16384) (d : Fin 1024) : EReal :=
  h t d + ∑ k : Fin 1024, x t k * wo k d

end Cert.Mix

namespace Cert.KernelMixIdeal.Value

open Cert.KernelMixIdeal Cert.KernelMixIdeal.Gen Cert.Mix
open Idealize.ShloMosaic Idealize.ShloMosaic.TcCoe Idealize.ShloMosaic.Tactic

variable (m : (ℓ : Loc nD τ sig) → Buf (Elt Ideal) ℓ) (c : Dev nD)

/-! ## The arguments and what the host leaves -/

/-- The residual. -/
def H : FVec Ideal S16384x1024 .f32 := m ((c : Thread nD τ).loc main_arg0)
/-- The attention's output. -/
def Osb : FVec Ideal S16384x512 .f32 := m ((c : Thread nD τ).loc main_arg1)
/-- The memory attention's output. -/
def Omem : FVec Ideal S16384x512 .f32 := m ((c : Thread nD τ).loc main_arg2)
/-- The spatial gate's left half. -/
def U : FVec Ideal S16384x512 .bf16 := m ((c : Thread nD τ).loc main_arg3)
/-- The spatial gate's normalized right half. -/
def Vn : FVec Ideal S16384x512 .f32 := m ((c : Thread nD τ).loc main_arg4)
/-- The branches' gates. -/
def Gt : FVec Ideal S16384x3072 .f32 := m ((c : Thread nD τ).loc main_arg5)
/-- The spatial gate's weights. -/
def Sw : FVec Ideal S8x128x128 .f32 := m ((c : Thread nD τ).loc main_arg6)
/-- The spatial gate's biases. -/
def Sb : FVec Ideal S8x128 .f32 := m ((c : Thread nD τ).loc main_arg7)
/-- The branches' projections. -/
def Wb : FVec Ideal S3x512x1024 .f32 := m ((c : Thread nD τ).loc main_arg8)
/-- The output's projection. -/
def Wo : FVec Ideal S1024x1024 .f32 := m ((c : Thread nD τ).loc main_arg9)

/-- The gate's weights as the host lays them out. -/
def hw : FVec Ideal S8x256x256 .bf16 := V (F := Ideal) m c main_v3
/-- The gate's biases as the host lays them out. -/
def hb : FVec Ideal S256x512 .f32 := V (F := Ideal) m c main_v9
/-- The branches' projections as the host leaves them. -/
def hbr : FVec Ideal S3x512x1024 .bf16 := V (F := Ideal) m c main_v10
/-- The output's projection as the host leaves it. -/
def ho : FVec Ideal S1024x1024 .bf16 := V (F := Ideal) m c main_v11

/-- The weights' layout: each group's matrix twice along rows and columns. -/
theorem lay_weights {α : Type} (x : S8x128x128.Idx → α) (g : Fin 8) (r s : Fin 256) :
    shapeCast S8x256x256 (broadcastInDim S1x8x2x128x2x128 ![0, 1, 2, 3, 4, 5] bcast_S1x8x1x128x1x128_S1x8x2x128x2x128_0_1_2_3_4_5
      (shapeCast S1x8x1x128x1x128 x shapeCasts_S8x128x128_S1x8x1x128x1x128)) shapeCasts_S1x8x2x128x2x128_S8x256x256 (ix3 g r s)
      = x (ix3 g ⟨r.val % 128, by omega⟩ ⟨s.val % 128, by omega⟩) := by
  have hr := r.isLt
  have hs := s.isLt
  generalize hy : shapeCast S1x8x1x128x1x128 x shapeCasts_S8x128x128_S1x8x1x128x1x128 = y
  generalize hz : broadcastInDim S1x8x2x128x2x128 ![0, 1, 2, 3, 4, 5] bcast_S1x8x1x128x1x128_S1x8x2x128x2x128_0_1_2_3_4_5 y = z
  have e1 : shapeCast S8x256x256 z shapeCasts_S1x8x2x128x2x128_S8x256x256 (ix3 g r s)
      = z (ix6 (0 : Fin 1) g (⟨r.val / 128, by omega⟩ : Fin 2) (⟨r.val % 128, by omega⟩ : Fin 128) (⟨s.val / 128, by omega⟩ : Fin 2) (⟨s.val % 128, by omega⟩ : Fin 128)) := by
    refine shapeCast_apply _ _ _ _ ?_
    rw [Shape.rowMajor_val_three, Shape.rowMajor_val_six]
    show ((((0 * 8 + g.val) * 2 + r.val / 128) * 128 + r.val % 128) * 2 + s.val / 128) * 128 + s.val % 128 = (g.val * 256 + r.val) * 256 + s.val
    omega
  rw [e1, ← hz]
  have e2 : broadcastInDim S1x8x2x128x2x128 ![0, 1, 2, 3, 4, 5] bcast_S1x8x1x128x1x128_S1x8x2x128x2x128_0_1_2_3_4_5 y
      (ix6 (0 : Fin 1) g (⟨r.val / 128, by omega⟩ : Fin 2) (⟨r.val % 128, by omega⟩ : Fin 128) (⟨s.val / 128, by omega⟩ : Fin 2) (⟨s.val % 128, by omega⟩ : Fin 128))
      = y (ix6 (0 : Fin 1) g (0 : Fin 1) (⟨r.val % 128, by omega⟩ : Fin 128) (0 : Fin 1) (⟨s.val % 128, by omega⟩ : Fin 128)) := by
    refine broadcastInDim_apply _ _ _ _ _ fun a => ?_
    match a with
    | ⟨0, _⟩ => rfl
    | ⟨1, _⟩ => rfl
    | ⟨2, _⟩ => rfl
    | ⟨3, _⟩ => rfl
    | ⟨4, _⟩ => rfl
    | ⟨5, _⟩ => rfl
  rw [e2, ← hy]
  refine shapeCast_apply _ _ _ _ ?_
  rw [Shape.rowMajor_val_three, Shape.rowMajor_val_six]
  show (g.val * 128 + r.val % 128) * 128 + s.val % 128 = ((((0 * 8 + g.val) * 1 + 0) * 128 + r.val % 128) * 1 + 0) * 128 + s.val % 128
  omega

/-- The biases' layout: each group's bias over its 64 columns, twice along the rows. -/
theorem lay_biases {α : Type} (x : S8x128.Idx → α) (r : Fin 256) (w : Fin 512) :
    shapeCast S256x512 (broadcastInDim S2x128x1x512 ![0, 1, 2, 3] bcast_S1x128x1x512_S2x128x1x512_0_1_2_3
      (shapeCast S1x128x1x512 (shapeCast S128x512 (broadcastInDim S128x8x64 ![0, 1] bcast_S128x8_S128x8x64_0_1
        (transpose S128x8 [1, 0] x transposes_S8x128_S128x8_1_0)) shapeCasts_S128x8x64_S128x512) shapeCasts_S128x512_S1x128x1x512)) shapeCasts_S2x128x1x512_S256x512 (ix2 r w)
      = x (ix2 ⟨w.val / 64, by omega⟩ ⟨r.val % 128, by omega⟩) := by
  have hr := r.isLt
  have hw := w.isLt
  generalize h1 : transpose S128x8 [1, 0] x transposes_S8x128_S128x8_1_0 = y1
  generalize h2 : broadcastInDim S128x8x64 ![0, 1] bcast_S128x8_S128x8x64_0_1 y1 = y2
  generalize h3 : shapeCast S128x512 y2 shapeCasts_S128x8x64_S128x512 = y3
  generalize h4 : shapeCast S1x128x1x512 y3 shapeCasts_S128x512_S1x128x1x512 = y4
  generalize h5 : broadcastInDim S2x128x1x512 ![0, 1, 2, 3] bcast_S1x128x1x512_S2x128x1x512_0_1_2_3 y4 = y5
  have e5 : shapeCast S256x512 y5 shapeCasts_S2x128x1x512_S256x512 (ix2 r w)
      = y5 (ix4 (⟨r.val / 128, by omega⟩ : Fin 2) (⟨r.val % 128, by omega⟩ : Fin 128) (0 : Fin 1) w) := by
    refine shapeCast_apply _ _ _ _ ?_
    rw [Shape.rowMajor_val_two, Shape.rowMajor_val_four]
    show ((r.val / 128 * 128 + r.val % 128) * 1 + 0) * 512 + w.val = r.val * 512 + w.val
    omega
  have e4 : y5 (ix4 (⟨r.val / 128, by omega⟩ : Fin 2) (⟨r.val % 128, by omega⟩ : Fin 128) (0 : Fin 1) w)
      = y4 (ix4 (0 : Fin 1) (⟨r.val % 128, by omega⟩ : Fin 128) (0 : Fin 1) w) := by
    rw [← h5]
    refine broadcastInDim_apply _ _ _ _ _ fun a => ?_
    match a with
    | ⟨0, _⟩ => rfl
    | ⟨1, _⟩ => rfl
    | ⟨2, _⟩ => rfl
    | ⟨3, _⟩ => rfl
  have e3 : y4 (ix4 (0 : Fin 1) (⟨r.val % 128, by omega⟩ : Fin 128) (0 : Fin 1) w) = y3 (ix2 (⟨r.val % 128, by omega⟩ : Fin 128) w) := by
    rw [← h4]
    refine shapeCast_apply _ _ _ _ ?_
    rw [Shape.rowMajor_val_two, Shape.rowMajor_val_four]
    show r.val % 128 * 512 + w.val = ((0 * 128 + r.val % 128) * 1 + 0) * 512 + w.val
    omega
  have e2 : y3 (ix2 (⟨r.val % 128, by omega⟩ : Fin 128) w)
      = y2 (ix3 (⟨r.val % 128, by omega⟩ : Fin 128) (⟨w.val / 64, by omega⟩ : Fin 8) (⟨w.val % 64, by omega⟩ : Fin 64)) := by
    rw [← h3]
    refine shapeCast_apply _ _ _ _ ?_
    rw [Shape.rowMajor_val_two, Shape.rowMajor_val_three]
    show (r.val % 128 * 8 + w.val / 64) * 64 + w.val % 64 = r.val % 128 * 512 + w.val
    omega
  have e1 : y2 (ix3 (⟨r.val % 128, by omega⟩ : Fin 128) (⟨w.val / 64, by omega⟩ : Fin 8) (⟨w.val % 64, by omega⟩ : Fin 64))
      = y1 (ix2 (⟨r.val % 128, by omega⟩ : Fin 128) (⟨w.val / 64, by omega⟩ : Fin 8)) := by
    rw [← h2]
    refine broadcastInDim_apply _ _ _ _ _ fun a => ?_
    match a with
    | ⟨0, _⟩ => rfl
    | ⟨1, _⟩ => rfl
  rw [e5, e4, e3, e2, e1, ← h1]
  pointwise

theorem hw_eq : hw m c = shapeCast S8x256x256 (broadcastInDim S1x8x2x128x2x128 ![0, 1, 2, 3, 4, 5] bcast_S1x8x1x128x1x128_S1x8x2x128x2x128_0_1_2_3_4_5
      (shapeCast S1x8x1x128x1x128 (truncf .bf16 (Sw m c) bitsLt_bf16_f32 : FVec Ideal S8x128x128 .bf16) shapeCasts_S8x128x128_S1x8x1x128x1x128)) shapeCasts_S1x8x2x128x2x128_S8x256x256 := rfl

theorem hb_eq : hb m c = shapeCast S256x512 (broadcastInDim S2x128x1x512 ![0, 1, 2, 3] bcast_S1x128x1x512_S2x128x1x512_0_1_2_3
      (shapeCast S1x128x1x512 (shapeCast S128x512 (broadcastInDim S128x8x64 ![0, 1] bcast_S128x8_S128x8x64_0_1
        (transpose S128x8 [1, 0] (Sb m c) transposes_S8x128_S128x8_1_0)) shapeCasts_S128x8x64_S128x512) shapeCasts_S128x512_S1x128x1x512)) shapeCasts_S2x128x1x512_S256x512 := rfl

theorem hw_apply (g : Fin 8) (r s : Fin 256) : @Eq EReal (hw m c (ix3 g r s)) (Sw m c (ix3 g ⟨r.val % 128, by omega⟩ ⟨s.val % 128, by omega⟩)) := by
  rw [hw_eq]
  exact lay_weights _ g r s

theorem hb_apply (r : Fin 256) (w : Fin 512) : hb m c (ix2 r w) = Sb m c (ix2 ⟨w.val / 64, by omega⟩ ⟨r.val % 128, by omega⟩) := by
  rw [hb_eq]
  exact lay_biases _ r w

theorem hbr_apply (l : Fin 3) (w : Fin 512) (k : Fin 1024) : @Eq EReal (hbr m c (ix3 l w k)) (Wb m c (ix3 l w k)) := by
  have hv : hbr m c = (truncf .bf16 (Wb m c) bitsLt_bf16_f32 : FVec Ideal S3x512x1024 .bf16) := rfl
  rw [hv]
  rfl

theorem ho_apply (k d : Fin 1024) : @Eq EReal (ho m c (ix2 k d)) (Wo m c (ix2 k d)) := by
  have hv : ho m c = (truncf .bf16 (Wo m c) bitsLt_bf16_f32 : FVec Ideal S1024x1024 .bf16) := rfl
  rw [hv]
  rfl

/-! ## The blocks -/

/-- A window of rows: its block is the grid point. -/
theorem idx_rows : ∀ t : Fin grid0.N, (grid0.coords t 0).val = t.val ∧ win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_10.index t = ![t.val, 0] := by
  decide +kernel

/-- A window over a whole array. -/
theorem idx_whole : ∀ t : Fin grid0.N, win0_6.index t = ![0, 0, 0] ∧ win0_7.index t = ![0, 0] ∧ win0_8.index t = ![0, 0, 0] ∧ win0_9.index t = ![0, 0] := by
  decide +kernel

/-- The row of a grid point's `r`-th row. -/
def row (t : Fin cfg0.N) (r : Fin 256) : Fin 16384 := ⟨256 * t.val + r.val, by have ht : t.val < 64 := t.isLt; have hr := r.isLt; omega⟩

def b0 (t : Fin cfg0.N) : FVec Ideal S256x1024 .f32 := iblk (F := Ideal) m c 0 t
def b1 (t : Fin cfg0.N) : FVec Ideal S256x512 .f32 := iblk (F := Ideal) m c 1 t
def b2 (t : Fin cfg0.N) : FVec Ideal S256x512 .f32 := iblk (F := Ideal) m c 2 t
def b3 (t : Fin cfg0.N) : FVec Ideal S256x512 .bf16 := iblk (F := Ideal) m c 3 t
def b4 (t : Fin cfg0.N) : FVec Ideal S256x512 .f32 := iblk (F := Ideal) m c 4 t
def b5 (t : Fin cfg0.N) : FVec Ideal S256x3072 .f32 := iblk (F := Ideal) m c 5 t
def b6 (t : Fin cfg0.N) : FVec Ideal S8x256x256 .bf16 := iblk (F := Ideal) m c 6 t
def b7 (t : Fin cfg0.N) : FVec Ideal S256x512 .f32 := iblk (F := Ideal) m c 7 t
def b8 (t : Fin cfg0.N) : FVec Ideal S3x512x1024 .bf16 := iblk (F := Ideal) m c 8 t
def b9 (t : Fin cfg0.N) : FVec Ideal S1024x1024 .bf16 := iblk (F := Ideal) m c 9 t

theorem b0_apply (t : Fin cfg0.N) (r : Fin 256) (e : Fin 1024) : b0 m c t (ix2 r e) = H m c (ix2 (row t r) e) := by
  unfold b0 iblk
  rw [View.read_apply]
  have hV : V (F := Ideal) m c main_arg0 = H m c := V_main_arg0 m c
  refine Eq.trans ?_ (congrFun hV _)
  refine congrArg (V (F := Ideal) m c main_arg0) (funext fun a => Fin.ext ?_)
  refine (Pipeline.Window.rect_emb_val (cfg0.win 0) t _ a).trans ?_
  rw [show (cfg0.win 0).index t = _ from (idx_rows t).2.1]
  match a with
  | ⟨0, _⟩ => show t.val * 256 + r.val = 256 * t.val + r.val; omega
  | ⟨1, _⟩ => show 0 * 1024 + e.val = e.val; omega

theorem b1_apply (t : Fin cfg0.N) (r : Fin 256) (e : Fin 512) : b1 m c t (ix2 r e) = Osb m c (ix2 (row t r) e) := by
  unfold b1 iblk
  rw [View.read_apply]
  have hV : V (F := Ideal) m c main_arg1 = Osb m c := V_main_arg1 m c
  refine Eq.trans ?_ (congrFun hV _)
  refine congrArg (V (F := Ideal) m c main_arg1) (funext fun a => Fin.ext ?_)
  refine (Pipeline.Window.rect_emb_val (cfg0.win 1) t _ a).trans ?_
  rw [show (cfg0.win 1).index t = _ from (idx_rows t).2.2.1]
  match a with
  | ⟨0, _⟩ => show t.val * 256 + r.val = 256 * t.val + r.val; omega
  | ⟨1, _⟩ => show 0 * 512 + e.val = e.val; omega

theorem b2_apply (t : Fin cfg0.N) (r : Fin 256) (e : Fin 512) : b2 m c t (ix2 r e) = Omem m c (ix2 (row t r) e) := by
  unfold b2 iblk
  rw [View.read_apply]
  have hV : V (F := Ideal) m c main_arg2 = Omem m c := V_main_arg2 m c
  refine Eq.trans ?_ (congrFun hV _)
  refine congrArg (V (F := Ideal) m c main_arg2) (funext fun a => Fin.ext ?_)
  refine (Pipeline.Window.rect_emb_val (cfg0.win 2) t _ a).trans ?_
  rw [show (cfg0.win 2).index t = _ from (idx_rows t).2.2.2.1]
  match a with
  | ⟨0, _⟩ => show t.val * 256 + r.val = 256 * t.val + r.val; omega
  | ⟨1, _⟩ => show 0 * 512 + e.val = e.val; omega

theorem b3_apply (t : Fin cfg0.N) (r : Fin 256) (e : Fin 512) : b3 m c t (ix2 r e) = U m c (ix2 (row t r) e) := by
  unfold b3 iblk
  rw [View.read_apply]
  have hV : V (F := Ideal) m c main_arg3 = U m c := V_main_arg3 m c
  refine Eq.trans ?_ (congrFun hV _)
  refine congrArg (V (F := Ideal) m c main_arg3) (funext fun a => Fin.ext ?_)
  refine (Pipeline.Window.rect_emb_val (cfg0.win 3) t _ a).trans ?_
  rw [show (cfg0.win 3).index t = _ from (idx_rows t).2.2.2.2.1]
  match a with
  | ⟨0, _⟩ => show t.val * 256 + r.val = 256 * t.val + r.val; omega
  | ⟨1, _⟩ => show 0 * 512 + e.val = e.val; omega

theorem b4_apply (t : Fin cfg0.N) (r : Fin 256) (e : Fin 512) : b4 m c t (ix2 r e) = Vn m c (ix2 (row t r) e) := by
  unfold b4 iblk
  rw [View.read_apply]
  have hV : V (F := Ideal) m c main_arg4 = Vn m c := V_main_arg4 m c
  refine Eq.trans ?_ (congrFun hV _)
  refine congrArg (V (F := Ideal) m c main_arg4) (funext fun a => Fin.ext ?_)
  refine (Pipeline.Window.rect_emb_val (cfg0.win 4) t _ a).trans ?_
  rw [show (cfg0.win 4).index t = _ from (idx_rows t).2.2.2.2.2.1]
  match a with
  | ⟨0, _⟩ => show t.val * 256 + r.val = 256 * t.val + r.val; omega
  | ⟨1, _⟩ => show 0 * 512 + e.val = e.val; omega

theorem b5_apply (t : Fin cfg0.N) (r : Fin 256) (e : Fin 3072) : b5 m c t (ix2 r e) = Gt m c (ix2 (row t r) e) := by
  unfold b5 iblk
  rw [View.read_apply]
  have hV : V (F := Ideal) m c main_arg5 = Gt m c := V_main_arg5 m c
  refine Eq.trans ?_ (congrFun hV _)
  refine congrArg (V (F := Ideal) m c main_arg5) (funext fun a => Fin.ext ?_)
  refine (Pipeline.Window.rect_emb_val (cfg0.win 5) t _ a).trans ?_
  rw [show (cfg0.win 5).index t = _ from (idx_rows t).2.2.2.2.2.2.1]
  match a with
  | ⟨0, _⟩ => show t.val * 256 + r.val = 256 * t.val + r.val; omega
  | ⟨1, _⟩ => show 0 * 3072 + e.val = e.val; omega

theorem b6_apply (t : Fin cfg0.N) (g : Fin 8) (r s : Fin 256) : b6 m c t (ix3 g r s) = hw m c (ix3 g r s) := by
  unfold b6 iblk
  rw [View.read_apply]
  refine congrArg (hw m c) (funext fun a => Fin.ext ?_)
  refine (Pipeline.Window.rect_emb_val (cfg0.win 6) t _ a).trans ?_
  rw [show (cfg0.win 6).index t = _ from (idx_whole t).1]
  match a with
  | ⟨0, _⟩ => show 0 * 8 + g.val = g.val; omega
  | ⟨1, _⟩ => show 0 * 256 + r.val = r.val; omega
  | ⟨2, _⟩ => show 0 * 256 + s.val = s.val; omega

theorem b7_apply (t : Fin cfg0.N) (r : Fin 256) (w : Fin 512) : b7 m c t (ix2 r w) = hb m c (ix2 r w) := by
  unfold b7 iblk
  rw [View.read_apply]
  refine congrArg (hb m c) (funext fun a => Fin.ext ?_)
  refine (Pipeline.Window.rect_emb_val (cfg0.win 7) t _ a).trans ?_
  rw [show (cfg0.win 7).index t = _ from (idx_whole t).2.1]
  match a with
  | ⟨0, _⟩ => show 0 * 256 + r.val = r.val; omega
  | ⟨1, _⟩ => show 0 * 512 + w.val = w.val; omega

theorem b8_apply (t : Fin cfg0.N) (l : Fin 3) (w : Fin 512) (k : Fin 1024) : b8 m c t (ix3 l w k) = hbr m c (ix3 l w k) := by
  unfold b8 iblk
  rw [View.read_apply]
  refine congrArg (hbr m c) (funext fun a => Fin.ext ?_)
  refine (Pipeline.Window.rect_emb_val (cfg0.win 8) t _ a).trans ?_
  rw [show (cfg0.win 8).index t = _ from (idx_whole t).2.2.1]
  match a with
  | ⟨0, _⟩ => show 0 * 3 + l.val = l.val; omega
  | ⟨1, _⟩ => show 0 * 512 + w.val = w.val; omega
  | ⟨2, _⟩ => show 0 * 1024 + k.val = k.val; omega

theorem b9_apply (t : Fin cfg0.N) (k d : Fin 1024) : b9 m c t (ix2 k d) = ho m c (ix2 k d) := by
  unfold b9 iblk
  rw [View.read_apply]
  refine congrArg (ho m c) (funext fun a => Fin.ext ?_)
  refine (Pipeline.Window.rect_emb_val (cfg0.win 9) t _ a).trans ?_
  rw [show (cfg0.win 9).index t = _ from (idx_whole t).2.2.2]
  match a with
  | ⟨0, _⟩ => show 0 * 1024 + k.val = k.val; omega
  | ⟨1, _⟩ => show 0 * 1024 + d.val = d.val; omega

/-! ## The block that a grid point writes back -/

/-- The mix's output, from the arguments. -/
def out (t : Fin 16384) (d : Fin 1024) : EReal :=
  total (fun t d => H m c (ix2 t d))
    (mixed (fun t w => Osb m c (ix2 t w)) (fun t w => Omem m c (ix2 t w)) (fun t w => U m c (ix2 t w))
      (spatial (fun t w => Vn m c (ix2 t w)) (fun g r s => Sw m c (ix3 g r s)) (fun g r => Sb m c (ix2 g r)))
      (fun t k => Gt m c (ix2 t k)) (fun l w k => Wb m c (ix3 l w k)))
    (fun k d => Wo m c (ix2 k d)) t d

/-- The block that a grid point writes back. -/
def outb (t : Fin cfg0.N) : FVec Ideal S256x1024 .f32 :=
  out0_10 (F := Ideal) (b0 m c t) (b1 m c t) (b2 m c t) (b3 m c t) (b4 m c t) (b5 m c t) (b6 m c t) (b7 m c t) (b8 m c t) (b9 m c t)

theorem after_eq (t : Fin cfg0.N) : (dats (F := Ideal) m 0 c).after 10 t = outb m c t := after0_10 m c t

/-- A sum over 256 rows that only keeps the rows near `r` is the sum over `r`'s group of 128 up to `r`. -/
theorem sum_near (r : Fin 256) (f : Fin 256 → EReal) (g : Fin 256 → EReal) :
    (∑ s : Fin 256, (if near r s then f s else 0) * g s)
      = ∑ s : Fin 128, (if s.val ≤ r.val % 128 then f ⟨128 * (r.val / 128) + s.val, by omega⟩ else 0) * g ⟨128 * (r.val / 128) + s.val, by omega⟩ := by
  have hr := r.isLt
  refine (Fin.sum_univ_add (a := 128) (b := 128) fun s : Fin (128 + 128) => (if near r s then f s else 0) * g s).trans ?_
  by_cases h : r.val < 128
  · have z : ∀ s : Fin 128, (if near r (Fin.natAdd 128 s) then f (Fin.natAdd 128 s) else 0) * g (Fin.natAdd 128 s) = 0 := by
      intro s
      have hs := s.isLt
      rw [if_neg, zero_mul]
      rintro ⟨h1, h2⟩
      have h1' : 128 + s.val ≤ r.val := h1
      omega
    rw [Finset.sum_congr rfl fun s _ => z s, Finset.sum_const_zero, add_zero]
    refine Finset.sum_congr rfl fun s _ => ?_
    have hs := s.isLt
    have e : (Fin.castAdd 128 s : Fin 256) = ⟨128 * (r.val / 128) + s.val, by omega⟩ := Fin.ext (by show s.val = 128 * (r.val / 128) + s.val; omega)
    have c : near r (Fin.castAdd 128 s : Fin 256) ↔ s.val ≤ r.val % 128 := by
      unfold near
      show s.val ≤ r.val ∧ r.val / 128 = s.val / 128 ↔ _
      omega
    rw [e] at c ⊢
    by_cases q : s.val ≤ r.val % 128
    · rw [if_pos q, if_pos (c.mpr q)]
    · rw [if_neg q, if_neg (mt c.mp q)]
  · have z : ∀ s : Fin 128, (if near r (Fin.castAdd 128 s) then f (Fin.castAdd 128 s) else 0) * g (Fin.castAdd 128 s) = 0 := by
      intro s
      have hs := s.isLt
      rw [if_neg, zero_mul]
      rintro ⟨h1, h2⟩
      have h2' : r.val / 128 = s.val / 128 := h2
      omega
    rw [Finset.sum_congr rfl fun s _ => z s, Finset.sum_const_zero, zero_add]
    refine Finset.sum_congr rfl fun s _ => ?_
    have hs := s.isLt
    have e : (Fin.natAdd 128 s : Fin 256) = ⟨128 * (r.val / 128) + s.val, by omega⟩ := Fin.ext (by show 128 + s.val = 128 * (r.val / 128) + s.val; omega)
    have c : near r (Fin.natAdd 128 s : Fin 256) ↔ s.val ≤ r.val % 128 := by
      unfold near
      show 128 + s.val ≤ r.val ∧ r.val / 128 = (128 + s.val) / 128 ↔ _
      omega
    rw [e] at c ⊢
    by_cases q : s.val ≤ r.val % 128
    · rw [if_pos q, if_pos (c.mpr q)]
    · rw [if_neg q, if_neg (mt c.mp q)]

/-- The gate of a grid point's rows. -/
theorem spatial_eq (t : Fin cfg0.N) (r : Fin 256) (w : Fin 512) :
    (∑ s : Fin 256, (if near r s then b6 m c t (ix3 ⟨w.val / 64, by omega⟩ r s) else 0) * b4 m c t (ix2 s w)) + b7 m c t (ix2 r w)
      = spatial (fun t w => Vn m c (ix2 t w)) (fun g r s => Sw m c (ix3 g r s)) (fun g r => Sb m c (ix2 g r)) (row t r) w := by
  have ht : t.val < 64 := t.isLt
  have hr := r.isLt
  have hm : (row t r).val % 128 = r.val % 128 := by show (256 * t.val + r.val) % 128 = r.val % 128; omega
  have hd : (row t r).val / 128 = 2 * t.val + r.val / 128 := by show (256 * t.val + r.val) / 128 = 2 * t.val + r.val / 128; omega
  rw [sum_near r (fun s => b6 m c t (ix3 ⟨w.val / 64, by omega⟩ r s)) (fun s => b4 m c t (ix2 s w))]
  unfold spatial
  refine congrArg₂ (· + ·) (Finset.sum_congr rfl fun s _ => ?_) ?_
  · have hs := s.isLt
    rw [b6_apply, b4_apply, hw_apply]
    refine congrArg₂ (· * ·) ?_ ?_
    · simp only [hm]
      have e : (⟨(128 * (r.val / 128) + s.val) % 128, by omega⟩ : Fin 128) = s := Fin.ext (by show (128 * (r.val / 128) + s.val) % 128 = s.val; omega)
      rw [e]
    · refine congrArg (Vn m c) (funext fun q => Fin.ext ?_)
      match q with
      | ⟨0, _⟩ => show 256 * t.val + (128 * (r.val / 128) + s.val) = 128 * ((row t r).val / 128) + s.val; rw [hd]; omega
      | ⟨1, _⟩ => rfl
  · rw [b7_apply, hb_apply]
    simp only [hm]

/-- A group's weights, loaded. -/
def lw (x : FVec Ideal S8x256x256 .bf16) (k : Fin 8) (inb : ∀ q, (![k.val, 0, 0] : Fin 3 → ℕ) q + S1x256x256.size q ≤ S8x256x256.size q) : FVec Ideal S1x256x256 .bf16 :=
  View.ld (Val := Elt Ideal) (e' := .bf16) x (Rect.unit (s := S8x256x256) ![k.val, 0, 0] S1x256x256.size inb)

theorem lw_apply (x : FVec Ideal S8x256x256 .bf16) (k : Fin 8) (inb : ∀ q, (![k.val, 0, 0] : Fin 3 → ℕ) q + S1x256x256.size q ≤ S8x256x256.size q) (i j : Fin 256) :
    lw x k inb (ix3 0 i j) = x (ix3 k i j) := by
  unfold lw
  refine congrArg x (funext fun q => Fin.ext ?_)
  match q with
  | ⟨0, _⟩ => show k.val + 1 * 0 = k.val; omega
  | ⟨1, _⟩ => show 0 + 1 * i.val = i.val; omega
  | ⟨2, _⟩ => show 0 + 1 * j.val = j.val; omega

/-- A branch's projection, loaded. -/
def lb (x : FVec Ideal S3x512x1024 .bf16) (k : Fin 3) (inb : ∀ q, (![k.val, 0, 0] : Fin 3 → ℕ) q + S1x512x1024.size q ≤ S3x512x1024.size q) : FVec Ideal S1x512x1024 .bf16 :=
  View.ld (Val := Elt Ideal) (e' := .bf16) x (Rect.unit (s := S3x512x1024) ![k.val, 0, 0] S1x512x1024.size inb)

theorem lb_apply (x : FVec Ideal S3x512x1024 .bf16) (k : Fin 3) (inb : ∀ q, (![k.val, 0, 0] : Fin 3 → ℕ) q + S1x512x1024.size q ≤ S3x512x1024.size q) (i : Fin 512) (j : Fin 1024) :
    lb x k inb (ix3 0 i j) = x (ix3 k i j) := by
  unfold lb
  refine congrArg x (funext fun q => Fin.ext ?_)
  match q with
  | ⟨0, _⟩ => show k.val + 1 * 0 = k.val; omega
  | ⟨1, _⟩ => show 0 + 1 * i.val = i.val; omega
  | ⟨2, _⟩ => show 0 + 1 * j.val = j.val; omega

/-- A branch's gates, loaded. -/
def lg (x : FVec Ideal S256x3072 .f32) (k : ℕ) (inb : ∀ q, (![0, k] : Fin 2 → ℕ) q + S256x1024.size q ≤ S256x3072.size q) : FVec Ideal S256x1024 .f32 :=
  View.ld (Val := Elt Ideal) (e' := .f32) x (Rect.unit (s := S256x3072) ![0, k] S256x1024.size inb)

theorem lg_apply (x : FVec Ideal S256x3072 .f32) (k : ℕ) (inb : ∀ q, (![0, k] : Fin 2 → ℕ) q + S256x1024.size q ≤ S256x3072.size q) (i : Fin 256) (j : Fin 1024)
    (n : Fin 3072) (hn : n.val = k + j.val) : lg x k inb (ix2 i j) = x (ix2 i n) := by
  unfold lg
  refine congrArg x (funext fun q => Fin.ext ?_)
  match q with
  | ⟨0, _⟩ => show 0 + 1 * i.val = i.val; omega
  | ⟨1, _⟩ => show k + 1 * j.val = n.val; omega

/-- What a grid point leaves in the block it writes back. -/
theorem out_entry (t : Fin cfg0.N) (r : Fin 256) (d : Fin 1024) : outb m c t (ix2 r d) = out m c (row t r) d := by
  have z2 : (![0, 0] : Fin 2 → ℕ) = fun _ => 0 := by funext a; match a with | ⟨0, _⟩ => rfl | ⟨1, _⟩ => rfl
  have e : outb m c t = k0_pay1 (b0 m c t) (k0_pay10 (joined (b4 m c t) (lw (b6 m c t) 0 inb_S8x256x256_S1x256x256_0_0_0) (lw (b6 m c t) 1 inb_S8x256x256_S1x256x256_1_0_0) (lw (b6 m c t) 2 inb_S8x256x256_S1x256x256_2_0_0)
      (lw (b6 m c t) 3 inb_S8x256x256_S1x256x256_3_0_0) (lw (b6 m c t) 4 inb_S8x256x256_S1x256x256_4_0_0) (lw (b6 m c t) 5 inb_S8x256x256_S1x256x256_5_0_0) (lw (b6 m c t) 6 inb_S8x256x256_S1x256x256_6_0_0) (lw (b6 m c t) 7 inb_S8x256x256_S1x256x256_7_0_0)) (b7 m c t) (b3 m c t) (b1 m c t) (b2 m c t)
      (lb (b8 m c t) 0 inb_S3x512x1024_S1x512x1024_0_0_0) (lg (b5 m c t) 0 inb_S256x3072_S256x1024_0_0) (lb (b8 m c t) 1 inb_S3x512x1024_S1x512x1024_1_0_0) (lg (b5 m c t) 1024 inb_S256x3072_S256x1024_0_1024) (lb (b8 m c t) 2 inb_S3x512x1024_S1x512x1024_2_0_0) (lg (b5 m c t) 2048 inb_S256x3072_S256x1024_0_2048)) (k0_pay11 (b9 m c t)) := by
    unfold outb out0_10 joined lw lb lg
    generalize b0 m c t = x0
    generalize b1 m c t = x1
    generalize b2 m c t = x2
    generalize b3 m c t = x3
    generalize b4 m c t = x4
    generalize b5 m c t = x5
    generalize b6 m c t = x6
    generalize b7 m c t = x7
    generalize b8 m c t = x8
    generalize b9 m c t = x9
    rw [View.canon_unit_zero z2]
    simp only [View.ld_unit_zero (S := S256x1024) z2, View.ld_unit_zero (S := S256x512) z2, View.ld_unit_zero (S := S1024x1024) z2]
    rfl
  rw [e, total_apply]
  unfold out total
  refine congrArg₂ (· + ·) (b0_apply m c t r d) (Finset.sum_congr rfl fun k _ => ?_)
  refine congrArg₂ (· * ·) ?_ ((b9_apply m c t k d).trans (ho_apply m c k d))
  rw [mixed_apply]
  unfold mixed
  refine congrArg₂ (· + ·) (congrArg₂ (· + ·) (congrArg₂ (· * ·) (Finset.sum_congr rfl fun w _ => congrArg₂ (· * ·) ?_ ?_) ?_)
    (congrArg₂ (· * ·) (Finset.sum_congr rfl fun w _ => congrArg₂ (· * ·) (congrArg₂ (· * ·) ?_ ?_) ?_) ?_))
    (congrArg₂ (· * ·) (Finset.sum_congr rfl fun w _ => congrArg₂ (· * ·) ?_ ?_) ?_)
  · exact b1_apply m c t r w
  · exact (lb_apply (b8 m c t) 0 _ w k).trans ((b8_apply m c t 0 w k).trans (hbr_apply m c 0 w k))
  · exact (lg_apply (b5 m c t) 0 _ r k ⟨k.val, by omega⟩ (Nat.zero_add _).symm).trans (b5_apply m c t r _)
  · exact b3_apply m c t r w
  · refine Eq.trans ?_ (spatial_eq m c t r w)
    refine congrArg (· + b7 m c t (ix2 r w)) ?_
    exact joined_apply (b4 m c t) _ _ _ _ _ _ _ _ (fun g r s => b6 m c t (ix3 g r s))
      (fun i j => lw_apply (b6 m c t) 0 _ i j) (fun i j => lw_apply (b6 m c t) 1 _ i j)
      (fun i j => lw_apply (b6 m c t) 2 _ i j) (fun i j => lw_apply (b6 m c t) 3 _ i j)
      (fun i j => lw_apply (b6 m c t) 4 _ i j) (fun i j => lw_apply (b6 m c t) 5 _ i j)
      (fun i j => lw_apply (b6 m c t) 6 _ i j) (fun i j => lw_apply (b6 m c t) 7 _ i j) r w
  · exact (lb_apply (b8 m c t) 1 _ w k).trans ((b8_apply m c t 1 w k).trans (hbr_apply m c 1 w k))
  · exact (lg_apply (b5 m c t) 1024 _ r k ⟨1024 + k.val, by omega⟩ rfl).trans (b5_apply m c t r _)
  · exact b2_apply m c t r w
  · exact (lb_apply (b8 m c t) 2 _ w k).trans ((b8_apply m c t 2 w k).trans (hbr_apply m c 2 w k))
  · exact (lg_apply (b5 m c t) 2048 _ r k ⟨2048 + k.val, by omega⟩ rfl).trans (b5_apply m c t r _)

/-- The array after the call. -/
theorem arr_value (G : FVec Ideal S16384x1024 .f32) (hG : ∀ (t : Fin 16384) (d : Fin 1024), G (ix2 t d) = out m c t d) :
    (dats (F := Ideal) m 0 c).arrAt 10 cfg0.N = G := by
  refine (dats (F := Ideal) m 0 c).arrAt_eq_of_covers 10 _ (by decide +kernel) fun t hf y => ?_
  rw [after_eq]
  have hy0 : (y 0).val < 256 := (y 0).isLt
  have hy1 : (y 1).val < 1024 := (y 1).isLt
  have key := out_entry m c t ⟨(y 0).val, hy0⟩ ⟨(y 1).val, hy1⟩
  rw [← hG] at key
  generalize outb m c t = B at key ⊢
  refine Eq.trans ?_ (key.trans (congrArg G (funext fun a => Fin.ext ?_)))
  · refine congrArg B (funext fun a => Fin.ext ?_)
    match a with
    | ⟨0, _⟩ => rfl
    | ⟨1, _⟩ => rfl
  · refine Eq.trans ?_ (Pipeline.Window.rect_emb_val (cfg0.win 10) t y a).symm
    rw [show (cfg0.win 10).index t = _ from (idx_rows t).2.2.2.2.2.2.2]
    match a with
    | ⟨0, _⟩ => show 256 * t.val + (y 0).val = t.val * 256 + (y 0).val; omega
    | ⟨1, _⟩ => show (y 1).val = 0 * 1024 + (y 1).val; omega

end Cert.KernelMixIdeal.Value

end
-- ==== Proof.Mix.Reference.lean ====
/- What the mix's reference computes, entry by entry. -/
module

public import proofs.«01_k».proof.Proof.Gen.ReferenceMixIdeal.Read
public import proofs.«01_k».proof.Proof.Mix.Kernel

@[expose] public section

set_option maxRecDepth 16384
set_option maxHeartbeats 400000

noncomputable section

namespace Cert.ReferenceMixIdeal.Mix

open Cert.ReferenceMixIdeal Cert.ReferenceMixIdeal.Gen Cert.ReferenceMixIdeal.Read Cert.Mix
open Idealize.ShloMosaic Idealize.ShloMosaic.TcCoe Finset

theorem zero_bits : (FloatOps.ofBits (F := Ideal) .f32 0x00000000#32 : EReal) = 0 := by
  show Ideal.ofBits .f32 0x00000000#32 = 0
  simp [Ideal.ofBits, Ideal.ieee, -EReal.coe_mul]

variable (x0 : FVec Ideal S16384x1024 .f32) (x1 x2 : FVec Ideal S16384x512 .f32) (x3 : FVec Ideal S16384x512 .bf16) (x4 : FVec Ideal S16384x512 .f32)
  (x5 : FVec Ideal S16384x3072 .f32) (x6 : FVec Ideal S8x128x128 .f32) (x7 : FVec Ideal S8x128 .f32) (x8 : FVec Ideal S3x512x1024 .f32) (x9 : FVec Ideal S1024x1024 .f32)

/-! ## The spatial gate -/

/-- The gate's operand by groups of rows and of columns. -/
theorem v0_at (q p : Fin 128) (g : Fin 8) (e : Fin 64) :
    val_main_v0 (F := Ideal) x4 (ix4 q p g e) = x4 (ix2 ⟨128 * q.val + p.val, by omega⟩ ⟨64 * g.val + e.val, by omega⟩) := by
  rw [val_main_v0_apply]
  refine congrArg x4 (funext fun a => Fin.ext ?_)
  match a with
  | ⟨0, _⟩ => show (((q.val * 128 + p.val) * 8 + g.val) * 64 + e.val) / 512 = 128 * q.val + p.val; omega
  | ⟨1, _⟩ => show (((q.val * 128 + p.val) * 8 + g.val) * 64 + e.val) % 512 = 64 * g.val + e.val; omega

/-- The causal weights. -/
theorem v1_at (g : Fin 8) (p s : Fin 128) : val_main_v1 (F := Ideal) x6 (ix3 g p s) = if s.val ≤ p.val then x6 (ix3 g p s) else 0 := by
  have hp := p.isLt
  have hs := s.isLt
  have e5 : val_main_call0_v5 (F := Ideal) (ix3 g p s) = BitVec.ofBool (decide (s.val ≤ p.val)) := by
    rw [val_main_call0_v5_apply, val_main_call0_v4_apply, val_main_call0_v2_apply, val_main_call0_v0_apply, val_main_call0_v1_apply, val_main_call0_c_apply, val_main_call0_v3_apply]
    have ea : IntOp.addi (BitVec.ofNat 32 p.val) 0#32 = BitVec.ofNat 32 p.val := BitVec.add_zero _
    show IntOp.cmpi .sge (IntOp.addi (BitVec.ofNat 32 p.val) 0#32) (BitVec.ofNat 32 s.val) = _
    rw [ea]
    exact WordCmp.cmpi_sge_ofNat (by omega) (by omega)
  rw [val_main_v1_apply, e5, WordCmp.select_ofBool, val_main_call0_v6_apply, val_main_call0_cst_apply, zero_bits]
  simp only [decide_eq_true_eq]

/-- The gate's product within a group of rows. -/
theorem v3_at (q p : Fin 128) (g : Fin 8) (e : Fin 64) :
    val_main_v3 (F := Ideal) x4 x6 (ix4 q p g e)
      = ∑ s : Fin 128, (if s.val ≤ p.val then x6 (ix3 g p s) else 0) * x4 (ix2 ⟨128 * q.val + s.val, by omega⟩ ⟨64 * g.val + e.val, by omega⟩) := by
  rw [val_main_v3_apply, val_main_v2_apply]
  refine sum_congr rfl fun s _ => ?_
  have hl : lidx_main_v2 (idx_main_v3 (ix4 q p g e)) s = ix4 q s g e := funext fun a => match a with | ⟨0, _⟩ => rfl | ⟨1, _⟩ => rfl | ⟨2, _⟩ => rfl | ⟨3, _⟩ => rfl
  have hr : ridx_main_v2 (idx_main_v3 (ix4 q p g e)) s = ix3 g p s := funext fun a => match a with | ⟨0, _⟩ => rfl | ⟨1, _⟩ => rfl | ⟨2, _⟩ => rfl
  rw [hl, hr, v0_at, v1_at]
  exact mul_comm _ _

/-- The gate's bias. -/
theorem v6_at (q p : Fin 128) (g : Fin 8) (e : Fin 64) : val_main_v6 (F := Ideal) x7 (ix4 q p g e) = x7 (ix2 g p) := by
  rw [val_main_v6_apply, val_main_v5_apply, val_main_v4_apply]
  refine congrArg x7 (funext fun a => Fin.ext ?_)
  match a with
  | ⟨0, _⟩ => rfl
  | ⟨1, _⟩ => rfl

/-- The gate. -/
theorem v9_at (t : Fin 16384) (c : Fin 512) :
    val_main_v9 (F := Ideal) x4 x6 x7 (ix2 t c) = spatial (fun t w => x4 (ix2 t w)) (fun g r s => x6 (ix3 g r s)) (fun g r => x7 (ix2 g r)) t c := by
  have ht := t.isLt
  have hc := c.isLt
  have hi : idx_main_v9 (ix2 t c) = ix4 (⟨t.val / 128, by omega⟩ : Fin 128) (⟨t.val % 128, by omega⟩ : Fin 128) (⟨c.val / 64, by omega⟩ : Fin 8) (⟨c.val % 64, by omega⟩ : Fin 64) := by
    refine funext fun a => Fin.ext ?_
    match a with
    | ⟨0, _⟩ => show (t.val * 512 + c.val) / 65536 = t.val / 128; omega
    | ⟨1, _⟩ => show (t.val * 512 + c.val) / 512 % 128 = t.val % 128; omega
    | ⟨2, _⟩ => show (t.val * 512 + c.val) / 64 % 8 = c.val / 64; omega
    | ⟨3, _⟩ => show (t.val * 512 + c.val) % 64 = c.val % 64; omega
  rw [val_main_v9_apply, hi, val_main_v7_apply, v3_at, v6_at]
  unfold spatial
  refine congrArg₂ (fun a b : EReal => a + b) (sum_congr rfl fun s _ => congrArg₂ (· * ·) rfl (congrArg x4 (funext fun a => Fin.ext ?_))) rfl
  match a with
  | ⟨0, _⟩ => rfl
  | ⟨1, _⟩ => show 64 * (c.val / 64) + c.val % 64 = c.val; omega

/-! ## The branches -/

/-- A branch's operand. -/
def branch (l : Fin 3) (t : Fin 16384) (w : Fin 512) : EReal :=
  match l with
  | ⟨0, _⟩ => x1 (ix2 t w)
  | ⟨1, _⟩ => x3 (ix2 t w) * spatial (fun t w => x4 (ix2 t w)) (fun g r s => x6 (ix3 g r s)) (fun g r => x7 (ix2 g r)) t w
  | ⟨2, _⟩ => x2 (ix2 t w)

theorem v11_at (t : Fin 16384) (w : Fin 512) : val_main_v11 (F := Ideal) x1 (ix3 t 0 w) = x1 (ix2 t w) := by
  rw [val_main_v11_apply]
  exact congrArg x1 (funext fun a => match a with | ⟨0, _⟩ => rfl | ⟨1, _⟩ => rfl)

theorem v13_at (t : Fin 16384) (w : Fin 512) : val_main_v13 (F := Ideal) x2 (ix3 t 0 w) = x2 (ix2 t w) := by
  rw [val_main_v13_apply]
  exact congrArg x2 (funext fun a => match a with | ⟨0, _⟩ => rfl | ⟨1, _⟩ => rfl)

theorem v12_at (t : Fin 16384) (w : Fin 512) : val_main_v12 (F := Ideal) x3 x4 x6 x7 (ix3 t 0 w)
    = x3 (ix2 t w) * spatial (fun t w => x4 (ix2 t w)) (fun g r s => x6 (ix3 g r s)) (fun g r => x7 (ix2 g r)) t w := by
  have hi : idx_main_v12 (ix3 t 0 w) = ix2 t w := funext fun a => match a with | ⟨0, _⟩ => rfl | ⟨1, _⟩ => rfl
  rw [val_main_v12_apply, hi, val_main_v10_apply, v9_at, val_main_v8_apply]
  rfl

/-- The three branches joined, read at one of them. -/
theorem join_at {α : Type} (y : Fin 3 → S16384x1x512.Idx → α) (t : Fin 16384) (l : Fin 3) (w : Fin 512) :
    concatenate S16384x3x512 1 [⟨S16384x1x512, y 0⟩, ⟨S16384x1x512, y 1⟩, ⟨S16384x1x512, y 2⟩] concatenates_S16384x1x512_S16384x1x512_S16384x1x512_S16384x3x512_d1 (ix3 t l w)
      = y l (ix3 t 0 w) :=
  match l with
  | ⟨0, _⟩ => concatenate_apply_piece (t := S16384x3x512) 1 [⟨S16384x1x512, y 0⟩, ⟨S16384x1x512, y 1⟩, ⟨S16384x1x512, y 2⟩] _ (ix3 t 0 w) 0 (by simp) S16384x1x512 (y 0) rfl rfl 0 rfl (ix3 t 0 w)
      (fun b hb => match b with | ⟨0, _⟩ => rfl | ⟨1, _⟩ => absurd rfl hb | ⟨2, _⟩ => rfl) rfl
  | ⟨1, _⟩ => concatenate_apply_piece (t := S16384x3x512) 1 [⟨S16384x1x512, y 0⟩, ⟨S16384x1x512, y 1⟩, ⟨S16384x1x512, y 2⟩] _ (ix3 t 1 w) 1 (by simp) S16384x1x512 (y 1) rfl rfl 1 rfl (ix3 t 0 w)
      (fun b hb => match b with | ⟨0, _⟩ => rfl | ⟨1, _⟩ => absurd rfl hb | ⟨2, _⟩ => rfl) rfl
  | ⟨2, _⟩ => concatenate_apply_piece (t := S16384x3x512) 1 [⟨S16384x1x512, y 0⟩, ⟨S16384x1x512, y 1⟩, ⟨S16384x1x512, y 2⟩] _ (ix3 t 2 w) 2 (by simp) S16384x1x512 (y 2) rfl rfl 2 rfl (ix3 t 0 w)
      (fun b hb => match b with | ⟨0, _⟩ => rfl | ⟨1, _⟩ => absurd rfl hb | ⟨2, _⟩ => rfl) rfl

theorem v14_at (t : Fin 16384) (l : Fin 3) (w : Fin 512) : val_main_v14 (F := Ideal) x1 x2 x3 x4 x6 x7 (ix3 t l w) = branch x1 x2 x3 x4 x6 x7 l t w := by
  unfold val_main_v14
  refine (join_at ![val_main_v11 (F := Ideal) x1, val_main_v12 (F := Ideal) x3 x4 x6 x7, val_main_v13 (F := Ideal) x2] t l w).trans ?_
  match l with
  | ⟨0, _⟩ => exact v11_at x1 t w
  | ⟨1, _⟩ => exact v12_at x3 x4 x6 x7 t w
  | ⟨2, _⟩ => exact v13_at x2 t w

/-- A branch's projection. -/
theorem v16_at (t : Fin 16384) (l : Fin 3) (k : Fin 1024) :
    val_main_v16 (F := Ideal) x1 x2 x3 x4 x6 x7 x8 (ix3 t l k) = ∑ w : Fin 512, branch x1 x2 x3 x4 x6 x7 l t w * x8 (ix3 l w k) := by
  rw [val_main_v16_apply, val_main_v15_apply]
  refine sum_congr rfl fun w _ => ?_
  have hl : lidx_main_v15 (idx_main_v16 (ix3 t l k)) w = ix3 l w k := funext fun a => match a with | ⟨0, _⟩ => rfl | ⟨1, _⟩ => rfl | ⟨2, _⟩ => rfl
  have hr : ridx_main_v15 (idx_main_v16 (ix3 t l k)) w = ix3 t l w := funext fun a => match a with | ⟨0, _⟩ => rfl | ⟨1, _⟩ => rfl | ⟨2, _⟩ => rfl
  rw [hl, hr, v14_at]
  exact mul_comm _ _

/-- A branch's gates. -/
theorem v17_at (t : Fin 16384) (l : Fin 3) (k : Fin 1024) (n : Fin 3072) (hn : n.val = 1024 * l.val + k.val) :
    val_main_v17 (F := Ideal) x5 (ix3 t l k) = x5 (ix2 t n) := by
  have hl := l.isLt
  have hk := k.isLt
  rw [val_main_v17_apply]
  refine congrArg x5 (funext fun a => Fin.ext ?_)
  match a with
  | ⟨0, _⟩ => show ((t.val * 3 + l.val) * 1024 + k.val) / 3072 = t.val; omega
  | ⟨1, _⟩ => show ((t.val * 3 + l.val) * 1024 + k.val) % 3072 = n.val; omega

/-- The gated sum. -/
theorem v18_at (t : Fin 16384) (k : Fin 1024) :
    val_main_v18 (F := Ideal) x1 x2 x3 x4 x5 x6 x7 x8 (ix2 t k)
      = mixed (fun t w => x1 (ix2 t w)) (fun t w => x2 (ix2 t w)) (fun t w => x3 (ix2 t w))
          (spatial (fun t w => x4 (ix2 t w)) (fun g r s => x6 (ix3 g r s)) (fun g r => x7 (ix2 g r)))
          (fun t k => x5 (ix2 t k)) (fun l w k => x8 (ix3 l w k)) t k := by
  have hl : ∀ l : Fin 3, lidx_main_v18 (ix2 t k) l = ix3 t l k := fun l => funext fun a => match a with | ⟨0, _⟩ => rfl | ⟨1, _⟩ => rfl | ⟨2, _⟩ => rfl
  have hr : ∀ l : Fin 3, ridx_main_v18 (ix2 t k) l = ix3 t l k := fun l => funext fun a => match a with | ⟨0, _⟩ => rfl | ⟨1, _⟩ => rfl | ⟨2, _⟩ => rfl
  rw [val_main_v18_apply, Fin.sum_univ_three]
  simp only [hl, hr, v16_at]
  rw [v17_at x5 t 0 k ⟨k.val, by omega⟩ (by show k.val = 1024 * 0 + k.val; omega), v17_at x5 t 1 k ⟨1024 + k.val, by omega⟩ rfl, v17_at x5 t 2 k ⟨2048 + k.val, by omega⟩ rfl]
  unfold mixed
  exact congrArg₂ (· + ·) (congrArg₂ (· + ·) (mul_comm _ _) (mul_comm _ _)) (mul_comm _ _)

/-- The result. -/
theorem v20_at (t : Fin 16384) (d : Fin 1024) :
    val_main_v20 (F := Ideal) x0 x1 x2 x3 x4 x5 x6 x7 x8 x9 (ix2 t d)
      = total (fun t d => x0 (ix2 t d))
          (mixed (fun t w => x1 (ix2 t w)) (fun t w => x2 (ix2 t w)) (fun t w => x3 (ix2 t w))
            (spatial (fun t w => x4 (ix2 t w)) (fun g r s => x6 (ix3 g r s)) (fun g r => x7 (ix2 g r)))
            (fun t k => x5 (ix2 t k)) (fun l w k => x8 (ix3 l w k)))
          (fun k d => x9 (ix2 k d)) t d := by
  rw [val_main_v20_apply, val_main_v19_apply]
  unfold total
  refine congrArg (fun b : EReal => x0 (ix2 t d) + b) (sum_congr rfl fun k _ => ?_)
  have hl : lidx_main_v19 (ix2 t d) k = ix2 t k := funext fun a => match a with | ⟨0, _⟩ => rfl | ⟨1, _⟩ => rfl
  have hr : ridx_main_v19 (ix2 t d) k = ix2 k d := funext fun a => match a with | ⟨0, _⟩ => rfl | ⟨1, _⟩ => rfl
  rw [hl, hr, v18_at]

end Cert.ReferenceMixIdeal.Mix

end
-- ==== Proof.Mix.Agree.lean ====
/- The mix: what the kernel leaves is what the reference computes. -/
module

public import proofs.«01_k».proof.Proof.Mix.Kernel
public import proofs.«01_k».proof.Proof.Mix.Reference

@[expose] public section

set_option maxRecDepth 16384
set_option maxHeartbeats 400000

noncomputable section

namespace Cert.Mix

open Cert.KernelMixIdeal Cert.KernelMixIdeal.Gen Cert.KernelMixIdeal.Value
open Idealize.ShloMosaic Idealize.ShloMosaic.TcCoe

variable (m : (ℓ : Loc nD τ sig) → Buf (Elt Ideal) ℓ) (c : Dev nD)

/-- The array after the call is the reference's result. -/
theorem agree_mix : (dats (F := Ideal) m 0 c).arrAt 10 cfg0.N
    = Cert.ReferenceMixIdeal.Read.val_main_v20 (F := Ideal) (H m c) (Osb m c) (Omem m c) (U m c) (Vn m c) (Gt m c) (Sw m c) (Sb m c) (Wb m c) (Wo m c) :=
  arr_value m c _ fun t d => Cert.ReferenceMixIdeal.Mix.v20_at (H m c) (Osb m c) (Omem m c) (U m c) (Vn m c) (Gt m c) (Sw m c) (Sb m c) (Wb m c) (Wo m c) t d

end Cert.Mix

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelMemory
public import proofs.«01_k».proof.Proof.Gen.KernelMemory.Frame
public import proofs.«01_k».proof.Proof.Gen.KernelMemoryIdeal
public import proofs.«01_k».proof.Proof.Gen.KernelMemoryIdeal.Frame
public import proofs.«01_k».proof.Proof.Gen.ReferenceMemoryIdeal
public import proofs.«01_k».proof.Proof.Gen.ReferenceMemoryIdeal.Run
public import proofs.«01_k».proof.Proof.Gen.ReferenceMemoryIdeal.Read
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Exact.Frame
public import proofs.«01_k».proof.Proof.Ideal.Frame
public import proofs.«01_k».proof.Proof.Ideal.Blocks
public import proofs.«01_k».proof.Proof.Ref.Agree
public import proofs.«01_k».proof.Proof.Memory.Agree
public import proofs.«01_k».proof.Proof.Mix.Agree
public import Idealize.ShloMosaic.Adequacy
public import Idealize.ShloMosaic.Init

@[expose] public section

noncomputable section

namespace Cert.Proof

open Idealize.ShloMosaic Idealize.SL.Sem Cert.Kernel

/-- The idealized reference runs, leaves the arguments as they were and declares no semaphore. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The idealized kernel and the idealized reference end with equal results. -/
theorem algebraic : Cert.algebraic_KernelIdeal_ReferenceIdeal := by
  intro m g m' g' _ hag
  refine ⟨fun c => (Cert.KernelIdeal.Attn.dats (F := Ideal) m 0 c).arrAt 3 Cert.KernelIdeal.cfg0.N, Cert.KernelIdeal.Attn.run_blocks m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hag c
  rw [Cert.ReferenceIdeal.Read.val_main_v26_eq]
  refine Eq.trans ?_ (Cert.Attn.agree m c).symm
  unfold Cert.KernelIdeal.Attn.Q Cert.KernelIdeal.Attn.K Cert.KernelIdeal.Attn.Vv Cert.KernelIdeal.Attn.Bs
  exact congr (congr (congr (congrArg _ h0) h1) h2) h3

/-- The memory's idealized reference runs, leaves the arguments as they were and declares no semaphore. -/
theorem frame_reference_memory : Cert.quiescent_ReferenceMemoryIdeal := fun m g _ =>
  (θ_run Cert.ReferenceMemoryIdeal.defs _ _).mono (fun r h => ⟨fun c => (h c).2.2, Idealize.ShloMosaic.sem_eq_zero_of_no_sems (by decide) r.2⟩)
    (Cert.ReferenceMemoryIdeal.Value.run (F := Ideal) m g)

/-- The memory's idealized kernel and idealized reference end with equal keys and equal values. -/
theorem algebraic_memory : Cert.algebraic_KernelMemoryIdeal_ReferenceMemoryIdeal := by
  intro m g m' g' _ hag
  refine ⟨_, _, Cert.Memory.run_memory m g, ?_⟩
  refine (θ_run Cert.ReferenceMemoryIdeal.defs _ _).mono (fun r h c => ⟨(h c).1.trans ?_, (h c).2.1.trans ?_, (h c).2.2⟩) (Cert.ReferenceMemoryIdeal.Value.run (F := Ideal) m' g')
  · obtain ⟨h0, h1, h2⟩ := hag c
    rw [Cert.ReferenceMemoryIdeal.Read.val_main_v46_eq]
    refine Eq.trans ?_ (Cert.Memory.agree_keys m c).symm
    unfold Cert.KernelMemoryIdeal.Value.M Cert.KernelMemoryIdeal.Value.Gn Cert.KernelMemoryIdeal.Value.Wt
    exact congr (congr (congrArg _ h0) h1) h2
  · obtain ⟨h0, h1, h2⟩ := hag c
    rw [Cert.ReferenceMemoryIdeal.Read.val_main_v49_eq]
    refine Eq.trans ?_ (Cert.Memory.agree_values m c).symm
    unfold Cert.KernelMemoryIdeal.Value.M Cert.KernelMemoryIdeal.Value.Gn Cert.KernelMemoryIdeal.Value.Wt
    exact congr (congr (congrArg _ h0) h1) h2

/-- The mix's idealized reference runs, leaves the arguments as they were and declares no semaphore. -/
theorem frame_reference_mix : Cert.quiescent_ReferenceMixIdeal := fun m g _ =>
  (θ_run Cert.ReferenceMixIdeal.defs _ _).mono (fun r h => ⟨fun c => (h c).2, Idealize.ShloMosaic.sem_eq_zero_of_no_sems (by decide) r.2⟩)
    (Cert.ReferenceMixIdeal.Value.run (F := Ideal) m g)

/-- The mix's idealized kernel and idealized reference end with equal results. -/
theorem algebraic_mix : Cert.algebraic_KernelMixIdeal_ReferenceMixIdeal := by
  intro m g m' g' _ hag
  refine ⟨fun c => (Cert.KernelMixIdeal.Gen.dats (F := Ideal) m 0 c).arrAt 10 Cert.KernelMixIdeal.cfg0.N, Cert.KernelMixIdeal.Value.run_blocks m g, ?_⟩
  refine (θ_run Cert.ReferenceMixIdeal.defs _ _).mono (fun r h c => ⟨(h c).1.trans ?_, (h c).2⟩) (Cert.ReferenceMixIdeal.Value.run (F := Ideal) m' g')
  obtain ⟨h0, h1, h2, h3, h4, h5, h6, h7, h8, h9⟩ := hag c
  refine (Cert.ReferenceMixIdeal.Read.val_main_v20_eq (F := Ideal) _ _ _ _ _ _ _ _ _ _).trans ?_
  refine Eq.trans ?_ (Cert.Mix.agree_mix m c).symm
  unfold Cert.KernelMixIdeal.Value.H Cert.KernelMixIdeal.Value.Osb Cert.KernelMixIdeal.Value.Omem Cert.KernelMixIdeal.Value.U Cert.KernelMixIdeal.Value.Vn
    Cert.KernelMixIdeal.Value.Gt Cert.KernelMixIdeal.Value.Sw Cert.KernelMixIdeal.Value.Sb Cert.KernelMixIdeal.Value.Wb Cert.KernelMixIdeal.Value.Wo
  exact congr (congr (congr (congr (congr (congr (congr (congr (congr (congrArg _ h0) h1) h2) h3) h4) h5) h6) h7) h8) h9

/-- The kernel's three calls, their idealizations and the idealized references run and leave the arguments as they were; the named
    constants are what they are named; each idealized kernel's results are its idealized reference's. -/
theorem claim : Cert.Claim :=
  ⟨Cert.Kernel.Gen.facts, Cert.KernelIdeal.Gen.facts, Cert.ReferenceIdeal.Gen.facts,
    Cert.KernelMemory.Gen.facts, Cert.KernelMemoryIdeal.Gen.facts, Cert.ReferenceMemoryIdeal.Gen.facts,
    Cert.KernelMix.Gen.facts, Cert.KernelMixIdeal.Gen.facts, Cert.ReferenceMixIdeal.Gen.facts,
    fun m g _ => Cert.Kernel.Attn.frame m g, fun m g _ => Cert.KernelIdeal.Attn.frame m g,
    frame_reference,
    fun m g _ => Cert.KernelMemory.Gen.frame m g, fun m g _ => Cert.KernelMemoryIdeal.Gen.frame m g,
    frame_reference_memory,
    fun m g _ => Cert.KernelMix.Gen.frame m g, fun m g _ => Cert.KernelMixIdeal.Gen.frame m g,
    frame_reference_mix,
    ⟨IdealRules.named_const.statement Cert.KernelIdeal.κ "no_limit" .f32 0x42FC0000#32 ⊤ rfl,
      IdealRules.named_const.statement Cert.KernelIdeal.κ "log2e" .f32 0x3FB8AA3B#32 (((Real.log 2)⁻¹ : ℝ) : EReal) rfl⟩,
    algebraic,
    trivial,
    algebraic_memory,
    trivial,
    algebraic_mix⟩

end Cert.Proof

end
